-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_arguments [hPre_finite_arguments : Cert.Pre_finite_arguments.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_arguments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_arguments [hPre_finite_arguments : Cert.Pre_finite_arguments.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_arguments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_arguments [hKernel2Ideal : Cert.Kernel2Ideal.Facts] [hPre_finite_arguments : Cert.Pre_finite_arguments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_arguments m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_arguments [hReference2Ideal : Cert.Reference2Ideal.Facts] [hPre_finite_arguments : Cert.Pre_finite_arguments.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_arguments m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_arguments [hKernel2Ideal : Cert.Kernel2Ideal.Facts] [hReference2Ideal : Cert.Reference2Ideal.Facts] [hPre_finite_arguments : Cert.Pre_finite_arguments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_arguments m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v63_0)) (v1 : (c : Dev Cert.Kernel2Ideal.nD) → Buf (Elt Ideal) ((c.tc : Thread Cert.Kernel2Ideal.nD Cert.Kernel2Ideal.τ).loc Cert.Kernel2Ideal.main_v63_1)) (v2 : (c : Dev Cert.Kernel2Ideal.nD) → Buf (Elt Ideal) ((c.tc : Thread Cert.Kernel2Ideal.nD Cert.Kernel2Ideal.τ).loc Cert.Kernel2Ideal.main_v63_2)) (v3 : (c : Dev Cert.Kernel2Ideal.nD) → Buf (Elt Ideal) ((c.tc : Thread Cert.Kernel2Ideal.nD Cert.Kernel2Ideal.τ).loc Cert.Kernel2Ideal.main_v63_3)) (v4 : (c : Dev Cert.Kernel2Ideal.nD) → Buf (Elt Ideal) ((c.tc : Thread Cert.Kernel2Ideal.nD Cert.Kernel2Ideal.τ).loc Cert.Kernel2Ideal.main_v63_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v63_0) = v0 c
          ∧ r.2.mem ((c.tc : Thread Cert.Kernel2Ideal.nD Cert.Kernel2Ideal.τ).loc Cert.Kernel2Ideal.main_v63_1) = v1 c
          ∧ r.2.mem ((c.tc : Thread Cert.Kernel2Ideal.nD Cert.Kernel2Ideal.τ).loc Cert.Kernel2Ideal.main_v63_2) = v2 c
          ∧ r.2.mem ((c.tc : Thread Cert.Kernel2Ideal.nD Cert.Kernel2Ideal.τ).loc Cert.Kernel2Ideal.main_v63_3) = v3 c
          ∧ r.2.mem ((c.tc : Thread Cert.Kernel2Ideal.nD Cert.Kernel2Ideal.τ).loc Cert.Kernel2Ideal.main_v63_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v89) = v0 c
          ∧ r.2.mem ((c.tc : Thread Cert.Reference2Ideal.nD Cert.Reference2Ideal.τ).loc Cert.Reference2Ideal.main_v91) = v1 c
          ∧ r.2.mem ((c.tc : Thread Cert.Reference2Ideal.nD Cert.Reference2Ideal.τ).loc Cert.Reference2Ideal.main_v93) = v2 c
          ∧ r.2.mem ((c.tc : Thread Cert.Reference2Ideal.nD Cert.Reference2Ideal.τ).loc Cert.Reference2Ideal.main_v94) = v3 c
          ∧ r.2.mem ((c.tc : Thread Cert.Reference2Ideal.nD Cert.Reference2Ideal.τ).loc Cert.Reference2Ideal.main_v95) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_scores : Cert.Pre_finite_scores.Facts) (hPre_finite_arguments : Cert.Pre_finite_arguments.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_arguments (hKernel2Ideal := hKernel2Ideal) (hPre_finite_arguments := hPre_finite_arguments)
    ∧ quiescent_Reference2Ideal (hReference2Ideal := hReference2Ideal)
    ∧ quiescent_Reference2Ideal_pre_finite_arguments (hReference2Ideal := hReference2Ideal) (hPre_finite_arguments := hPre_finite_arguments)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_arguments (hKernel2Ideal := hKernel2Ideal) (hReference2Ideal := hReference2Ideal) (hPre_finite_arguments := hPre_finite_arguments)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_arguments.lean ====
abbrev S4096x1536 : Shape := ⟨2, ![4096, 1536]⟩
abbrev S2x8x2048 : Shape := ⟨3, ![2, 8, 2048]⟩
abbrev S4096x512 : Shape := ⟨2, ![4096, 512]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S2x8x2048 : S_.BroadcastsInDim S2x8x2048 (![] : Fin 0 → Fin S2x8x2048.rank)
  reducesTo_S2x8x2048_S_d0_1_2 : S2x8x2048.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x1536 .bf16) (main_arg1 : FVec F S2x8x2048 .f32) (main_arg2 : FVec F S4096x512 .bf16) : IVec S_ 1 :=
  let main_v0 : FVec F S4096x1536 .bf16 := Host.absf main_arg0
  let main_cst : FVec F S_ .bf16 := constant S_ .bf16 0x7F80#16
  let main_v1 : FVec F S4096x1536 .bf16 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S2x8x2048 .f32 := Host.absf main_arg1
  let main_cst_0 : FVec F S_ .f32 := constant S_ .f32 0x7F800000#32
  let main_v5 : FVec F S2x8x2048 .f32 := broadcastInDim S2x8x2048 ![] bcast_S_S2x8x2048 main_cst_0
  let main_v6 : IVec S2x8x2048 1 := cmpf .olt main_v4 main_v5
  let main_c_1 : IVec S_ 1 := constantI S_ 1 1#1
  let main_v7 : IVec S_ 1 := (fun x v => Host.reduce IntOp.andi x v reducesTo_S2x8x2048_S_d0_1_2 h_S_) main_v6 main_c_1
  let main_v8 : IVec S_ 1 := andi main_v3 main_v7
  let main_v9 : FVec F S4096x512 .bf16 := Host.absf main_arg2
  let main_cst_2 : FVec F S_ .bf16 := constant S_ .bf16 0x7F80#16
  let main_v10 : FVec F S4096x512 .bf16 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Pre_finite_scores.lean ====
abbrev S4096x512 : Shape := ⟨2, ![4096, 512]⟩
abbrev S512x1024 : Shape := ⟨2, ![512, 1024]⟩
abbrev S_ : Shape := ⟨0, ![]⟩
abbrev S512x512 : Shape := ⟨2, ![512, 512]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  slices_S512x1024_S512x512_0_0 : S512x1024.Slices ![0, 0] S512x512
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4096x512 .bf16) (main_arg1 : FVec F S512x1024 .bf16) (main_arg2 : FVec F S4096x512 .bf16) : IVec S_ 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x512 .bf16 := (extractStridedSlice S512x512 ![0, 0] · slices_S512x1024_S512x512_0_0) main_arg1
  let main_v5 : FVec F S512x512 .bf16 := Host.absf main_v4
  let main_cst_0 : FVec F S_ .bf16 := constant S_ .bf16 0x7F80#16
  let main_v6 : FVec F S512x512 .bf16 := broadcastInDim S512x512 ![] bcast_S_S512x512 main_cst_0
  let main_v7 : IVec S512x512 1 := cmpf .olt main_v5 main_v6
  let main_c_1 : IVec S_ 1 := constantI S_ 1 1#1
  let main_v8 : IVec S_ 1 := (fun x v => Host.reduce IntOp.andi x v reducesTo_S512x512_S_d0_1 h_S_) main_v7 main_c_1
  let main_v9 : IVec S_ 1 := andi main_v3 main_v8
  main_v9
-- ==== Kernel.lean ====
abbrev S4096x512 : Shape := ⟨2, ![4096, 512]⟩
abbrev S512x1024 : Shape := ⟨2, ![512, 1024]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .bf16⟩
  | .hbm, ⟨3, _⟩ => ⟨S4096x512, .bf16⟩
  | .hbm, ⟨4, _⟩ => ⟨S512x512, .f32⟩
  | .hbm, ⟨5, _⟩ => ⟨S512x512, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4096x512 : Shape := ⟨2, ![4096, 512]⟩
abbrev S512x1024 : Shape := ⟨2, ![512, 1024]⟩
abbrev S2x2048x512 : Shape := ⟨3, ![2, 2048, 512]⟩
abbrev S2x256x1024 : Shape := ⟨3, ![2, 256, 1024]⟩
abbrev S2x256x512 : Shape := ⟨3, ![2, 256, 512]⟩
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩
abbrev S512x512 : Shape := ⟨2, ![512, 512]⟩

abbrev nBuf : Space → Nat
  | .hbm => 95
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .bf16⟩
  | .hbm, ⟨3, _⟩ => ⟨S4096x512, .f32⟩
  | .hbm, ⟨4, _⟩ => ⟨S2x2048x512, .f32⟩
  | .hbm, ⟨5, _⟩ => ⟨S512x1024, .f32⟩
  | .hbm, ⟨6, _⟩ => ⟨S2x256x1024, .f32⟩
  | .hbm, ⟨7, _⟩ => ⟨S4096x512, .f32⟩
  | .hbm, ⟨8, _⟩ => ⟨S2x2048x512, .f32⟩
  | .hbm, ⟨9, _⟩ => ⟨S2x256x512, .f32⟩
  | .hbm, ⟨10, _⟩ => ⟨S2x256x512, .f32⟩
  | .hbm, ⟨11, _⟩ => ⟨S2x2048x4x128, .f32⟩
  | .hbm, ⟨12, _⟩ => ⟨S2x256x4x128, .f32⟩
  | .hbm, ⟨13, _⟩ => ⟨S2x256x4x128, .f32⟩
  | .hbm, ⟨14, _⟩ => ⟨S2x4x2048x256, .f32⟩
  | .hbm, ⟨15, _⟩ => ⟨S_, .f32⟩
  | .hbm, ⟨16, _⟩ => ⟨S2x4x2048x256, .f32⟩
  | .hbm, ⟨17, _⟩ => ⟨S2x4x2048x256, .f32⟩
  | .hbm, ⟨18, _⟩ => ⟨S_, .f32⟩
  | .hbm, ⟨19, _⟩ => ⟨S2x4x2048, .f32⟩
  | .hbm, ⟨20, _⟩ => ⟨S2x4x2048x1, .f32⟩
  | .hbm, ⟨21, _⟩ => ⟨S2x4x2048x256, .f32⟩
  | .hbm, ⟨22, _⟩ => ⟨S2x4x2048x256, .i1⟩
  | .hbm, ⟨23, _⟩ => ⟨S2x4x2048x256, .f32⟩
  | .hbm, ⟨24, _⟩ => ⟨S_, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S2x4x2048, .i1⟩
  | .hbm, ⟨35, _⟩ => ⟨S_, .f32⟩
  | .hbm, ⟨36, _⟩ => ⟨S2x4x2048, .f32⟩
  | .hbm, ⟨37, _⟩ => ⟨S_, .f32⟩
  | .hbm, ⟨38, _⟩ => ⟨S2x4x2048, .f32⟩
  | .hbm, ⟨39, _⟩ => ⟨S_, .f32⟩
  | .hbm, ⟨40, _⟩ => ⟨S2x4x2048, .f32⟩
  | .hbm, ⟨41, _⟩ => ⟨S2x4x2048, .f32⟩
  | .hbm, ⟨42, _⟩ => ⟨S2x4x2048, .f32⟩
  | .hbm, ⟨43, _⟩ => ⟨S2x4x2048x1, .f32⟩
  | .hbm, ⟨44, _⟩ => ⟨S2x4x2048x256, .f32⟩
  | .hbm, ⟨45, _⟩ => ⟨S2x4x2048x256, .f32⟩
  | .hbm, ⟨46, _⟩ => ⟨S2x4x2048x256, .f32⟩
  | .hbm, ⟨47, _⟩ => ⟨S_, .f32⟩
  | .hbm, ⟨48, _⟩ => ⟨S2x4x2048, .f32⟩
  | .hbm, ⟨49, _⟩ => ⟨S2x4x2048x1, .f32⟩
  | .hbm, ⟨50, _⟩ => ⟨S2x4x2048x256, .f32⟩
  | .hbm, ⟨51, _⟩ => ⟨S2x4x2048x256, .f32⟩
  | .hbm, ⟨52, _⟩ => ⟨S2x4x2048x1, .f32⟩
  | .hbm, ⟨53, _⟩ => ⟨S_, .f32⟩
  | .hbm, ⟨54, _⟩ => ⟨S2x4x2048x1, .f32⟩
  | .hbm, ⟨55, _⟩ => ⟨S2x4x2048x1, .f32⟩
  | .hbm, ⟨56, _⟩ => ⟨S2x4x128x2048, .f32⟩
  | .hbm, ⟨57, _⟩ => ⟨S2x2048x4x128, .f32⟩
  | .hbm, ⟨58, _⟩ => ⟨S2x2048x512, .f32⟩
  | .hbm, ⟨59, _⟩ => ⟨S2x2048x4x128, .f32⟩
  | .hbm, ⟨60, _⟩ => ⟨S2x4x128x2048, .f32⟩
  | .hbm, ⟨61, _⟩ => ⟨S2x4x2048x256, .f32⟩
  | .hbm, ⟨62, _⟩ => ⟨S2x4x128x256, .f32⟩
  | .hbm, ⟨63, _⟩ => ⟨S2x256x4x128, .f32⟩
  | .hbm, ⟨64, _⟩ => ⟨S2x4x2048x256, .f32⟩
  | .hbm, ⟨65, _⟩ => ⟨S2x4x2048x256, .f32⟩
  | .hbm, ⟨66, _⟩ => ⟨S2x4x2048x256, .f32⟩
  | .hbm, ⟨67, _⟩ => ⟨S_, .f32⟩
  | .hbm, ⟨68, _⟩ => ⟨S2x4x2048, .f32⟩
  | .hbm, ⟨69, _⟩ => ⟨S2x4x2048x1, .f32⟩
  | .hbm, ⟨70, _⟩ => ⟨S2x4x2048x1, .f32⟩
  | .hbm, ⟨71, _⟩ => ⟨S2x4x2048x256, .f32⟩
  | .hbm, ⟨72, _⟩ => ⟨S2x4x2048x256, .f32⟩
  | .hbm, ⟨73, _⟩ => ⟨S_, .f32⟩
  | .hbm, ⟨74, _⟩ => ⟨S2x4x2048, .f32⟩
  | .hbm, ⟨75, _⟩ => ⟨S2x4x2048x256, .f32⟩
  | .hbm, ⟨76, _⟩ => ⟨S2x4x2048x256, .f32⟩
  | .hbm, ⟨77, _⟩ => ⟨S2x4x2048x256, .f32⟩
  | .hbm, ⟨78, _⟩ => ⟨S_, .f32⟩
  | .hbm, ⟨79, _⟩ => ⟨S2x4x2048x256, .f32⟩
  | .hbm, ⟨80, _⟩ => ⟨S2x4x2048x256, .f32⟩
  | .hbm, ⟨81, _⟩ => ⟨S2x4x256x128, .f32⟩
  | .hbm, ⟨82, _⟩ => ⟨S2x256x4x128, .f32⟩
  | .hbm, ⟨83, _⟩ => ⟨S2x4x2048x128, .f32⟩
  | .hbm, ⟨84, _⟩ => ⟨S2x2048x4x128, .f32⟩
  | .hbm, ⟨85, _⟩ => ⟨S2x256x512, .f32⟩
  | .hbm, ⟨86, _⟩ => ⟨S2x256x512, .f32⟩
  | .hbm, ⟨87, _⟩ => ⟨S2x2048x512, .f32⟩
  | .hbm, ⟨88, _⟩ => ⟨S2x256x1024, .f32⟩
  | .hbm, ⟨89, _⟩ => ⟨S4096x512, .f32⟩
  | .hbm, ⟨90, _⟩ => ⟨S4096x512, .bf16⟩
  | .hbm, ⟨91, _⟩ => ⟨S2x256x512, .f32⟩
  | .hbm, ⟨92, _⟩ => ⟨S512x512, .f32⟩
  | .hbm, ⟨93, _⟩ => ⟨S2x256x512, .f32⟩
  | .hbm, ⟨94, _⟩ => ⟨S512x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩

abbrev nD : Nat := 1
abbrev τ : Topo := Topo.v7x

variable {F : FTy → Type} [FloatOps F]
-- ==== Kernel2.lean ====
abbrev S4096x1536 : Shape := ⟨2, ![4096, 1536]⟩
abbrev S2x8x2048 : Shape := ⟨3, ![2, 8, 2048]⟩
abbrev S4096x512 : Shape := ⟨2, ![4096, 512]⟩
abbrev S2x2048x1536 : Shape := ⟨3, ![2, 2048, 1536]⟩
abbrev S2x2048x512 : Shape := ⟨3, ![2, 2048, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048x1 : Shape := ⟨4, ![2, 8, 2048, 1]⟩
abbrev S2x8x1x2048 : Shape := ⟨4, ![2, 8, 1, 2048]⟩
abbrev S2048x2048 : Shape := ⟨2, ![2048, 2048]⟩
abbrev S2x8x64x2048 : Shape := ⟨4, ![2, 8, 64, 2048]⟩
abbrev S16x4x1x512 : Shape := ⟨4, ![16, 4, 1, 512]⟩
abbrev S16x4x512x1 : Shape := ⟨4, ![16, 4, 512, 1]⟩
abbrev S2048x128 : Shape := ⟨2, ![2048, 128]⟩
abbrev S2x4x1x512 : Shape := ⟨4, ![2, 4, 1, 512]⟩
abbrev S2x4x512x1 : Shape := ⟨4, ![2, 4, 512, 1]⟩
abbrev S512x128 : Shape := ⟨2, ![512, 128]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩
abbrev S512x512 : Shape := ⟨2, ![512, 512]⟩
abbrev S1x1x512x1 : Shape := ⟨4, ![1, 1, 512, 1]⟩

abbrev nBuf : Space → Nat
  | .hbm => 87
  | .vmem => 26
  | .smem => 0
  | _ => 0

abbrev bufTy : (tb : Table) → Fin (tcTables nBuf tb) → BufTy
  | .hbm, ⟨0, _⟩ => ⟨S4096x1536, .bf16⟩
  | .hbm, ⟨1, _⟩ => ⟨S2x8x2048, .f32⟩
  | .hbm, ⟨2, _⟩ => ⟨S4096x512, .bf16⟩
  | .hbm, ⟨3, _⟩ => ⟨S4096x1536, .f32⟩
  | .hbm, ⟨4, _⟩ => ⟨S2x2048x1536, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x8x64, .f32⟩
  | .hbm, ⟨9, _⟩ => ⟨S2x2048x8x64, .f32⟩
  | .hbm, ⟨10, _⟩ => ⟨S2x2048x8x64, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | .hbm, ⟨15, _⟩ => ⟨S2x8x2048x1, .f32⟩
  | .hbm, ⟨16, _⟩ => ⟨S2x8x1x2048, .f32⟩
  | .hbm, ⟨17, _⟩ => ⟨S2x8x2048x2048, .f32⟩
  | .hbm, ⟨18, _⟩ => ⟨S2x8x2048x2048, .f32⟩
  | .hbm, ⟨19, _⟩ => ⟨S2x8x2048x2048, .f32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S2x8x2048x2048, .f32⟩
  | .hbm, ⟨24, _⟩ => ⟨S_, .f32⟩
  | .hbm, ⟨25, _⟩ => ⟨S_, .f32⟩
  | .hbm, ⟨26, _⟩ => ⟨S2x8x2048x2048, .i1⟩
  | .hbm, ⟨27, _⟩ => ⟨S2x8x2048x2048, .f32⟩
  | .hbm, ⟨28, _⟩ => ⟨S2x8x2048x2048, .f32⟩
  | .hbm, ⟨29, _⟩ => ⟨S_, .f32⟩
  | .hbm, ⟨30, _⟩ => ⟨S2x8x2048, .f32⟩
  | .hbm, ⟨31, _⟩ => ⟨S_, .f32⟩
  | .hbm, ⟨32, _⟩ => ⟨S2x8x2048, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S2x8x2048x1, .f32⟩
  | .hbm, ⟨41, _⟩ => ⟨S2x8x2048x2048, .f32⟩
  | .hbm, ⟨42, _⟩ => ⟨S2x8x2048x2048, .f32⟩
  | .hbm, ⟨43, _⟩ => ⟨S2x8x64x2048, .f32⟩
  | .hbm, ⟨44, _⟩ => ⟨S2x2048x8x64, .f32⟩
  | .hbm, ⟨45, _⟩ => ⟨S2x2048x512, .f32⟩
  | .hbm, ⟨46, _⟩ => ⟨S2x2048x8x64, .f32⟩
  | .hbm, ⟨47, _⟩ => ⟨S2x2048x8x64, .f32⟩
  | .hbm, ⟨48, _⟩ => ⟨S_, .f32⟩
  | .hbm, ⟨49, _⟩ => ⟨S2x8x2048, .f32⟩
  | .hbm, ⟨50, _⟩ => ⟨S2x8x2048x2048, .f32⟩
  | .hbm, ⟨51, _⟩ => ⟨S_, .f32⟩
  | .hbm, ⟨52, _⟩ => ⟨S2x8x2048x2048, .f32⟩
  | .hbm, ⟨53, _⟩ => ⟨S2x8x2048x2048, .f32⟩
  | .hbm, ⟨54, _⟩ => ⟨S2x8x2048x1, .f32⟩
  | .hbm, ⟨55, _⟩ => ⟨S2x8x1x2048, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S2048x2048, .i32⟩
  | .hbm, ⟨60, _⟩ => ⟨S2048x2048, .i32⟩
  | .hbm, ⟨61, _⟩ => ⟨S2048x2048, .i1⟩
  | .hbm, ⟨62, _⟩ => ⟨S2x8x2048x2048, .f32⟩
  | .hbm, ⟨63, _⟩ => ⟨S_, .f32⟩
  | .hbm, ⟨64, _⟩ => ⟨S_, .f32⟩
  | .hbm, ⟨65, _⟩ => ⟨S2x8x2048x2048, .i1⟩
  | .hbm, ⟨66, _⟩ => ⟨S2x8x2048x2048, .f32⟩
  | .hbm, ⟨67, _⟩ => ⟨S2x8x2048x2048, .f32⟩
  | .hbm, ⟨68, _⟩ => ⟨S_, .f32⟩
  | .hbm, ⟨69, _⟩ => ⟨S2x8x2048, .f32⟩
  | .hbm, ⟨70, _⟩ => ⟨S2x8x2048x1, .f32⟩
  | .hbm, ⟨71, _⟩ => ⟨S2x8x2048x2048, .f32⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S2x8x2048, .f32⟩
  | .hbm, ⟨76, _⟩ => ⟨S2x8x2048, .f32⟩
  | .hbm, ⟨77, _⟩ => ⟨S2x8x2048, .f32⟩
  | .hbm, ⟨78, _⟩ => ⟨S4096x512, .f32⟩
  | .hbm, ⟨79, _⟩ => ⟨S4096x512, .bf16⟩
  | .hbm, ⟨80, _⟩ => ⟨S16x4x1x512, .f32⟩
  | .hbm, ⟨81, _⟩ => ⟨S16x4x512x1, .f32⟩
  | .hbm, ⟨82, _⟩ => ⟨S4096x512, .bf16⟩
  | .hbm, ⟨83, _⟩ => ⟨S4096x512, .bf16⟩
  | .hbm, ⟨84, _⟩ => ⟨S4096x512, .bf16⟩
  | .hbm, ⟨85, _⟩ => ⟨S16x4x1x512, .f32⟩
  | .hbm, ⟨86, _⟩ => ⟨S16x4x512x1, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2x4x1x512, .f32⟩
  | .local _ .vmem, ⟨11, _⟩ => ⟨S2x4x1x512, .f32⟩
  | .local _ .vmem, ⟨12, _⟩ => ⟨S2x4x512x1, .f32⟩
  | .local _ .vmem, ⟨13, _⟩ => ⟨S2x4x512x1, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2x4x1x512, .f32⟩
  | .local _ .vmem, ⟨21, _⟩ => ⟨S2x4x1x512, .f32⟩
  | .local _ .vmem, ⟨22, _⟩ => ⟨S2x4x512x1, .f32⟩
  | .local _ .vmem, ⟨23, _⟩ => ⟨S2x4x512x1, .f32⟩
  | .local _ .vmem, ⟨24, _⟩ => ⟨S2048x128, .f32⟩
  | .local _ .vmem, ⟨25, _⟩ => ⟨S2048x128, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63_0 : Ref sig .tc := ⟨.hbm, 82, rfl⟩
abbrev main_v63_1 : Ref sig .tc := ⟨.hbm, 83, rfl⟩
abbrev main_v63_2 : Ref sig .tc := ⟨.hbm, 84, rfl⟩
abbrev main_v63_3 : Ref sig .tc := ⟨.hbm, 85, rfl⟩
abbrev main_v63_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v13 : BitVec 32 := Scalar.addi c0_i32 c4_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32 : BitVec 32 := 512#32
  let v20 : BitVec 32 := Scalar.muli arg15 c512_i32
  v20
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32 : BitVec 32 := 512#32
  let v20 : BitVec 32 := Scalar.muli arg15 c512_i32
  let v21 : BitVec 32 := v20
  let v22 : Index := Scalar.indexCast v21
  let c0_18 : Index := 0#32
  ![v22.toNat, 0]
@[reducible] def k0_t2_loop (k0_t1 : Fin k0_t1_loop.trips) : Scf.Loop 32 :=
  let c0_i32_42 : BitVec 32 := 0#32
  let c0_i32 : BitVec 32 := 0#32
  let c1_i32 : BitVec 32 := 1#32
  let arg15 : BitVec 32 := Scf.iv c0_i32 c1_i32 k0_t1
  let c512_i32_31 : BitVec 32 := 512#32
  let v54 : BitVec 32 := Scalar.muli arg15 c512_i32_31
  let c512_i32_32 : BitVec 32 := 512#32
  let v55 : BitVec 32 := Scalar.addi v54 c512_i32_32
  let c1_i32_33 : BitVec 32 := 1#32
  let v56 : BitVec 32 := Scalar.subi v55 c1_i32_33
  let c0_i32_35 : BitVec 32 := 0#32
  let v58 : BitVec 1 := Scalar.cmpi .sgt v56 c0_i32_35
  let v59 : BitVec 32 := Scalar.extui v58
  let c0_i32_36 : BitVec 32 := 0#32
  let v60 : BitVec 1 := Scalar.cmpi .slt v56 c0_i32_36
  let v61 : BitVec 32 := Scalar.extui v60
  let v62 : BitVec 32 := Scalar.subi v59 v61
  let c512_i32_34 : BitVec 32 := 512#32
  let c0_i32_37 : BitVec 32 := 0#32
  let v63 : BitVec 1 := Scalar.cmpi .sgt c512_i32_34 c0_i32_37
  let v64 : BitVec 32 := Scalar.extui v63
  let c0_i32_38 : BitVec 32 := 0#32
  let v65 : BitVec 1 := Scalar.cmpi .slt c512_i32_34 c0_i32_38
  let v66 : BitVec 32 := Scalar.extui v65
  let v67 : BitVec 32 := Scalar.subi v64 v66
  let v68 : BitVec 1 := Scalar.cmpi .ne v62 v67
  let v69 : BitVec 32 := Scalar.remsi v56 c512_i32_34
  let c0_i32_39 : BitVec 32 := 0#32
  let v70 : BitVec 1 := Scalar.cmpi .ne v69 c0_i32_39
  let v71 : BitVec 1 := Scalar.andi v68 v70
  let v57 : BitVec 32 := Scalar.divsi v56 c512_i32_34
  let c1_i32_40 : BitVec 32 := 1#32
  let v72 : BitVec 32 := Scalar.subi v57 c1_i32_40
  let v73 : BitVec 32 := Scalar.select v71 v72 v57
  let c1_i32_41 : BitVec 32 := 1#32
  let v74 : BitVec 32 := Scalar.addi v73 c1_i32_41
  let v75 : BitVec 32 := Scalar.subi v74 c0_i32_42
  let c1_i32_43 : BitVec 32 := 1#32
  let v77 : BitVec 32 := Scalar.divsi v75 c1_i32_43
  let v78 : BitVec 32 := Scalar.muli v77 c1_i32_43
  let v79 : BitVec 32 := Scalar.addi c0_i32_42 v78
  let c1_i32_44 : BitVec 32 := 1#32
  ⟨c0_i32_42, v79, c1_i32_44⟩
def k0_mult2 (k0_t1 : Fin k0_t1_loop.trips) (k0_t2 : Fin (k0_t2_loop k0_t1).trips) : BitVec 32 :=
  let c0_i32_42 : BitVec 32 := 0#32
  let c1_i32_44 : BitVec 32 := 1#32
  let arg16 : BitVec 32 := Scf.iv c0_i32_42 c1_i32_44 k0_t2
  let c512_i32_52 : BitVec 32 := 512#32
  let v94 : BitVec 32 := Scalar.muli arg16 c512_i32_52
  v94
def k0_off2 (k0_t1 : Fin k0_t1_loop.trips) (k0_t2 : Fin (k0_t2_loop k0_t1).trips) : Fin 2 → Nat :=
  let c0_i32_42 : BitVec 32 := 0#32
  let c1_i32_44 : BitVec 32 := 1#32
  let arg16 : BitVec 32 := Scf.iv c0_i32_42 c1_i32_44 k0_t2
  let c512_i32_52 : BitVec 32 := 512#32
  let v94 : BitVec 32 := Scalar.muli arg16 c512_i32_52
  let v95 : BitVec 32 := v94
  let v96 : Index := Scalar.indexCast v95
  let c0_53 : Index := 0#32
  ![v96.toNat, 0]
def k0_off3 (k0_t1 : Fin k0_t1_loop.trips) (k0_t2 : Fin (k0_t2_loop k0_t1).trips) : Fin 4 → Nat :=
  let c0_55 : Index := 0#32
  let c0_i32_42 : BitVec 32 := 0#32
  let c1_i32_44 : BitVec 32 := 1#32
  let arg16 : BitVec 32 := Scf.iv c0_i32_42 c1_i32_44 k0_t2
  let v100 : Index := Scalar.indexCast arg16
  let c0_56 : Index := 0#32
  let c0_57 : Index := 0#32
  ![0, v100.toNat, 0, 0]
def k0_off4 (k0_t1 : Fin k0_t1_loop.trips) : Fin 4 → Nat :=
  let c0_62 : Index := 0#32
  let c0_i32 : BitVec 32 := 0#32
  let c1_i32 : BitVec 32 := 1#32
  let arg15 : BitVec 32 := Scf.iv c0_i32 c1_i32 k0_t1
  let v116 : Index := Scalar.indexCast arg15
  let c0_63 : Index := 0#32
  let c0_64 : Index := 0#32
  ![0, v116.toNat, 0, 0]
def k0_off5 (k0_t1 : Fin k0_t1_loop.trips) (k0_t2 : Fin (k0_t2_loop k0_t1).trips) : Fin 4 → Nat :=
  let c1_85 : Index := 1#32
  let c0_i32_42 : BitVec 32 := 0#32
  let c1_i32_44 : BitVec 32 := 1#32
  let arg16 : BitVec 32 := Scf.iv c0_i32_42 c1_i32_44 k0_t2
  let v168 : Index := Scalar.indexCast arg16
  let c0_86 : Index := 0#32
  let c0_87 : Index := 0#32
  ![1, v168.toNat, 0, 0]
def k0_off6 (k0_t1 : Fin k0_t1_loop.trips) : Fin 4 → Nat :=
  let c1_92 : Index := 1#32
  let c0_i32 : BitVec 32 := 0#32
  let c1_i32 : BitVec 32 := 1#32
  let arg15 : BitVec 32 := Scf.iv c0_i32 c1_i32 k0_t1
  let v184 : Index := Scalar.indexCast arg15
  let c0_93 : Index := 0#32
  let c0_94 : Index := 0#32
  ![1, v184.toNat, 0, 0]
@[reducible] def k0_t3_loop (k0_t1 : Fin k0_t1_loop.trips) : Scf.Loop 32 :=
  let c0_i32_42 : BitVec 32 := 0#32
  let c0_i32 : BitVec 32 := 0#32
  let c1_i32 : BitVec 32 := 1#32
  let arg15 : BitVec 32 := Scf.iv c0_i32 c1_i32 k0_t1
  let c512_i32_31 : BitVec 32 := 512#32
  let v54 : BitVec 32 := Scalar.muli arg15 c512_i32_31
  let c512_i32_32 : BitVec 32 := 512#32
  let v55 : BitVec 32 := Scalar.addi v54 c512_i32_32
  let c1_i32_33 : BitVec 32 := 1#32
  let v56 : BitVec 32 := Scalar.subi v55 c1_i32_33
  let c0_i32_35 : BitVec 32 := 0#32
  let v58 : BitVec 1 := Scalar.cmpi .sgt v56 c0_i32_35
  let v59 : BitVec 32 := Scalar.extui v58
  let c0_i32_36 : BitVec 32 := 0#32
  let v60 : BitVec 1 := Scalar.cmpi .slt v56 c0_i32_36
  let v61 : BitVec 32 := Scalar.extui v60
  let v62 : BitVec 32 := Scalar.subi v59 v61
  let c512_i32_34 : BitVec 32 := 512#32
  let c0_i32_37 : BitVec 32 := 0#32
  let v63 : BitVec 1 := Scalar.cmpi .sgt c512_i32_34 c0_i32_37
  let v64 : BitVec 32 := Scalar.extui v63
  let c0_i32_38 : BitVec 32 := 0#32
  let v65 : BitVec 1 := Scalar.cmpi .slt c512_i32_34 c0_i32_38
  let v66 : BitVec 32 := Scalar.extui v65
  let v67 : BitVec 32 := Scalar.subi v64 v66
  let v68 : BitVec 1 := Scalar.cmpi .ne v62 v67
  let v69 : BitVec 32 := Scalar.remsi v56 c512_i32_34
  let c0_i32_39 : BitVec 32 := 0#32
  let v70 : BitVec 1 := Scalar.cmpi .ne v69 c0_i32_39
  let v71 : BitVec 1 := Scalar.andi v68 v70
  let v57 : BitVec 32 := Scalar.divsi v56 c512_i32_34
  let c1_i32_40 : BitVec 32 := 1#32
  let v72 : BitVec 32 := Scalar.subi v57 c1_i32_40
  let v73 : BitVec 32 := Scalar.select v71 v72 v57
  let c1_i32_41 : BitVec 32 := 1#32
  let v74 : BitVec 32 := Scalar.addi v73 c1_i32_41
  let v75 : BitVec 32 := Scalar.subi v74 c0_i32_42
  let c1_i32_43 : BitVec 32 := 1#32
  let v77 : BitVec 32 := Scalar.divsi v75 c1_i32_43
  let v78 : BitVec 32 := Scalar.muli v77 c1_i32_43
  let v79 : BitVec 32 := Scalar.addi c0_i32_42 v78
  let v76 : BitVec 32 := Scalar.addi c0_i32_42 v75
  let c1_i32_45 : BitVec 32 := 1#32
  ⟨v79, v76, c1_i32_45⟩
def k0_mult3 (k0_t1 : Fin k0_t1_loop.trips) (k0_t3 : Fin (k0_t3_loop k0_t1).trips) : BitVec 32 :=
  let c0_i32_42 : BitVec 32 := 0#32
  let c0_i32 : BitVec 32 := 0#32
  let c1_i32 : BitVec 32 := 1#32
  let arg15 : BitVec 32 := Scf.iv c0_i32 c1_i32 k0_t1
  let c512_i32_31 : BitVec 32 := 512#32
  let v54 : BitVec 32 := Scalar.muli arg15 c512_i32_31
  let c512_i32_32 : BitVec 32 := 512#32
  let v55 : BitVec 32 := Scalar.addi v54 c512_i32_32
  let c1_i32_33 : BitVec 32 := 1#32
  let v56 : BitVec 32 := Scalar.subi v55 c1_i32_33
  let c0_i32_35 : BitVec 32 := 0#32
  let v58 : BitVec 1 := Scalar.cmpi .sgt v56 c0_i32_35
  let v59 : BitVec 32 := Scalar.extui v58
  let c0_i32_36 : BitVec 32 := 0#32
  let v60 : BitVec 1 := Scalar.cmpi .slt v56 c0_i32_36
  let v61 : BitVec 32 := Scalar.extui v60
  let v62 : BitVec 32 := Scalar.subi v59 v61
  let c512_i32_34 : BitVec 32 := 512#32
  let c0_i32_37 : BitVec 32 := 0#32
  let v63 : BitVec 1 := Scalar.cmpi .sgt c512_i32_34 c0_i32_37
  let v64 : BitVec 32 := Scalar.extui v63
  let c0_i32_38 : BitVec 32 := 0#32
  let v65 : BitVec 1 := Scalar.cmpi .slt c512_i32_34 c0_i32_38
  let v66 : BitVec 32 := Scalar.extui v65
  let v67 : BitVec 32 := Scalar.subi v64 v66
  let v68 : BitVec 1 := Scalar.cmpi .ne v62 v67
  let v69 : BitVec 32 := Scalar.remsi v56 c512_i32_34
  let c0_i32_39 : BitVec 32 := 0#32
  let v70 : BitVec 1 := Scalar.cmpi .ne v69 c0_i32_39
  let v71 : BitVec 1 := Scalar.andi v68 v70
  let v57 : BitVec 32 := Scalar.divsi v56 c512_i32_34
  let c1_i32_40 : BitVec 32 := 1#32
  let v72 : BitVec 32 := Scalar.subi v57 c1_i32_40
  let v73 : BitVec 32 := Scalar.select v71 v72 v57
  let c1_i32_41 : BitVec 32 := 1#32
  let v74 : BitVec 32 := Scalar.addi v73 c1_i32_41
  let v75 : BitVec 32 := Scalar.subi v74 c0_i32_42
  let c1_i32_43 : BitVec 32 := 1#32
  let v77 : BitVec 32 := Scalar.divsi v75 c1_i32_43
  let v78 : BitVec 32 := Scalar.muli v77 c1_i32_43
  let v79 : BitVec 32 := Scalar.addi c0_i32_42 v78
  let c1_i32_45 : BitVec 32 := 1#32
  let arg16 : BitVec 32 := Scf.iv v79 c1_i32_45 k0_t3
  let c512_i32_52 : BitVec 32 := 512#32
  let v94 : BitVec 32 := Scalar.muli arg16 c512_i32_52
  v94
def k0_off7 (k0_t1 : Fin k0_t1_loop.trips) (k0_t3 : Fin (k0_t3_loop k0_t1).trips) : Fin 2 → Nat :=
  let c0_i32_42 : BitVec 32 := 0#32
  let c0_i32 : BitVec 32 := 0#32
  let c1_i32 : BitVec 32 := 1#32
  let arg15 : BitVec 32 := Scf.iv c0_i32 c1_i32 k0_t1
  let c512_i32_31 : BitVec 32 := 512#32
  let v54 : BitVec 32 := Scalar.muli arg15 c512_i32_31
  let c512_i32_32 : BitVec 32 := 512#32
  let v55 : BitVec 32 := Scalar.addi v54 c512_i32_32
  let c1_i32_33 : BitVec 32 := 1#32
  let v56 : BitVec 32 := Scalar.subi v55 c1_i32_33
  let c0_i32_35 : BitVec 32 := 0#32
  let v58 : BitVec 1 := Scalar.cmpi .sgt v56 c0_i32_35
  let v59 : BitVec 32 := Scalar.extui v58
  let c0_i32_36 : BitVec 32 := 0#32
  let v60 : BitVec 1 := Scalar.cmpi .slt v56 c0_i32_36
  let v61 : BitVec 32 := Scalar.extui v60
  let v62 : BitVec 32 := Scalar.subi v59 v61
  let c512_i32_34 : BitVec 32 := 512#32
  let c0_i32_37 : BitVec 32 := 0#32
  let v63 : BitVec 1 := Scalar.cmpi .sgt c512_i32_34 c0_i32_37
  let v64 : BitVec 32 := Scalar.extui v63
  let c0_i32_38 : BitVec 32 := 0#32
  let v65 : BitVec 1 := Scalar.cmpi .slt c512_i32_34 c0_i32_38
  let v66 : BitVec 32 := Scalar.extui v65
  let v67 : BitVec 32 := Scalar.subi v64 v66
  let v68 : BitVec 1 := Scalar.cmpi .ne v62 v67
  let v69 : BitVec 32 := Scalar.remsi v56 c512_i32_34
  let c0_i32_39 : BitVec 32 := 0#32
  let v70 : BitVec 1 := Scalar.cmpi .ne v69 c0_i32_39
  let v71 : BitVec 1 := Scalar.andi v68 v70
  let v57 : BitVec 32 := Scalar.divsi v56 c512_i32_34
  let c1_i32_40 : BitVec 32 := 1#32
  let v72 : BitVec 32 := Scalar.subi v57 c1_i32_40
  let v73 : BitVec 32 := Scalar.select v71 v72 v57
  let c1_i32_41 : BitVec 32 := 1#32
  let v74 : BitVec 32 := Scalar.addi v73 c1_i32_41
  let v75 : BitVec 32 := Scalar.subi v74 c0_i32_42
  let c1_i32_43 : BitVec 32 := 1#32
  let v77 : BitVec 32 := Scalar.divsi v75 c1_i32_43
  let v78 : BitVec 32 := Scalar.muli v77 c1_i32_43
  let v79 : BitVec 32 := Scalar.addi c0_i32_42 v78
  let c1_i32_45 : BitVec 32 := 1#32
  let arg16 : BitVec 32 := Scf.iv v79 c1_i32_45 k0_t3
  let c512_i32_52 : BitVec 32 := 512#32
  let v94 : BitVec 32 := Scalar.muli arg16 c512_i32_52
  let v95 : BitVec 32 := v94
  let v96 : Index := Scalar.indexCast v95
  let c0_53 : Index := 0#32
  ![v96.toNat, 0]
def k0_off8 (k0_t1 : Fin k0_t1_loop.trips) (k0_t3 : Fin (k0_t3_loop k0_t1).trips) : Fin 4 → Nat :=
  let c0_55 : Index := 0#32
  let c0_i32_42 : BitVec 32 := 0#32
  let c0_i32 : BitVec 32 := 0#32
  let c1_i32 : BitVec 32 := 1#32
  let arg15 : BitVec 32 := Scf.iv c0_i32 c1_i32 k0_t1
  let c512_i32_31 : BitVec 32 := 512#32
  let v54 : BitVec 32 := Scalar.muli arg15 c512_i32_31
  let c512_i32_32 : BitVec 32 := 512#32
  let v55 : BitVec 32 := Scalar.addi v54 c512_i32_32
  let c1_i32_33 : BitVec 32 := 1#32
  let v56 : BitVec 32 := Scalar.subi v55 c1_i32_33
  let c0_i32_35 : BitVec 32 := 0#32
  let v58 : BitVec 1 := Scalar.cmpi .sgt v56 c0_i32_35
  let v59 : BitVec 32 := Scalar.extui v58
  let c0_i32_36 : BitVec 32 := 0#32
  let v60 : BitVec 1 := Scalar.cmpi .slt v56 c0_i32_36
  let v61 : BitVec 32 := Scalar.extui v60
  let v62 : BitVec 32 := Scalar.subi v59 v61
  let c512_i32_34 : BitVec 32 := 512#32
  let c0_i32_37 : BitVec 32 := 0#32
  let v63 : BitVec 1 := Scalar.cmpi .sgt c512_i32_34 c0_i32_37
  let v64 : BitVec 32 := Scalar.extui v63
  let c0_i32_38 : BitVec 32 := 0#32
  let v65 : BitVec 1 := Scalar.cmpi .slt c512_i32_34 c0_i32_38
  let v66 : BitVec 32 := Scalar.extui v65
  let v67 : BitVec 32 := Scalar.subi v64 v66
  let v68 : BitVec 1 := Scalar.cmpi .ne v62 v67
  let v69 : BitVec 32 := Scalar.remsi v56 c512_i32_34
  let c0_i32_39 : BitVec 32 := 0#32
  let v70 : BitVec 1 := Scalar.cmpi .ne v69 c0_i32_39
  let v71 : BitVec 1 := Scalar.andi v68 v70
  let v57 : BitVec 32 := Scalar.divsi v56 c512_i32_34
  let c1_i32_40 : BitVec 32 := 1#32
  let v72 : BitVec 32 := Scalar.subi v57 c1_i32_40
  let v73 : BitVec 32 := Scalar.select v71 v72 v57
  let c1_i32_41 : BitVec 32 := 1#32
  let v74 : BitVec 32 := Scalar.addi v73 c1_i32_41
  let v75 : BitVec 32 := Scalar.subi v74 c0_i32_42
  let c1_i32_43 : BitVec 32 := 1#32
  let v77 : BitVec 32 := Scalar.divsi v75 c1_i32_43
  let v78 : BitVec 32 := Scalar.muli v77 c1_i32_43
  let v79 : BitVec 32 := Scalar.addi c0_i32_42 v78
  let c1_i32_45 : BitVec 32 := 1#32
  let arg16 : BitVec 32 := Scf.iv v79 c1_i32_45 k0_t3
  let v100 : Index := Scalar.indexCast arg16
  let c0_56 : Index := 0#32
  let c0_57 : Index := 0#32
  ![0, v100.toNat, 0, 0]
def k0_off9 (k0_t1 : Fin k0_t1_loop.trips) : Fin 4 → Nat :=
  let c0_62 : Index := 0#32
  let c0_i32 : BitVec 32 := 0#32
  let c1_i32 : BitVec 32 := 1#32
  let arg15 : BitVec 32 := Scf.iv c0_i32 c1_i32 k0_t1
  let v116 : Index := Scalar.indexCast arg15
  let c0_63 : Index := 0#32
  let c0_64 : Index := 0#32
  ![0, v116.toNat, 0, 0]
def k0_off10 (k0_t1 : Fin k0_t1_loop.trips) (k0_t3 : Fin (k0_t3_loop k0_t1).trips) : Fin 4 → Nat :=
  let c1_85 : Index := 1#32
  let c0_i32_42 : BitVec 32 := 0#32
  let c0_i32 : BitVec 32 := 0#32
  let c1_i32 : BitVec 32 := 1#32
  let arg15 : BitVec 32 := Scf.iv c0_i32 c1_i32 k0_t1
  let c512_i32_31 : BitVec 32 := 512#32
  let v54 : BitVec 32 := Scalar.muli arg15 c512_i32_31
  let c512_i32_32 : BitVec 32 := 512#32
  let v55 : BitVec 32 := Scalar.addi v54 c512_i32_32
  let c1_i32_33 : BitVec 32 := 1#32
  let v56 : BitVec 32 := Scalar.subi v55 c1_i32_33
  let c0_i32_35 : BitVec 32 := 0#32
  let v58 : BitVec 1 := Scalar.cmpi .sgt v56 c0_i32_35
  let v59 : BitVec 32 := Scalar.extui v58
  let c0_i32_36 : BitVec 32 := 0#32
  let v60 : BitVec 1 := Scalar.cmpi .slt v56 c0_i32_36
  let v61 : BitVec 32 := Scalar.extui v60
  let v62 : BitVec 32 := Scalar.subi v59 v61
  let c512_i32_34 : BitVec 32 := 512#32
  let c0_i32_37 : BitVec 32 := 0#32
  let v63 : BitVec 1 := Scalar.cmpi .sgt c512_i32_34 c0_i32_37
  let v64 : BitVec 32 := Scalar.extui v63
  let c0_i32_38 : BitVec 32 := 0#32
  let v65 : BitVec 1 := Scalar.cmpi .slt c512_i32_34 c0_i32_38
  let v66 : BitVec 32 := Scalar.extui v65
  let v67 : BitVec 32 := Scalar.subi v64 v66
  let v68 : BitVec 1 := Scalar.cmpi .ne v62 v67
  let v69 : BitVec 32 := Scalar.remsi v56 c512_i32_34
  let c0_i32_39 : BitVec 32 := 0#32
  let v70 : BitVec 1 := Scalar.cmpi .ne v69 c0_i32_39
  let v71 : BitVec 1 := Scalar.andi v68 v70
  let v57 : BitVec 32 := Scalar.divsi v56 c512_i32_34
  let c1_i32_40 : BitVec 32 := 1#32
  let v72 : BitVec 32 := Scalar.subi v57 c1_i32_40
  let v73 : BitVec 32 := Scalar.select v71 v72 v57
  let c1_i32_41 : BitVec 32 := 1#32
  let v74 : BitVec 32 := Scalar.addi v73 c1_i32_41
  let v75 : BitVec 32 := Scalar.subi v74 c0_i32_42
  let c1_i32_43 : BitVec 32 := 1#32
  let v77 : BitVec 32 := Scalar.divsi v75 c1_i32_43
  let v78 : BitVec 32 := Scalar.muli v77 c1_i32_43
  let v79 : BitVec 32 := Scalar.addi c0_i32_42 v78
  let c1_i32_45 : BitVec 32 := 1#32
  let arg16 : BitVec 32 := Scf.iv v79 c1_i32_45 k0_t3
  let v168 : Index := Scalar.indexCast arg16
  let c0_86 : Index := 0#32
  let c0_87 : Index := 0#32
  ![1, v168.toNat, 0, 0]
def k0_off11 (k0_t1 : Fin k0_t1_loop.trips) : Fin 4 → Nat :=
  let c1_92 : Index := 1#32
  let c0_i32 : BitVec 32 := 0#32
  let c1_i32 : BitVec 32 := 1#32
  let arg15 : BitVec 32 := Scf.iv c0_i32 c1_i32 k0_t1
  let v184 : Index := Scalar.indexCast arg15
  let c0_93 : Index := 0#32
  let c0_94 : Index := 0#32
  ![1, v184.toNat, 0, 0]
def k0_off12 (k0_t1 : Fin k0_t1_loop.trips) : Fin 4 → Nat :=
  let c0_47 : Index := 0#32
  let c0_i32 : BitVec 32 := 0#32
  let c1_i32 : BitVec 32 := 1#32
  let arg15 : BitVec 32 := Scf.iv c0_i32 c1_i32 k0_t1
  let v86 : Index := Scalar.indexCast arg15
  let c0_48 : Index := 0#32
  let c0_49 : Index := 0#32
  ![0, v86.toNat, 0, 0]
def k0_off13 (k0_t1 : Fin k0_t1_loop.trips) : Fin 4 → Nat :=
  let c1 : Index := 1#32
  let c0_i32 : BitVec 32 := 0#32
  let c1_i32 : BitVec 32 := 1#32
  let arg15 : BitVec 32 := Scf.iv c0_i32 c1_i32 k0_t1
  let v90 : Index := Scalar.indexCast arg15
  let c0_50 : Index := 0#32
  let c0_51 : Index := 0#32
  ![1, v90.toNat, 0, 0]
def cc0_transform_0 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32_10 : BitVec 32 := 4#32
  let v27 : BitVec 32 := Scalar.addi c4_i32_10 v26
  let c0_i32_11 : BitVec 32 := 0#32
  ![v16.toNat, v27.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_10 : BitVec 32 := 0#32
  ![v16.toNat, v27.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_9 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x4x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4096x1536 : Shape := ⟨2, ![4096, 1536]⟩
abbrev S2x8x2048 : Shape := ⟨3, ![2, 8, 2048]⟩
abbrev S4096x512 : Shape := ⟨2, ![4096, 512]⟩
abbrev S2x2048x1536 : Shape := ⟨3, ![2, 2048, 1536]⟩
abbrev S2x2048x512 : Shape := ⟨3, ![2, 2048, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048x1 : Shape := ⟨4, ![2, 8, 2048, 1]⟩
abbrev S2x8x1x2048 : Shape := ⟨4, ![2, 8, 1, 2048]⟩
abbrev S2048x2048 : Shape := ⟨2, ![2048, 2048]⟩
abbrev S2x8x64x2048 : Shape := ⟨4, ![2, 8, 64, 2048]⟩
abbrev S2x8x2048x64 : Shape := ⟨4, ![2, 8, 2048, 64]⟩
abbrev S16x4x1x512 : Shape := ⟨4, ![16, 4, 1, 512]⟩
abbrev S16x4x512x1 : Shape := ⟨4, ![16, 4, 512, 1]⟩

abbrev nBuf : Space → Nat
  | .hbm => 125
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S2x8x2048, .f32⟩
  | .hbm, ⟨2, _⟩ => ⟨S4096x512, .bf16⟩
  | .hbm, ⟨3, _⟩ => ⟨S4096x1536, .f32⟩
  | .hbm, ⟨4, _⟩ => ⟨S2x2048x1536, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x8x64, .f32⟩
  | .hbm, ⟨9, _⟩ => ⟨S2x2048x8x64, .f32⟩
  | .hbm, ⟨10, _⟩ => ⟨S2x2048x8x64, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | .hbm, ⟨15, _⟩ => ⟨S2x8x2048x1, .f32⟩
  | .hbm, ⟨16, _⟩ => ⟨S2x8x1x2048, .f32⟩
  | .hbm, ⟨17, _⟩ => ⟨S2x8x2048x2048, .f32⟩
  | .hbm, ⟨18, _⟩ => ⟨S2x8x2048x2048, .f32⟩
  | .hbm, ⟨19, _⟩ => ⟨S2x8x2048x2048, .f32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S2x8x2048x2048, .f32⟩
  | .hbm, ⟨24, _⟩ => ⟨S_, .f32⟩
  | .hbm, ⟨25, _⟩ => ⟨S_, .f32⟩
  | .hbm, ⟨26, _⟩ => ⟨S2x8x2048x2048, .i1⟩
  | .hbm, ⟨27, _⟩ => ⟨S2x8x2048x2048, .f32⟩
  | .hbm, ⟨28, _⟩ => ⟨S2x8x2048x2048, .f32⟩
  | .hbm, ⟨29, _⟩ => ⟨S_, .f32⟩
  | .hbm, ⟨30, _⟩ => ⟨S2x8x2048x2048, .f32⟩
  | .hbm, ⟨31, _⟩ => ⟨S_, .f32⟩
  | .hbm, ⟨32, _⟩ => ⟨S2x8x2048, .f32⟩
  | .hbm, ⟨33, _⟩ => ⟨S2x8x2048x1, .f32⟩
  | .hbm, ⟨34, _⟩ => ⟨S2x8x2048x2048, .f32⟩
  | .hbm, ⟨35, _⟩ => ⟨S2x8x2048x2048, .i1⟩
  | .hbm, ⟨36, _⟩ => ⟨S2x8x2048x2048, .f32⟩
  | .hbm, ⟨37, _⟩ => ⟨S_, .f32⟩
  | .hbm, ⟨38, _⟩ => ⟨S2x8x2048, .f32⟩
  | .hbm, ⟨39, _⟩ => ⟨S_, .f32⟩
  | .hbm, ⟨40, _⟩ => ⟨S2x8x2048, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .i1⟩
  | .hbm, ⟨45, _⟩ => ⟨S_, .f32⟩
  | .hbm, ⟨46, _⟩ => ⟨S2x8x2048, .f32⟩
  | .hbm, ⟨47, _⟩ => ⟨S2x8x2048, .i1⟩
  | .hbm, ⟨48, _⟩ => ⟨S_, .f32⟩
  | .hbm, ⟨49, _⟩ => ⟨S2x8x2048, .f32⟩
  | .hbm, ⟨50, _⟩ => ⟨S_, .f32⟩
  | .hbm, ⟨51, _⟩ => ⟨S2x8x2048, .f32⟩
  | .hbm, ⟨52, _⟩ => ⟨S_, .f32⟩
  | .hbm, ⟨53, _⟩ => ⟨S2x8x2048, .f32⟩
  | .hbm, ⟨54, _⟩ => ⟨S2x8x2048, .f32⟩
  | .hbm, ⟨55, _⟩ => ⟨S2x8x2048, .f32⟩
  | .hbm, ⟨56, _⟩ => ⟨S2x8x2048x1, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S_, .f32⟩
  | .hbm, ⟨61, _⟩ => ⟨S2x8x2048, .f32⟩
  | .hbm, ⟨62, _⟩ => ⟨S2x8x2048x1, .f32⟩
  | .hbm, ⟨63, _⟩ => ⟨S2x8x2048x2048, .f32⟩
  | .hbm, ⟨64, _⟩ => ⟨S2x8x2048x2048, .f32⟩
  | .hbm, ⟨65, _⟩ => ⟨S2x8x2048x1, .f32⟩
  | .hbm, ⟨66, _⟩ => ⟨S_, .f32⟩
  | .hbm, ⟨67, _⟩ => ⟨S2x8x2048x1, .f32⟩
  | .hbm, ⟨68, _⟩ => ⟨S2x8x2048x1, .f32⟩
  | .hbm, ⟨69, _⟩ => ⟨S2x8x64x2048, .f32⟩
  | .hbm, ⟨70, _⟩ => ⟨S2x2048x8x64, .f32⟩
  | .hbm, ⟨71, _⟩ => ⟨S2x2048x512, .f32⟩
  | .hbm, ⟨72, _⟩ => ⟨S4096x512, .f32⟩
  | .hbm, ⟨73, _⟩ => ⟨S2x2048x512, .f32⟩
  | .hbm, ⟨74, _⟩ => ⟨S2x2048x8x64, .f32⟩
  | .hbm, ⟨75, _⟩ => ⟨S2x8x64x2048, .f32⟩
  | .hbm, ⟨76, _⟩ => ⟨S2x8x2048x2048, .f32⟩
  | .hbm, ⟨77, _⟩ => ⟨S2x8x64x2048, .f32⟩
  | .hbm, ⟨78, _⟩ => ⟨S2x2048x8x64, .f32⟩
  | .hbm, ⟨79, _⟩ => ⟨S2x8x2048x2048, .f32⟩
  | .hbm, ⟨80, _⟩ => ⟨S2x8x2048x2048, .f32⟩
  | .hbm, ⟨81, _⟩ => ⟨S2x8x2048x2048, .f32⟩
  | .hbm, ⟨82, _⟩ => ⟨S_, .f32⟩
  | .hbm, ⟨83, _⟩ => ⟨S2x8x2048, .f32⟩
  | .hbm, ⟨84, _⟩ => ⟨S2x8x2048x1, .f32⟩
  | .hbm, ⟨85, _⟩ => ⟨S2x8x2048x1, .f32⟩
  | .hbm, ⟨86, _⟩ => ⟨S2x8x2048x2048, .f32⟩
  | .hbm, ⟨87, _⟩ => ⟨S2x8x2048x2048, .f32⟩
  | .hbm, ⟨88, _⟩ => ⟨S_, .f32⟩
  | .hbm, ⟨89, _⟩ => ⟨S2x8x2048, .f32⟩
  | .hbm, ⟨90, _⟩ => ⟨S2x8x2048x2048, .f32⟩
  | .hbm, ⟨91, _⟩ => ⟨S2x8x2048x2048, .f32⟩
  | .hbm, ⟨92, _⟩ => ⟨S2x8x2048x2048, .f32⟩
  | .hbm, ⟨93, _⟩ => ⟨S_, .f32⟩
  | .hbm, ⟨94, _⟩ => ⟨S2x8x2048x2048, .f32⟩
  | .hbm, ⟨95, _⟩ => ⟨S2x8x2048x2048, .f32⟩
  | .hbm, ⟨96, _⟩ => ⟨S_, .f32⟩
  | .hbm, ⟨97, _⟩ => ⟨S2x8x2048, .f32⟩
  | .hbm, ⟨98, _⟩ => ⟨S2x8x2048x1, .f32⟩
  | .hbm, ⟨99, _⟩ => ⟨S2x8x2048x2048, .f32⟩
  | .hbm, ⟨100, _⟩ => ⟨S_, .f32⟩
  | .hbm, ⟨101, _⟩ => ⟨S2x8x2048, .f32⟩
  | .hbm, ⟨102, _⟩ => ⟨S2x8x1x2048, .f32⟩
  | .hbm, ⟨103, _⟩ => ⟨S_, .f32⟩
  | .hbm, ⟨104, _⟩ => ⟨S2x8x2048, .f32⟩
  | .hbm, ⟨105, _⟩ => ⟨S_, .f32⟩
  | .hbm, ⟨106, _⟩ => ⟨S2x8x2048, .f32⟩
  | .hbm, ⟨107, _⟩ => ⟨S_, .f32⟩
  | .hbm, ⟨108, _⟩ => ⟨S2x8x2048x2048, .f32⟩
  | .hbm, ⟨109, _⟩ => ⟨S2x8x2048x2048, .f32⟩
  | .hbm, ⟨110, _⟩ => ⟨S2x8x2048x64, .f32⟩
  | .hbm, ⟨111, _⟩ => ⟨S2x2048x8x64, .f32⟩
  | .hbm, ⟨112, _⟩ => ⟨S2x8x2048x64, .f32⟩
  | .hbm, ⟨113, _⟩ => ⟨S2x2048x8x64, .f32⟩
  | .hbm, ⟨114, _⟩ => ⟨S2x2048x512, .f32⟩
  | .hbm, ⟨115, _⟩ => ⟨S2x2048x512, .f32⟩
  | .hbm, ⟨116, _⟩ => ⟨S2x2048x512, .f32⟩
  | .hbm, ⟨117, _⟩ => ⟨S4096x512, .f32⟩
  | .hbm, ⟨118, _⟩ => ⟨S4096x512, .bf16⟩
  | .hbm, ⟨119, _⟩ => ⟨S4096x512, .f32⟩
  | .hbm, ⟨120, _⟩ => ⟨S4096x512, .bf16⟩
  | .hbm, ⟨121, _⟩ => ⟨S4096x512, .f32⟩
  | .hbm, ⟨122, _⟩ => ⟨S4096x512, .bf16⟩
  | .hbm, ⟨123, _⟩ => ⟨S16x4x1x512, .f32⟩
  | .hbm, ⟨124, _⟩ => ⟨S16x4x512x1, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_v20_1 : Ref sig .tc := ⟨.hbm, 26, rfl⟩
abbrev main_call0_v2 : Ref sig .tc := ⟨.hbm, 27, rfl⟩
abbrev main_v20_0 : Ref sig .tc := ⟨.hbm, 28, rfl⟩
abbrev main_call0_cst : Ref sig .tc := ⟨.hbm, 29, rfl⟩
abbrev main_v20_2 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call1_cst : Ref sig .tc := ⟨.hbm, 93, rfl⟩
abbrev main_call1_v0 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S_, .f32⟩
  | .hbm, ⟨6, _⟩ => ⟨S4096x1024, .f32⟩
  | .hbm, ⟨7, _⟩ => ⟨S1024x2816, .f32⟩
  | .hbm, ⟨8, _⟩ => ⟨S4096x2816, .f32⟩
  | .hbm, ⟨9, _⟩ => ⟨S4096x1024, .f32⟩
  | .hbm, ⟨10, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S_, .f32⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x3072 : Shape := ⟨2, ![4096, 3072]⟩
abbrev S4096x1024 : Shape := ⟨2, ![4096, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S4096x1024, .f32⟩
  | .hbm, ⟨4, _⟩ => ⟨S_, .f32⟩
  | .hbm, ⟨5, _⟩ => ⟨S3072x1024, .f32⟩
  | .hbm, ⟨6, _⟩ => ⟨S1024x3072, .f32⟩
  | .hbm, ⟨7, _⟩ => ⟨S4096x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x3072 : Shape := ⟨2, ![4096, 3072]⟩
abbrev S3072x1024 : Shape := ⟨2, ![3072, 1024]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x3072 : Shape := ⟨2, ![4096, 3072]⟩
abbrev S3072x1024 : Shape := ⟨2, ![3072, 1024]⟩
abbrev S4096x1024 : Shape := ⟨2, ![4096, 1024]⟩
abbrev S_ : Shape := ⟨0, ![]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x3072, .f32⟩
  | .hbm, ⟨4, _⟩ => ⟨S3072x1024, .f32⟩
  | .hbm, ⟨5, _⟩ => ⟨S_, .f32⟩
  | .hbm, ⟨6, _⟩ => ⟨S4096x1024, .f32⟩
  | .hbm, ⟨7, _⟩ => ⟨S1024x3072, .f32⟩
  | .hbm, ⟨8, _⟩ => ⟨S4096x3072, .f32⟩
  | .hbm, ⟨9, _⟩ => ⟨S4096x1024, .f32⟩
  | .hbm, ⟨10, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S4096x1792 : Shape := ⟨2, ![4096, 1792]⟩
abbrev S4096x1024 : Shape := ⟨2, ![4096, 1024]⟩
abbrev S1792x1024 : Shape := ⟨2, ![1792, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1792, .f32⟩
  | .hbm, ⟨1, _⟩ => ⟨S4096x1024, .bf16⟩
  | .hbm, ⟨2, _⟩ => ⟨S1792x1024, .bf16⟩
  | .local _ .vmem, ⟨0, _⟩ => ⟨S1024x896, .f32⟩
  | .local _ .vmem, ⟨1, _⟩ => ⟨S1024x896, .f32⟩
  | .local _ .vmem, ⟨2, _⟩ => ⟨S1024x1024, .bf16⟩
  | .local _ .vmem, ⟨3, _⟩ => ⟨S1024x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1792 : Shape := ⟨2, ![4096, 1792]⟩
abbrev S4096x1024 : Shape := ⟨2, ![4096, 1024]⟩
abbrev S_ : Shape := ⟨0, ![]⟩
abbrev S1792x1024 : Shape := ⟨2, ![1792, 1024]⟩
abbrev S1024x1792 : Shape := ⟨2, ![1024, 1792]⟩

abbrev nBuf : Space → Nat
  | .hbm => 11
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1792x1024, .f32⟩
  | .hbm, ⟨5, _⟩ => ⟨S1024x1792, .f32⟩
  | .hbm, ⟨6, _⟩ => ⟨S4096x1792, .f32⟩
  | .hbm, ⟨7, _⟩ => ⟨S1792x1024, .f32⟩
  | .hbm, ⟨8, _⟩ => ⟨S1024x1792, .f32⟩
  | .hbm, ⟨9, _⟩ => ⟨S1792x1024, .f32⟩
  | .hbm, ⟨10, _⟩ => ⟨S1792x1024, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1792 : Shape := ⟨2, ![4096, 1792]⟩
abbrev S1792x1024 : Shape := ⟨2, ![1792, 1024]⟩
abbrev S4096x1024 : Shape := ⟨2, ![4096, 1024]⟩
abbrev S1024x1792 : Shape := ⟨2, ![1024, 1792]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1792, .f32⟩
  | .hbm, ⟨1, _⟩ => ⟨S1792x1024, .bf16⟩
  | .hbm, ⟨2, _⟩ => ⟨S4096x1024, .f32⟩
  | .hbm, ⟨3, _⟩ => ⟨S4096x1024, .f32⟩
  | .local _ .vmem, ⟨0, _⟩ => ⟨S1024x1792, .f32⟩
  | .local _ .vmem, ⟨1, _⟩ => ⟨S1024x1792, .f32⟩
  | .local _ .vmem, ⟨2, _⟩ => ⟨S1792x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x1792 : Shape := ⟨2, ![4096, 1792]⟩
abbrev S1792x1024 : Shape := ⟨2, ![1792, 1024]⟩
abbrev S4096x1024 : Shape := ⟨2, ![4096, 1024]⟩
abbrev S_ : Shape := ⟨0, ![]⟩
abbrev S1024x1792 : Shape := ⟨2, ![1024, 1792]⟩

abbrev nBuf : Space → Nat
  | .hbm => 10
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S1792x1024, .bf16⟩
  | .hbm, ⟨2, _⟩ => ⟨S4096x1024, .f32⟩
  | .hbm, ⟨3, _⟩ => ⟨S1792x1024, .f32⟩
  | .hbm, ⟨4, _⟩ => ⟨S_, .f32⟩
  | .hbm, ⟨5, _⟩ => ⟨S4096x1024, .f32⟩
  | .hbm, ⟨6, _⟩ => ⟨S1024x1792, .f32⟩
  | .hbm, ⟨7, _⟩ => ⟨S4096x1792, .f32⟩
  | .hbm, ⟨8, _⟩ => ⟨S4096x1024, .f32⟩
  | .hbm, ⟨9, _⟩ => ⟨S4096x1024, .f32⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S4096x1536 : Shape := ⟨2, ![4096, 1536]⟩
abbrev S4096x1024 : Shape := ⟨2, ![4096, 1024]⟩
abbrev S1536x1024 : Shape := ⟨2, ![1536, 1024]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S4096x1024, .f32⟩
  | .hbm, ⟨4, _⟩ => ⟨S_, .f32⟩
  | .hbm, ⟨5, _⟩ => ⟨S1536x1024, .f32⟩
  | .hbm, ⟨6, _⟩ => ⟨S1024x1536, .f32⟩
  | .hbm, ⟨7, _⟩ => ⟨S4096x1536, .f32⟩
  | .hbm, ⟨8, _⟩ => ⟨S1536x1024, .f32⟩
  | .hbm, ⟨9, _⟩ => ⟨S1024x1536, .f32⟩
  | .hbm, ⟨10, _⟩ => ⟨S1536x1024, .f32⟩
  | .hbm, ⟨11, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S4096x1536 : Shape := ⟨2, ![4096, 1536]⟩
abbrev S1536x1024 : Shape := ⟨2, ![1536, 1024]⟩
abbrev S4096x1024 : Shape := ⟨2, ![4096, 1024]⟩
abbrev S1024x1536 : Shape := ⟨2, ![1024, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1536 : Shape := ⟨2, ![4096, 1536]⟩
abbrev S1536x1024 : Shape := ⟨2, ![1536, 1024]⟩
abbrev S_ : Shape := ⟨0, ![]⟩
abbrev S4096x1024 : Shape := ⟨2, ![4096, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1536, .f32⟩
  | .hbm, ⟨3, _⟩ => ⟨S1536x1024, .f32⟩
  | .hbm, ⟨4, _⟩ => ⟨S_, .f32⟩
  | .hbm, ⟨5, _⟩ => ⟨S4096x1024, .f32⟩
  | .hbm, ⟨6, _⟩ => ⟨S1024x1536, .f32⟩
  | .hbm, ⟨7, _⟩ => ⟨S4096x1536, .f32⟩
  | .hbm, ⟨8, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .f32⟩
  | .hbm, ⟨3, _⟩ => ⟨S4096x512, .f32⟩
  | .hbm, ⟨4, _⟩ => ⟨S_, .f32⟩
  | .hbm, ⟨5, _⟩ => ⟨S1024x512, .f32⟩
  | .hbm, ⟨6, _⟩ => ⟨S512x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel16.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x512 : Shape := ⟨2, ![1024, 512]⟩
abbrev S_ : Shape := ⟨0, ![]⟩
abbrev S4096x512 : Shape := ⟨2, ![4096, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S_, .f32⟩
  | .hbm, ⟨5, _⟩ => ⟨S4096x512, .f32⟩
  | .hbm, ⟨6, _⟩ => ⟨S512x1024, .f32⟩
  | .hbm, ⟨7, _⟩ => ⟨S4096x1024, .f32⟩
  | .hbm, ⟨8, _⟩ => ⟨S4096x512, .f32⟩
  | .hbm, ⟨9, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Softmax.lean ====
/- One row of softmax attention and its gradient over the extended reals, in the two spellings the programs use, and
   the equation between them for finite scores. -/
module

public import Idealize.ShloMosaic.PureOps.Ideal.Laws

@[expose] public section

noncomputable section

namespace Cert.Softmax

open Idealize.ShloMosaic

variable {K : ℕ}

/-- The largest score of a row. -/
def rowMax (s : Fin K → EReal) : EReal := Finset.univ.fold max ⊥ s

/-- The unnormalised weight of key `j`. -/
def wt (s : Fin K → EReal) (j : Fin K) : EReal := Ideal.exp (s j - rowMax s)

/-- The row's normaliser. -/
def tot (s : Fin K → EReal) : EReal := ∑ j, wt s j

/-- The attention probability of key `j`. -/
def prob (s : Fin K → EReal) (j : Fin K) : EReal := Ideal.div (wt s j) (tot s)

/-- The gradient of the score of key `j` from the gradients `g` of the probabilities, through the probabilities. -/
def dscore (s g : Fin K → EReal) (j : Fin K) : EReal := prob s j * (g j - ∑ l, prob s l * g l)

/-- The same gradient taken through the quotient of weight and normaliser. -/
def dscoreQ (s g : Fin K → EReal) (j : Fin K) : EReal :=
  (Ideal.div (g j) (tot s) + -∑ l, g l * Ideal.div 1 (tot s * tot s) * wt s l) * wt s j

/-- A nonnegative real factor goes into a finite sum of extended reals. -/
theorem coe_mul_sum {ι : Type} (c : ℝ) (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

theorem sum_mul_coe {ι : Type} (c : ℝ) (hc : 0 ≤ c) (t : Finset ι) (f : ι → EReal) :
    (∑ i ∈ t, f i) * (c : EReal) = ∑ i ∈ t, f i * (c : EReal) := by
  rw [mul_comm, coe_mul_sum c hc]; exact Finset.sum_congr rfl fun i _ => mul_comm _ _

/-- The coercion of a finite real sum. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The largest of finitely many finite scores is finite. -/
theorem rowMax_coe (hK : 0 < K) (s : Fin K → ℝ) : ∃ r : ℝ, rowMax (fun j => (s j : EReal)) = r := by
  classical
  have h : ∀ t : Finset (Fin K), t.fold max ⊥ (fun j => (s j : EReal)) = ⊥ ∧ t = ∅
      ∨ ∃ r : ℝ, t.fold max ⊥ (fun j => (s j : EReal)) = r := by
    intro t
    induction t using Finset.induction_on with
    | empty => left; simp
    | insert a t ha ih =>
      right
      rw [Finset.fold_insert ha]
      rcases ih with ⟨h, -⟩ | ⟨r, h⟩
      · exact ⟨s a, by rw [h]; exact max_eq_left bot_le⟩
      · exact ⟨max (s a) r, by rw [h]; exact (EReal.coe_strictMono.monotone.map_max).symm⟩
  rcases h Finset.univ with ⟨-, h⟩ | h
  · exact absurd h (Finset.ne_empty_of_mem (Finset.mem_univ (⟨0, hK⟩ : Fin K)))
  · exact h

/-- With finite scores the weights are positive reals and so is their sum. -/
theorem wt_coe (hK : 0 < K) (s : Fin K → EReal) (hs : ∀ j, ∃ r : ℝ, s j = r) :
    ∃ e : Fin K → ℝ, (∀ j, 0 < e j) ∧ (∀ j, wt s j = e j) ∧ 0 < ∑ j, e j ∧ tot s = ((∑ j, e j : ℝ) : EReal) := by
  choose r hr using hs
  obtain rfl : s = fun j => (r j : EReal) := funext hr
  obtain ⟨M, hM⟩ := rowMax_coe hK r
  have hw : ∀ j, wt (fun j => (r j : EReal)) j = (Real.exp (r j - M) : ℝ) := by
    intro j; rw [wt, hM, ← EReal.coe_sub]; rfl
  refine ⟨fun j => Real.exp (r j - M), fun j => Real.exp_pos _, hw, ?_, ?_⟩
  · exact Finset.sum_pos (fun j _ => Real.exp_pos _) ⟨⟨0, hK⟩, Finset.mem_univ _⟩
  · rw [tot, coe_sum]; exact Finset.sum_congr rfl fun j _ => hw j

/-- With real weights of positive sum the two spellings of the gradient agree, whatever the gradients of the probabilities. -/
theorem dscoreQ_of_wt (s g : Fin K → EReal) (e : Fin K → ℝ) (hw : ∀ j, wt s j = e j) (hS : 0 < ∑ j, e j)
    (ht : tot s = ((∑ j, e j : ℝ) : EReal)) (j : Fin K) : dscoreQ s g j = dscore s g j := by
  set S := ∑ j, e j with hSdef
  have hp : ∀ l, prob s l = ((1 / S * e l : ℝ) : EReal) := by
    intro l; rw [prob, hw, ht, Ideal.div_coe hS.ne', ← EReal.coe_mul, mul_comm]
  have hi : (0 : ℝ) ≤ 1 / S := (one_div_pos.2 hS).le
  have hsum : ∑ l, g l * Ideal.div 1 (tot s * tot s) * wt s l = ((1 / S : ℝ) : EReal) * ∑ l, prob s l * g l := by
    rw [coe_mul_sum _ hi]
    refine Finset.sum_congr rfl fun l _ => ?_
    rw [hp, hw, ht, ← EReal.coe_mul, Ideal.div_coe (mul_pos hS hS).ne', one_mul, mul_assoc, ← EReal.coe_mul,
      ← mul_assoc, ← EReal.coe_mul, mul_comm]
    congr 2; field_simp
  have hn : -(((1 / S : ℝ) : EReal) * ∑ l, prob s l * g l) = ((1 / S : ℝ) : EReal) * -∑ l, prob s l * g l :=
    (mul_neg _ _).symm
  rw [dscoreQ, dscore, hsum, ht, Ideal.div_coe hS.ne', hw, hn, mul_comm (g j),
    ← EReal.left_distrib_of_nonneg_of_ne_top (by exact_mod_cast hi) (EReal.coe_ne_top _), hp, EReal.coe_mul,
    sub_eq_add_neg]
  rw [mul_assoc, mul_comm _ ((e j : ℝ) : EReal), ← mul_assoc]

/-- So they do for finite scores. -/
theorem dscoreQ_eq (hK : 0 < K) (s g : Fin K → EReal) (hs : ∀ j, ∃ r : ℝ, s j = r) (j : Fin K) :
    dscoreQ s g j = dscore s g j := by
  obtain ⟨e, he, hw, hS, ht⟩ := wt_coe hK s hs
  exact dscoreQ_of_wt s g e hw hS ht j

/-- The weights of a row of which some scores are real and the others -∞. -/
theorem wt_masked (s : Fin K → EReal) (S : Fin K → Prop) [DecidablePred S] (x : Fin K → ℝ) (hs : ∀ j, s j = if S j then (x j : EReal) else ⊥)
    (j₀ : Fin K) (h₀ : S j₀) :
    ∃ μ : ℝ, rowMax s = μ ∧ (∀ j, wt s j = ((if S j then Real.exp (x j - μ) else 0 : ℝ) : EReal))
      ∧ 0 < ∑ j, (if S j then Real.exp (x j - μ) else 0)
      ∧ tot s = ((∑ j, (if S j then Real.exp (x j - μ) else 0) : ℝ) : EReal) := by
  have hle : ∀ j, s j ≤ rowMax s := fun j => by
    unfold rowMax; exact (Finset.le_fold_max (s j)).mpr (.inr ⟨j, Finset.mem_univ j, le_rfl⟩)
  have hbot : rowMax s ≠ ⊥ := fun e => by
    have := hle j₀
    rw [e, hs, if_pos h₀] at this
    exact absurd (le_bot_iff.mp this) (EReal.coe_ne_bot _)
  have htop : rowMax s ≠ ⊤ := by
    refine ne_of_lt ?_
    unfold rowMax
    refine (Finset.fold_max_lt ⊤).mpr ⟨bot_lt_top, fun j _ => ?_⟩
    rw [hs]; split
    · exact EReal.coe_lt_top _
    · exact bot_lt_top
  obtain ⟨μ, hμ⟩ : ∃ μ : ℝ, rowMax s = μ := ⟨_, (EReal.coe_toReal htop hbot).symm⟩
  have hw : ∀ j, wt s j = ((if S j then Real.exp (x j - μ) else 0 : ℝ) : EReal) := by
    intro j
    rw [wt, hμ, hs]
    split
    · rw [← EReal.coe_sub]; rfl
    · rw [EReal.bot_sub]; rfl
  refine ⟨μ, hμ, hw, ?_, ?_⟩
  · refine Finset.sum_pos' (fun j _ => ?_) ⟨j₀, Finset.mem_univ _, ?_⟩
    · split
      · exact (Real.exp_pos _).le
      · exact le_rfl
    · rw [if_pos h₀]; exact Real.exp_pos _
  · rw [tot, coe_sum]; exact Finset.sum_congr rfl fun j _ => hw j

/-- Its probabilities. -/
theorem prob_masked (s : Fin K → EReal) (S : Fin K → Prop) [DecidablePred S] (x : Fin K → ℝ) (hs : ∀ j, s j = if S j then (x j : EReal) else ⊥)
    (j₀ : Fin K) (h₀ : S j₀) (j : Fin K) :
    prob s j = ((if S j then Real.exp (x j) / ∑ l, (if S l then Real.exp (x l) else 0) else 0 : ℝ) : EReal) := by
  obtain ⟨μ, -, hw, hp, ht⟩ := wt_masked s S x hs j₀ h₀
  rw [prob, hw, ht, Ideal.div_coe hp.ne', ← EReal.coe_mul]
  congr 1
  have e : ∑ l, (if S l then Real.exp (x l - μ) else 0) = (∑ l, (if S l then Real.exp (x l) else 0)) / Real.exp μ := by
    rw [Finset.sum_div]
    refine Finset.sum_congr rfl fun l _ => ?_
    split
    · exact Real.exp_sub _ _
    · rw [zero_div]
  rw [e]
  have := Real.exp_pos μ
  split
  · rw [Real.exp_sub, one_div_div, div_mul_div_comm, mul_comm, mul_div_mul_left _ _ this.ne']
  · rw [zero_mul]

/-- The log of its sum of exponentials. -/
theorem lse_masked (s : Fin K → EReal) (S : Fin K → Prop) [DecidablePred S] (x : Fin K → ℝ) (hs : ∀ j, s j = if S j then (x j : EReal) else ⊥)
    (j₀ : Fin K) (h₀ : S j₀) :
    rowMax s + Ideal.log (tot s) = ((Real.log (∑ l, (if S l then Real.exp (x l) else 0)) : ℝ) : EReal) := by
  obtain ⟨μ, hμ, hw, hp, ht⟩ := wt_masked s S x hs j₀ h₀
  have e : ∑ l, (if S l then Real.exp (x l) else 0) = Real.exp μ * ∑ l, (if S l then Real.exp (x l - μ) else 0) := by
    rw [Finset.mul_sum]
    refine Finset.sum_congr rfl fun l _ => ?_
    split
    · rw [← Real.exp_add]; congr 1; ring
    · rw [mul_zero]
  rw [hμ, ht, e, Real.log_mul (Real.exp_pos μ).ne' hp.ne', Real.log_exp, EReal.coe_add]
  exact congrArg _ (if_neg (not_le.mpr hp))

end Cert.Softmax

end
-- ==== Proof.MemHead.lean ====
/- What the memory-attention gradient's body computes for one head of one block, each stored value read at an index as
   a sum over the row-wise functions of `Softmax.lean`. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Hand

open Cert.KernelIdeal Cert.KernelIdeal.Gen Idealize.ShloMosaic Cert.Softmax

/-- The factor the scores are scaled by. -/
def sc : EReal := Ideal.ofBits .f32 0x3DB504F3#32

theorem sc_coe : ∃ r : ℝ, 0 ≤ r ∧ sc = (r : EReal) := by
  refine ⟨(11863283 : ℝ) * 2 ^ (-27 : ℤ), by positivity, ?_⟩
  simp [sc, Ideal.ofBits, Ideal.ieee, -EReal.coe_mul]

theorem negInf : Ideal.ofBits .f32 0xFF800000#32 = ⊥ := by simp [Ideal.ofBits, Ideal.ieee]

variable {R K D : ℕ}

/-- The scaled scores of one query row against every key row. -/
def score (q : Fin D → EReal) (k : Fin K → Fin D → EReal) (j : Fin K) : EReal := (∑ d, q d * k j d) * sc

/-- The gradients of one query row's probabilities. -/
def gprob (o : Fin D → EReal) (v : Fin K → Fin D → EReal) (j : Fin K) : EReal := ∑ d, o d * v j d

/-- The score gradients of one query row. -/
def ds (q o : Fin D → EReal) (k v : Fin K → Fin D → EReal) (j : Fin K) : EReal :=
  dscore (score q k) (gprob o v) j

/-- One head's query gradient at row `i`, lane `d`. -/
def dqHead (q o : Fin R → Fin D → EReal) (k v : Fin K → Fin D → EReal) (i : Fin R) (d : Fin D) : EReal :=
  (∑ j, ds (q i) (o i) k v j * k j d) * sc

/-- What the given query rows add to one head's key gradient. -/
def dkHead (q o : Fin R → Fin D → EReal) (k v : Fin K → Fin D → EReal) (j : Fin K) (d : Fin D) : EReal :=
  (∑ i, ds (q i) (o i) k v j * q i d) * sc

/-- What the given query rows add to one head's value gradient. -/
def dvHead (q o : Fin R → Fin D → EReal) (k : Fin K → Fin D → EReal) (j : Fin K) (d : Fin D) : EReal :=
  ∑ i, prob (score (q i) k) j * o i d

/-- A matrix as a function of row and column. -/
def mat {R D : ℕ} (x : (⟨2, ![R, D]⟩ : Shape).Idx → EReal) : Fin R → Fin D → EReal := fun i d => x (ix2 i d)

variable (q o : Vec Ideal S512x128 .bf16) (k v : Vec Ideal S256x128 .bf16) (a : Vec Ideal S256x128 .f32)

theorem pay4 (i : Fin 512) (j : Fin 256) : k0_pay4 (F := Ideal) q k (ix2 i j) = prob (score (mat q i) (mat k)) j := by
  pointwise [k0_pay4]
  rw [negInf]; rfl

theorem pay5 (i : Fin 512) (j : Fin 256) :
    k0_pay5 (F := Ideal) q k v o (ix2 i j) = ds (mat q i) (mat o i) (mat k) (mat v) j := by
  pointwise [k0_pay5]
  simp only [pay4]; rfl

theorem pay6 (x : S512x128.Idx) :
    k0_pay6 (F := Ideal) q k v o x = dqHead (mat q) (mat o) (mat k) (mat v) (x 0) (x 1) := by
  idx_vars x
  pointwise [k0_pay6]
  simp only [pay5]; rfl

theorem pay8 (x : S256x128.Idx) :
    k0_pay8 (F := Ideal) q (k0_pay5 q k v o) a x = a x + dkHead (mat q) (mat o) (mat k) (mat v) (x 0) (x 1) := by
  idx_vars x
  pointwise [k0_pay8]
  simp only [pay5]; rfl

theorem pay9 (x : S256x128.Idx) :
    k0_pay9 (F := Ideal) o (k0_pay4 q k) a x = a x + dvHead (mat q) (mat o) (mat k) (x 0) (x 1) := by
  idx_vars x
  pointwise [k0_pay9]
  simp only [pay4]; rfl

theorem pay7 : k0_pay7 (F := Ideal) a = a := by
  funext x; idx_vars x; pointwise [k0_pay7]

theorem pay2 (x : S256x512.Idx) : k0_pay2 (F := Ideal) x = 0 := by pointwise [k0_pay2]

theorem pay3 (x : S256x512.Idx) : k0_pay3 (F := Ideal) x = 0 := by pointwise [k0_pay3]

/-! The other heads' stores are the same operations, cut into named values at other places. -/

theorem dq1 : k0_pay12 (F := Ideal) k (k0_pay11 q k v o) = k0_pay6 q k v o := rfl
theorem dq2 : k0_pay18 (F := Ideal) k v o (k0_pay15 q k) = k0_pay6 q k v o := rfl
theorem dq3 : k0_pay23 (F := Ideal) q k v o = k0_pay6 q k v o := rfl

theorem dk1 : k0_pay13 (F := Ideal) q (k0_pay11 q k v o) a = k0_pay8 q (k0_pay5 q k v o) (k0_pay7 a) := rfl
theorem dk2 : k0_pay19 (F := Ideal) q v o (k0_pay15 q k) a = k0_pay8 q (k0_pay5 q k v o) (k0_pay7 a) := rfl
theorem dk3 : k0_pay24 (F := Ideal) q k v o a = k0_pay8 q (k0_pay5 q k v o) (k0_pay7 a) := rfl

theorem dv1 : k0_pay14 (F := Ideal) o (k0_pay10 q k) a = k0_pay9 o (k0_pay4 q k) a := rfl
theorem dv2 : k0_pay20 (F := Ideal) o (k0_pay15 q k) a = k0_pay9 o (k0_pay4 q k) a := rfl
theorem dv3 : k0_pay1 (F := Ideal) o (k0_pay21 q k) (k0_pay25 a) = k0_pay9 o (k0_pay4 q k) a := rfl

end Cert.KernelIdeal.Hand

end
-- ==== Proof.MemPoint.lean ====
/- What one grid point of the memory-attention gradient leaves in its three output blocks. -/
module

public import proofs.«01_k».proof.Proof.Gen.KernelIdeal.Value
public import proofs.«01_k».proof.Proof.MemHead
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem Cert.Softmax

/-- Head `h` of a matrix of four heads of 128 lanes side by side. -/
def head {R : ℕ} (x : (⟨2, ![R, 512]⟩ : Shape).Idx → EReal) (h : Fin 4) : Fin R → Fin 128 → EReal :=
  fun i d => x (ix2 i ⟨h.val * 128 + d.val, by omega⟩)

/-- The head and the lane of a column. -/
def hd (n : Fin 512) : Fin 4 := ⟨n.val / 128, by omega⟩
def ln (n : Fin 512) : Fin 128 := ⟨n.val % 128, by omega⟩

theorem mat_ld {R : ℕ} (x : Vec Ideal (⟨2, ![R, 512]⟩ : Shape) .bf16) (h : Fin 4) (off : ℕ) (ho : off = h.val * 128) (inb) :
    mat (R := R) (D := 128) (View.ld x (Rect.unit ![0, off] ![R, 128] inb)) = head x h := by
  funext i d
  refine congrArg x ?_
  funext a; refine Fin.ext ?_
  match a with
  | ⟨0, _⟩ => show 0 + 1 * i.val = i.val; omega
  | ⟨1, _⟩ => show off + 1 * d.val = h.val * 128 + d.val; omega

theorem hd_ln (n : Fin 512) (h : Fin 4) (d : Fin 128) (e : n.val = h.val * 128 + d.val) : hd n = h ∧ ln n = d :=
  ⟨Fin.ext (by simp only [hd]; omega), Fin.ext (by simp only [ln]; omega)⟩

/-- The query gradients of a block of 512 rows. -/
def dqBlk (Q O : Vec Ideal S512x512 .bf16) (K V : Vec Ideal S256x512 .bf16) (y : S512x512.Idx) : EReal :=
  dqHead (head Q (hd (y 1))) (head O (hd (y 1))) (head K (hd (y 1))) (head V (hd (y 1))) (y 0) (ln (y 1))

/-- What a block of 512 rows adds to the key gradients. -/
def dkBlk (Q O : Vec Ideal S512x512 .bf16) (K V : Vec Ideal S256x512 .bf16) (y : S256x512.Idx) : EReal :=
  dkHead (head Q (hd (y 1))) (head O (hd (y 1))) (head K (hd (y 1))) (head V (hd (y 1))) (y 0) (ln (y 1))

/-- What a block of 512 rows adds to the value gradients. -/
def dvBlk (Q O : Vec Ideal S512x512 .bf16) (K : Vec Ideal S256x512 .bf16) (y : S256x512.Idx) : EReal :=
  dvHead (head Q (hd (y 1))) (head O (hd (y 1))) (head K (hd (y 1))) (y 0) (ln (y 1))

theorem dq_piece (Q O : Vec Ideal S512x512 .bf16) (K V : Vec Ideal S256x512 .bf16) (h : Fin 4) (off : ℕ)
    (ho : off = h.val * 128) (i1 i2) (x : S512x128.Idx) (y : S512x512.Idx) (h0 : (y 0).val = (x 0).val)
    (h1 : (y 1).val = off + (x 1).val) :
    k0_pay6 (F := Ideal) (View.ld Q (Rect.unit ![0, off] ![512, 128] i1)) (View.ld K (Rect.unit ![0, off] ![256, 128] i2))
      (View.ld V (Rect.unit ![0, off] ![256, 128] i2)) (View.ld O (Rect.unit ![0, off] ![512, 128] i1)) x
      = dqBlk Q O K V y := by
  subst ho
  obtain ⟨e1, e2⟩ := hd_ln (y 1) h (x 1) h1
  rw [pay6, mat_ld Q h _ rfl, mat_ld O h _ rfl, mat_ld K h _ rfl, mat_ld V h _ rfl, dqBlk, e1, e2]
  exact congrArg (fun i => dqHead _ _ _ _ i _) (Fin.ext h0.symm)

theorem dk_piece (Q O : Vec Ideal S512x512 .bf16) (K V : Vec Ideal S256x512 .bf16) (h : Fin 4) (off : ℕ)
    (ho : off = h.val * 128) (i1 i2) (acc : Vec Ideal S256x128 .f32) (x : S256x128.Idx) (y : S256x512.Idx)
    (h0 : (y 0).val = (x 0).val) (h1 : (y 1).val = off + (x 1).val) :
    k0_pay8 (F := Ideal) (View.ld Q (Rect.unit ![0, off] ![512, 128] i1))
        (k0_pay5 (View.ld Q (Rect.unit ![0, off] ![512, 128] i1)) (View.ld K (Rect.unit ![0, off] ![256, 128] i2))
          (View.ld V (Rect.unit ![0, off] ![256, 128] i2)) (View.ld O (Rect.unit ![0, off] ![512, 128] i1))) acc x
      = acc x + dkBlk Q O K V y := by
  subst ho
  obtain ⟨e1, e2⟩ := hd_ln (y 1) h (x 1) h1
  rw [pay8, mat_ld Q h _ rfl, mat_ld O h _ rfl, mat_ld K h _ rfl, mat_ld V h _ rfl, dkBlk, e1, e2]
  exact congrArg (fun i => acc x + dkHead _ _ _ _ i _) (Fin.ext h0.symm)

theorem dv_piece (Q O : Vec Ideal S512x512 .bf16) (K : Vec Ideal S256x512 .bf16) (h : Fin 4) (off : ℕ)
    (ho : off = h.val * 128) (i1 i2) (acc : Vec Ideal S256x128 .f32) (x : S256x128.Idx) (y : S256x512.Idx)
    (h0 : (y 0).val = (x 0).val) (h1 : (y 1).val = off + (x 1).val) :
    k0_pay9 (F := Ideal) (View.ld O (Rect.unit ![0, off] ![512, 128] i1))
        (k0_pay4 (View.ld Q (Rect.unit ![0, off] ![512, 128] i1)) (View.ld K (Rect.unit ![0, off] ![256, 128] i2))) acc x
      = acc x + dvBlk Q O K y := by
  subst ho
  obtain ⟨e1, e2⟩ := hd_ln (y 1) h (x 1) h1
  rw [pay9, mat_ld Q h _ rfl, mat_ld O h _ rfl, mat_ld K h _ rfl, dvBlk, e1, e2]
  exact congrArg (fun i => acc x + dvHead _ _ _ i _) (Fin.ext h0.symm)

/-- A slice of 128 columns, read at the place that `y` names in the whole. -/
theorem ld_at {e : EltTy} (P : Vec Ideal S256x512 e) (off : ℕ) (i2) (x : S256x128.Idx) (y : S256x512.Idx)
    (h0 : (y 0).val = (x 0).val) (h1 : (y 1).val = off + (x 1).val) :
    View.ld P (Rect.unit ![0, off] ![256, 128] i2) x = P y := by
  refine congrArg P ?_
  funext a; refine Fin.ext ?_
  match a with
  | ⟨0, _⟩ => show 0 + 1 * (x 0).val = (y 0).val; omega
  | ⟨1, _⟩ => show off + 1 * (x 1).val = (y 1).val; omega

theorem emb0 (off : ℕ) (i2) (x : S256x128.Idx) :
    (((Rect.unit (s := S256x512) ![0, off] ![256, 128] i2).emb x) 0).val = (x 0).val := by
  show 0 + 1 * (x 0).val = _; omega

theorem emb1 (off : ℕ) (i2) (x : S256x128.Idx) :
    (((Rect.unit (s := S256x512) ![0, off] ![256, 128] i2).emb x) 1).val = off + (x 1).val := by
  show off + 1 * (x 1).val = _; omega

variable (m : (ℓ : Loc nD τ sig) → Buf (Elt Ideal) ℓ)

theorem dq_A (c : Dev nD) (t : Fin cfg0.N) (h0 : t.val % 4 = 0) (y : S512x512.Idx) :
    (outsAt0 m c t.val t.isLt).1 y = dqBlk (iblk m c 0 t) (iblk m c 3 t) (iblk m c 1 t) (iblk m c 2 t) y := by
  rw [outsAt0_A m c t h0]; frame_out
  canon_tiles x h
  · rw [dq3]; exact dq_piece _ _ _ _ 3 384 rfl _ _ x y h0 h1
  · rw [dq2]; exact dq_piece _ _ _ _ 2 256 rfl _ _ x y h0 h1
  · rw [dq1]; exact dq_piece _ _ _ _ 1 128 rfl _ _ x y h0 h1
  · exact dq_piece _ _ _ _ 0 0 rfl _ _ x y h0 (h1.trans (Nat.zero_add _).symm)

theorem dq_B (c : Dev nD) (t : Fin cfg0.N) (h0 : ¬ t.val % 4 = 0) (y : S512x512.Idx) :
    (outsAt0 m c t.val t.isLt).1 y = dqBlk (iblk m c 0 t) (iblk m c 3 t) (iblk m c 1 t) (iblk m c 2 t) y := by
  rw [outsAt0_B m c t h0]; frame_out
  canon_tiles x h
  · rw [dq3]; exact dq_piece _ _ _ _ 3 384 rfl _ _ x y h0 h1
  · rw [dq2]; exact dq_piece _ _ _ _ 2 256 rfl _ _ x y h0 h1
  · rw [dq1]; exact dq_piece _ _ _ _ 1 128 rfl _ _ x y h0 h1
  · exact dq_piece _ _ _ _ 0 0 rfl _ _ x y h0 (h1.trans (Nat.zero_add _).symm)

theorem dk_A (c : Dev nD) (t : Fin cfg0.N) (h0 : t.val % 4 = 0) (y : S256x512.Idx) :
    (outsAt0 m c t.val t.isLt).2.1 y = 0 + dkBlk (iblk m c 0 t) (iblk m c 3 t) (iblk m c 1 t) (iblk m c 2 t) y := by
  rw [outsAt0_A m c t h0]; frame_out
  simp (disch := decide) only [↓ View.readCov_skip, ↓ View.readCov_cons_toLoadRect, ↓ View.readCov_fill]
  refine View.canon_append_of_piecesOf (Val := Elt Ideal) (s := S256x512) (e := .f32) (fun y : S256x512.Idx => 0 + dkBlk (iblk m c 0 t) (iblk m c 3 t) (iblk m c 1 t) (iblk m c 2 t) y) [_] [_, _, _, _] ⟨fun x => ?_, fun x => ?_, fun x => ?_, fun x => ?_, trivial⟩ y ?_
  · dsimp only; rw [dk3, pay7]; exact (dk_piece _ _ _ _ 3 384 rfl _ _ _ x _ (emb0 384 _ x) (emb1 384 _ x)).trans (congrArg (· + _) (pay2 _))
  · dsimp only; rw [dk2, pay7]; exact (dk_piece _ _ _ _ 2 256 rfl _ _ _ x _ (emb0 256 _ x) (emb1 256 _ x)).trans (congrArg (· + _) (pay2 _))
  · dsimp only; rw [dk1, pay7]; exact (dk_piece _ _ _ _ 1 128 rfl _ _ _ x _ (emb0 128 _ x) (emb1 128 _ x)).trans (congrArg (· + _) (pay2 _))
  · dsimp only; rw [pay7]; exact (dk_piece _ _ _ _ 0 0 rfl _ _ _ x _ (emb0 0 _ x) (emb1 0 _ x)).trans (congrArg (· + _) (pay2 _))
  · exact View.cover_of_tiledL _ ![256, 128] rfl y

theorem dk_B (c : Dev nD) (t : Fin cfg0.N) (h0 : ¬ t.val % 4 = 0) (y : S256x512.Idx) :
    (outsAt0 m c t.val t.isLt).2.1 y
      = (outsAt0 m c (t.val - 1) (Nat.lt_of_le_of_lt (Nat.sub_le _ _) t.isLt)).2.1 y
        + dkBlk (iblk m c 0 t) (iblk m c 3 t) (iblk m c 1 t) (iblk m c 2 t) y := by
  rw [outsAt0_B m c t h0]; frame_out
  canon_tiles x h
  · rw [dk3, pay7]; exact (dk_piece _ _ _ _ 3 384 rfl _ _ _ x y h0 h1).trans (congrArg (· + _) (ld_at _ 384 _ x y h0 h1))
  · rw [dk2, pay7]; exact (dk_piece _ _ _ _ 2 256 rfl _ _ _ x y h0 h1).trans (congrArg (· + _) (ld_at _ 256 _ x y h0 h1))
  · rw [dk1, pay7]; exact (dk_piece _ _ _ _ 1 128 rfl _ _ _ x y h0 h1).trans (congrArg (· + _) (ld_at _ 128 _ x y h0 h1))
  · rw [pay7]; exact (dk_piece _ _ _ _ 0 0 rfl _ _ _ x y h0 (h1.trans (Nat.zero_add _).symm)).trans (congrArg (· + _) (ld_at _ 0 _ x y h0 (h1.trans (Nat.zero_add _).symm)))

theorem dv_A (c : Dev nD) (t : Fin cfg0.N) (h0 : t.val % 4 = 0) (y : S256x512.Idx) :
    (outsAt0 m c t.val t.isLt).2.2 y = 0 + dvBlk (iblk m c 0 t) (iblk m c 3 t) (iblk m c 1 t) y := by
  rw [outsAt0_A m c t h0]; frame_out
  simp (disch := decide) only [↓ View.readCov_skip, ↓ View.readCov_cons_toLoadRect, ↓ View.readCov_fill]
  refine View.canon_append_of_piecesOf (Val := Elt Ideal) (s := S256x512) (e := .f32) (fun y : S256x512.Idx => 0 + dvBlk (iblk m c 0 t) (iblk m c 3 t) (iblk m c 1 t) y) [_] [_, _, _, _] ⟨fun x => ?_, fun x => ?_, fun x => ?_, fun x => ?_, trivial⟩ y ?_
  · dsimp only; rw [dv3]; exact (dv_piece _ _ _ 3 384 rfl _ _ _ x _ (emb0 384 _ x) (emb1 384 _ x)).trans (congrArg (· + _) (pay3 _))
  · dsimp only; rw [dv2]; exact (dv_piece _ _ _ 2 256 rfl _ _ _ x _ (emb0 256 _ x) (emb1 256 _ x)).trans (congrArg (· + _) (pay3 _))
  · dsimp only; rw [dv1]; exact (dv_piece _ _ _ 1 128 rfl _ _ _ x _ (emb0 128 _ x) (emb1 128 _ x)).trans (congrArg (· + _) (pay3 _))
  · dsimp only; exact (dv_piece _ _ _ 0 0 rfl _ _ _ x _ (emb0 0 _ x) (emb1 0 _ x)).trans (congrArg (· + _) (pay3 _))
  · exact View.cover_of_tiledL _ ![256, 128] rfl y

theorem dv_B (c : Dev nD) (t : Fin cfg0.N) (h0 : ¬ t.val % 4 = 0) (y : S256x512.Idx) :
    (outsAt0 m c t.val t.isLt).2.2 y
      = (outsAt0 m c (t.val - 1) (Nat.lt_of_le_of_lt (Nat.sub_le _ _) t.isLt)).2.2 y
        + dvBlk (iblk m c 0 t) (iblk m c 3 t) (iblk m c 1 t) y := by
  rw [outsAt0_B m c t h0]; frame_out
  canon_tiles x h
  · rw [dv3]; exact (dv_piece _ _ _ 3 384 rfl _ _ _ x y h0 h1).trans (congrArg (· + _) (ld_at _ 384 _ x y h0 h1))
  · rw [dv2]; exact (dv_piece _ _ _ 2 256 rfl _ _ _ x y h0 h1).trans (congrArg (· + _) (ld_at _ 256 _ x y h0 h1))
  · rw [dv1]; exact (dv_piece _ _ _ 1 128 rfl _ _ _ x y h0 h1).trans (congrArg (· + _) (ld_at _ 128 _ x y h0 h1))
  · exact (dv_piece _ _ _ 0 0 rfl _ _ _ x y h0 (h1.trans (Nat.zero_add _).symm)).trans (congrArg (· + _) (ld_at _ 0 _ x y h0 (h1.trans (Nat.zero_add _).symm)))

end Cert.KernelIdeal.Hand

end
-- ==== Proof.MemArray.lean ====
/- What the three output arrays of the memory-attention gradient hold after the run, over the exact values. -/
module

public import proofs.«01_k».proof.Proof.MemPoint

@[expose] public section

set_option maxRecDepth 16384

noncomputable section

namespace Cert.KernelIdeal.Hand

open Cert.KernelIdeal Cert.KernelIdeal.Gen Idealize.ShloMosaic Idealize.ShloMosaic.TcCoe Idealize.SL.Sem Cert.Softmax

/-- Batch `b`, head `h` of a matrix of two batches of 2048 rows. -/
def rows (x : S4096x512.Idx → EReal) (b : Fin 2) (h : Fin 4) : Fin 2048 → Fin 128 → EReal :=
  fun i d => x (ix2 ⟨b.val * 2048 + i.val, by omega⟩ ⟨h.val * 128 + d.val, by omega⟩)

/-- Batch `b`, head `h` of the keys, the left half of the memory. -/
def keys (x : S512x1024.Idx → EReal) (b : Fin 2) (h : Fin 4) : Fin 256 → Fin 128 → EReal :=
  fun j d => x (ix2 ⟨b.val * 256 + j.val, by omega⟩ ⟨h.val * 128 + d.val, by omega⟩)

/-- Batch `b`, head `h` of the values, the right half of the memory. -/
def vals (x : S512x1024.Idx → EReal) (b : Fin 2) (h : Fin 4) : Fin 256 → Fin 128 → EReal :=
  fun j d => x (ix2 ⟨b.val * 256 + j.val, by omega⟩ ⟨512 + (h.val * 128 + d.val), by omega⟩)

/-- The batch and the row in it of a row of 4096, and of a row of 512. -/
def bq (n : Fin 4096) : Fin 2 := ⟨n.val / 2048, by omega⟩
def rq (n : Fin 4096) : Fin 2048 := ⟨n.val % 2048, by omega⟩
def bk (n : Fin 512) : Fin 2 := ⟨n.val / 256, by omega⟩
def rk (n : Fin 512) : Fin 256 := ⟨n.val % 256, by omega⟩

/-- The three gradients as arrays. -/
def dqRef (q o : S4096x512.Idx → EReal) (kv : S512x1024.Idx → EReal) (y : S4096x512.Idx) : EReal :=
  dqHead (rows q (bq (y 0)) (hd (y 1))) (rows o (bq (y 0)) (hd (y 1))) (keys kv (bq (y 0)) (hd (y 1)))
    (vals kv (bq (y 0)) (hd (y 1))) (rq (y 0)) (ln (y 1))

def dkRef (q o : S4096x512.Idx → EReal) (kv : S512x1024.Idx → EReal) (y : S512x512.Idx) : EReal :=
  dkHead (rows q (bk (y 0)) (hd (y 1))) (rows o (bk (y 0)) (hd (y 1))) (keys kv (bk (y 0)) (hd (y 1)))
    (vals kv (bk (y 0)) (hd (y 1))) (rk (y 0)) (ln (y 1))

def dvRef (q o : S4096x512.Idx → EReal) (kv : S512x1024.Idx → EReal) (y : S512x512.Idx) : EReal :=
  dvHead (rows q (bk (y 0)) (hd (y 1))) (rows o (bk (y 0)) (hd (y 1))) (keys kv (bk (y 0)) (hd (y 1))) (rk (y 0)) (ln (y 1))

/-- The blocks that each grid point takes. -/
theorem idx : ∀ t : Fin cfg0.N, win0_0.index t = ![t.val, 0] ∧ win0_1.index t = ![t.val / 4, 0] ∧ win0_2.index t = ![t.val / 4, 1]
    ∧ win0_3.index t = ![t.val, 0] ∧ win0_4.index t = ![t.val, 0] ∧ win0_5.index t = ![t.val / 4, 0] ∧ win0_6.index t = ![t.val / 4, 0] :=
  (by decide +kernel : ∀ t : Fin grid0.N, _)

variable (m : (ℓ : Loc nD τ sig) → Buf (Elt Ideal) ℓ)

theorem N8 : cfg0.N = 8 := by decide +kernel

/-- The rows of point `t`'s query block. -/
theorem head_q (c : Dev nD) (t : Fin cfg0.N) (h : Fin 4) (i : Fin 512) (b : Fin 2) (r : Fin 2048) (hb : b.val = t.val / 4)
    (hr : r.val = t.val % 4 * 512 + i.val) :
    head (R := 512) (iblk m c 0 t) h i = rows (m ((c : Thread nD τ).loc main_arg0)) b h r := by
  funext d
  have := N8
  have := t.isLt
  simp only [head, rows]
  blk_point [iblk, V, idx t]

theorem head_o (c : Dev nD) (t : Fin cfg0.N) (h : Fin 4) (i : Fin 512) (b : Fin 2) (r : Fin 2048) (hb : b.val = t.val / 4)
    (hr : r.val = t.val % 4 * 512 + i.val) :
    head (R := 512) (iblk m c 3 t) h i = rows (m ((c : Thread nD τ).loc main_arg2)) b h r := by
  funext d
  have := N8
  have := t.isLt
  simp only [head, rows]
  blk_point [iblk, V, idx t]

theorem head_k (c : Dev nD) (t : Fin cfg0.N) (h : Fin 4) (b : Fin 2) (hb : b.val = t.val / 4) :
    head (R := 256) (iblk m c 1 t) h = keys (m ((c : Thread nD τ).loc main_arg1)) b h := by
  funext j d
  simp only [head, keys]
  blk_point [iblk, V, idx t]

theorem head_v (c : Dev nD) (t : Fin cfg0.N) (h : Fin 4) (b : Fin 2) (hb : b.val = t.val / 4) :
    head (R := 256) (iblk m c 2 t) h = vals (m ((c : Thread nD τ).loc main_arg1)) b h := by
  funext j d
  simp only [head, vals]
  blk_point [iblk, V, idx t]

/-- Point `t`'s query gradients are rows of the whole query gradient. -/
theorem dqBlk_eq (c : Dev nD) (t : Fin cfg0.N) (y : S512x512.Idx) (z : S4096x512.Idx) (h0 : (z 0).val = t.val * 512 + (y 0).val)
    (h1 : (z 1).val = (y 1).val) :
    dqBlk (iblk m c 0 t) (iblk m c 3 t) (iblk m c 1 t) (iblk m c 2 t) y
      = dqRef (m ((c : Thread nD τ).loc main_arg0)) (m ((c : Thread nD τ).loc main_arg2)) (m ((c : Thread nD τ).loc main_arg1)) z := by
  have e : y 1 = z 1 := Fin.ext h1.symm
  have hy := (y 0).isLt
  have hb : (bq (z 0)).val = t.val / 4 := by show (z 0).val / 2048 = _; change (y 0).val < 512 at hy; omega
  have hr : (rq (z 0)).val = t.val % 4 * 512 + (y 0).val := by show (z 0).val % 2048 = _; change (y 0).val < 512 at hy; omega
  unfold dqBlk dqRef dqHead
  rw [head_k m c t _ _ hb, head_v m c t _ _ hb, head_q m c t _ (y 0) _ _ hb hr, head_o m c t _ (y 0) _ _ hb hr, e]

/-- The query gradient's array after the run. -/
theorem arr4 (c : Dev nD) : (dats m 0 c).arrAt 4 cfg0.N
    = dqRef (m ((c : Thread nD τ).loc main_arg0)) (m ((c : Thread nD τ).loc main_arg2)) (m ((c : Thread nD τ).loc main_arg1)) := by
  refine (dats m 0 c).arrAt_eq_of_covers 4 _ (by decide +kernel) fun t hf y => ?_
  have e : (outsAt0 m c t.val t.isLt).1 y = dqBlk (iblk m c 0 t) (iblk m c 3 t) (iblk m c 1 t) (iblk m c 2 t) y := by
    by_cases h0 : t.val % 4 = 0
    · exact dq_A m c t h0 y
    · exact dq_B m c t h0 y
  blk_simp
  rw [after0_4]
  refine e.trans (dqBlk_eq m c t y _ ?_ ?_)
  · blk_simp [idx t]
  · blk_simp [idx t]

/-- What one query row adds to an entry of the key gradients, and of the value gradients. -/
def dkTerm (q o : S4096x512.Idx → EReal) (kv : S512x1024.Idx → EReal) (b : Fin 2) (j : Fin 256) (n : Fin 512) (i : Fin 2048) : EReal :=
  ds (rows q b (hd n) i) (rows o b (hd n) i) (keys kv b (hd n)) (vals kv b (hd n)) j * rows q b (hd n) i (ln n)

def dvTerm (q o : S4096x512.Idx → EReal) (kv : S512x1024.Idx → EReal) (b : Fin 2) (j : Fin 256) (n : Fin 512) (i : Fin 2048) : EReal :=
  prob (score (rows q b (hd n) i) (keys kv b (hd n))) j * rows o b (hd n) i (ln n)

/-- What point `t` adds to the key gradients. -/
theorem dkBlk_eq (c : Dev nD) (t : Fin cfg0.N) (s : Fin 4) (b : Fin 2) (hb : b.val = t.val / 4) (hs : s.val = t.val % 4)
    (y : S256x512.Idx) :
    dkBlk (iblk m c 0 t) (iblk m c 3 t) (iblk m c 1 t) (iblk m c 2 t) y
      = (∑ i : Fin 512, dkTerm (m ((c : Thread nD τ).loc main_arg0)) (m ((c : Thread nD τ).loc main_arg2))
            (m ((c : Thread nD τ).loc main_arg1)) b (y 0) (y 1) ⟨s.val * 512 + i.val, by omega⟩) * sc := by
  unfold dkTerm dkBlk dkHead
  rw [head_k m c t _ _ hb, head_v m c t _ _ hb]
  refine congrArg (· * sc) (Finset.sum_congr rfl fun i _ => ?_)
  rw [head_q m c t _ i b ⟨s.val * 512 + i.val, by omega⟩ hb (by show s.val * 512 + i.val = _; rw [hs]),
    head_o m c t _ i b ⟨s.val * 512 + i.val, by omega⟩ hb (by show s.val * 512 + i.val = _; rw [hs])]

/-- What point `t` adds to the value gradients. -/
theorem dvBlk_eq (c : Dev nD) (t : Fin cfg0.N) (s : Fin 4) (b : Fin 2) (hb : b.val = t.val / 4) (hs : s.val = t.val % 4)
    (y : S256x512.Idx) :
    dvBlk (iblk m c 0 t) (iblk m c 3 t) (iblk m c 1 t) y
      = ∑ i : Fin 512, dvTerm (m ((c : Thread nD τ).loc main_arg0)) (m ((c : Thread nD τ).loc main_arg2))
            (m ((c : Thread nD τ).loc main_arg1)) b (y 0) (y 1) ⟨s.val * 512 + i.val, by omega⟩ := by
  unfold dvTerm dvBlk dvHead
  rw [head_k m c t _ _ hb]
  refine Finset.sum_congr rfl fun i _ => ?_
  rw [head_q m c t _ i b ⟨s.val * 512 + i.val, by omega⟩ hb (by show s.val * 512 + i.val = _; rw [hs]),
    head_o m c t _ i b ⟨s.val * 512 + i.val, by omega⟩ hb (by show s.val * 512 + i.val = _; rw [hs])]

/-- A sum over 2048 rows, by the four blocks of 512. -/
theorem sum_rows (f : Fin 2048 → EReal) :
    ∑ s : Fin 4, ∑ i : Fin 512, f ⟨s.val * 512 + i.val, by omega⟩ = ∑ i, f i := by
  rw [← Fintype.sum_prod_type' (f := fun (s : Fin 4) (i : Fin 512) => f ⟨s.val * 512 + i.val, by omega⟩)]
  refine Fintype.sum_equiv (finProdFinEquiv (m := 4) (n := 512)) _ _ fun x => congrArg f (Fin.ext ?_)
  show x.1.val * 512 + x.2.val = x.2.val + 512 * x.1.val
  omega

/-- The four points of a batch leave the whole key gradient of the batch. -/
theorem dkSum (c : Dev nD) (t : Fin cfg0.N) (lt : ∀ s : Fin 4, 4 * (t.val / 4) + s.val < cfg0.N) (y : S256x512.Idx) (z : S512x512.Idx)
    (h0 : (z 0).val = t.val / 4 * 256 + (y 0).val) (h1 : (z 1).val = (y 1).val) :
    ∑ s : Fin 4, dkBlk (iblk m c 0 ⟨4 * (t.val / 4) + s.val, lt s⟩) (iblk m c 3 ⟨4 * (t.val / 4) + s.val, lt s⟩)
        (iblk m c 1 ⟨4 * (t.val / 4) + s.val, lt s⟩) (iblk m c 2 ⟨4 * (t.val / 4) + s.val, lt s⟩) y
      = dkRef (m ((c : Thread nD τ).loc main_arg0)) (m ((c : Thread nD τ).loc main_arg2)) (m ((c : Thread nD τ).loc main_arg1)) z := by
  obtain ⟨r, hr, hsc⟩ := sc_coe
  have hy := (y 0).isLt
  change (y 0).val < 256 at hy
  have e : y 1 = z 1 := Fin.ext h1.symm
  have hb : (bk (z 0)).val = t.val / 4 := by show (z 0).val / 256 = _; omega
  have hr' : y 0 = rk (z 0) := Fin.ext (by show _ = (z 0).val % 256; omega)
  have hs := fun s : Fin 4 => dkBlk_eq m c ⟨4 * (t.val / 4) + s.val, lt s⟩ s (bk (z 0))
    (by show _ = (4 * (t.val / 4) + s.val) / 4; omega) (by show _ = (4 * (t.val / 4) + s.val) % 4; omega) y
  rw [Finset.sum_congr rfl fun s _ => hs s]
  rw [hsc, ← sum_mul_coe r hr, ← hsc, e, hr']
  exact congrArg (· * sc) (sum_rows (dkTerm _ _ _ _ _ _))

/-- The four points of a batch leave the whole value gradient of the batch. -/
theorem dvSum (c : Dev nD) (t : Fin cfg0.N) (lt : ∀ s : Fin 4, 4 * (t.val / 4) + s.val < cfg0.N) (y : S256x512.Idx) (z : S512x512.Idx)
    (h0 : (z 0).val = t.val / 4 * 256 + (y 0).val) (h1 : (z 1).val = (y 1).val) :
    ∑ s : Fin 4, dvBlk (iblk m c 0 ⟨4 * (t.val / 4) + s.val, lt s⟩) (iblk m c 3 ⟨4 * (t.val / 4) + s.val, lt s⟩)
        (iblk m c 1 ⟨4 * (t.val / 4) + s.val, lt s⟩) y
      = dvRef (m ((c : Thread nD τ).loc main_arg0)) (m ((c : Thread nD τ).loc main_arg2)) (m ((c : Thread nD τ).loc main_arg1)) z := by
  have hy := (y 0).isLt
  change (y 0).val < 256 at hy
  have e : y 1 = z 1 := Fin.ext h1.symm
  have hb : (bk (z 0)).val = t.val / 4 := by show (z 0).val / 256 = _; omega
  have hr' : y 0 = rk (z 0) := Fin.ext (by show _ = (z 0).val % 256; omega)
  have hs := fun s : Fin 4 => dvBlk_eq m c ⟨4 * (t.val / 4) + s.val, lt s⟩ s (bk (z 0))
    (by show _ = (4 * (t.val / 4) + s.val) / 4; omega) (by show _ = (4 * (t.val / 4) + s.val) % 4; omega) y
  rw [Finset.sum_congr rfl fun s _ => hs s]
  rw [e, hr']
  exact sum_rows (dvTerm _ _ _ _ _ _)

/-- The key gradient's array after the run. -/
theorem arr5 (c : Dev nD) : (dats m 0 c).arrAt 5 cfg0.N
    = dkRef (m ((c : Thread nD τ).loc main_arg0)) (m ((c : Thread nD τ).loc main_arg2)) (m ((c : Thread nD τ).loc main_arg1)) := by
  refine (dats m 0 c).arrAt_eq_of_covers 5 _ (by decide +kernel) fun t hf y => ?_
  have h3 := (flush0_5 t).mp hf
  blk_simp
  rw [after0_5, Pipeline.eq_sum_fin_of_reset_step_apply_of_flush (fun n h => (outsAt0 m c n h).2.1) 4 (fun _ => 0)
    (fun n => dkBlk (iblk m c 0 n) (iblk m c 3 n) (iblk m c 1 n) (iblk m c 2 n))
    (fun t h j => dk_A m c t h j) (fun t h j => dk_B m c t h j) t h3 _, zero_add]
  exact dkSum m c t _ y _ (by blk_simp [idx t]) (by blk_simp [idx t])

/-- The value gradient's array after the run. -/
theorem arr6 (c : Dev nD) : (dats m 0 c).arrAt 6 cfg0.N
    = dvRef (m ((c : Thread nD τ).loc main_arg0)) (m ((c : Thread nD τ).loc main_arg2)) (m ((c : Thread nD τ).loc main_arg1)) := by
  refine (dats m 0 c).arrAt_eq_of_covers 6 _ (by decide +kernel) fun t hf y => ?_
  have h3 := (flush0_6 t).mp hf
  blk_simp
  rw [after0_6, Pipeline.eq_sum_fin_of_reset_step_apply_of_flush (fun n h => (outsAt0 m c n h).2.2) 4 (fun _ => 0)
    (fun n => dvBlk (iblk m c 0 n) (iblk m c 3 n) (iblk m c 1 n))
    (fun t h j => dv_A m c t h j) (fun t h j => dv_B m c t h j) t h3 _, zero_add]
  exact dvSum m c t _ y _ (by blk_simp [idx t]) (by blk_simp [idx t])

end Cert.KernelIdeal.Hand

end
-- ==== Proof.MemRef.lean ====
/- The reference's stages of the memory-attention gradient, read element by element over the exact values. -/
module

public import proofs.«01_k».proof.Proof.Gen.ReferenceIdeal.Read
public import proofs.«01_k».proof.Proof.MemArray
public import Idealize.ShloMosaic.Lib.Pointwise

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Cert.Softmax
open Cert.KernelIdeal.Hand (rows keys vals score gprob sc ds negInf)

variable (x0 : Vec Ideal S4096x512 .bf16) (x1 : Vec Ideal S512x1024 .bf16) (x2 : Vec Ideal S4096x512 .bf16)
variable (b : Fin 2) (h : Fin 4) (i : Fin 2048) (j : Fin 256) (d : Fin 128)

theorem ref_q : val_main_v8 (F := Ideal) x0 (ix4 b i h d) = rows x0 b h i d := by
  pointwise [val_main_v8, val_main_v1, val_main_v0]; rfl

theorem ref_k : val_main_v9 (F := Ideal) x1 (ix4 b j h d) = keys x1 b h j d := by
  pointwise [val_main_v9, val_main_v6, val_main_v3, val_main_v2]; rfl

theorem ref_v : val_main_v10 (F := Ideal) x1 (ix4 b j h d) = vals x1 b h j d := by
  pointwise [val_main_v10, val_main_v7, val_main_v3, val_main_v2]; rfl

theorem ref_o : val_main_v46 (F := Ideal) x2 (ix4 b h d i) = rows x2 b h i d := by
  pointwise [val_main_v46, val_main_v45, val_main_v5, val_main_v4]; rfl

theorem ref_score : val_main_v13 (F := Ideal) x0 x1 (ix4 b h i j) = score (rows x0 b h i) (keys x1 b h) j := by
  pointwise [val_main_v13, val_main_v12, val_main_cst, val_main_v11]
  simp only [ref_q, ref_k]; rfl

theorem reduces_last : S2x4x2048x256.Reduces [(3 : Fin 4)] S2x4x2048 := by decide

/-- The host's maximum over the last axis. -/
theorem reduce_max (y : S2x4x2048x256.Idx → EReal) (z : S_.Idx → EReal) :
    Host.reduce (α := EReal) max y z reducesTo_S2x4x2048x256_S2x4x2048_d3 h_S_ (ix3 b h i)
      = Finset.univ.fold max (z (Shape.Idx.first h_S_)) fun j : Fin 256 => y (ix4 b h i j) := by
  rw [Host.reduce_eq_fold_single max y z _ reduces_last h_S_ (ix3 b h i)]
  refine Finset.fold_congr fun j _ => congrArg y (funext fun a => Fin.ext ?_)
  match a with | ⟨0, _⟩ => rfl | ⟨1, _⟩ => rfl | ⟨2, _⟩ => rfl | ⟨3, _⟩ => rfl

theorem ref_max : val_main_v14 (F := Ideal) x0 x1 (ix3 b h i) = rowMax (score (rows x0 b h i) (keys x1 b h)) := by
  have e := fun j => ref_score x0 x1 b h i j
  unfold val_main_v14
  generalize val_main_v13 (F := Ideal) x0 x1 = y at e ⊢
  refine (reduce_max b h i y _).trans ?_
  refine (Finset.fold_congr fun j _ => e j).trans ?_
  rw [val_main_cst_0_apply]
  exact congrArg (fun z : EReal => Finset.univ.fold max z _) negInf

theorem ref_max' : val_main_v21 (F := Ideal) x0 x1 (ix3 b h i) = rowMax (score (rows x0 b h i) (keys x1 b h)) := by
  rw [val_main_v21_apply, ref_max, val_main_v20_apply, val_main_cst_2_apply]
  exact (congrArg (fun z : EReal => max z _) negInf).trans (bot_sup_eq _)

theorem ref_wt : val_main_v34 (F := Ideal) x0 x1 (ix4 b h i j) = wt (score (rows x0 b h i) (keys x1 b h)) j := by
  have e := ref_max' x0 x1 b h i
  unfold val_main_v34 val_main_v33 val_main_v32 val_main_v31
  generalize val_main_v21 (F := Ideal) x0 x1 = y at e ⊢
  pointwise []
  rw [e, ref_score]; rfl

theorem ref_tot : val_main_v36 (F := Ideal) x0 x1 (ix4 b h i 0) = tot (score (rows x0 b h i) (keys x1 b h)) := by
  have e := fun j => ref_wt x0 x1 b h i j
  unfold val_main_v36 val_main_v35
  generalize val_main_v34 (F := Ideal) x0 x1 = y at e ⊢
  pointwise [val_main_cst_8]
  simp only [e]; rfl

theorem ref_prob : val_main_v38 (F := Ideal) x0 x1 (ix4 b h i j) = prob (score (rows x0 b h i) (keys x1 b h)) j := by
  have e := ref_wt x0 x1 b h i j
  have e' := ref_tot x0 x1 b h i
  unfold val_main_v38 val_main_v37
  generalize val_main_v34 (F := Ideal) x0 x1 = y at e ⊢
  generalize val_main_v36 (F := Ideal) x0 x1 = z at e' ⊢
  pointwise []
  rw [e, e']; rfl

theorem ref_gprob : val_main_v47 (F := Ideal) x1 x2 (ix4 b h i j) = gprob (rows x2 b h i) (vals x1 b h) j := by
  pointwise [val_main_v47]
  simp only [ref_o, ref_v]; rfl

theorem ref_ds : val_main_v61 (F := Ideal) x0 x1 x2 (ix4 b h i j)
    = dscoreQ (score (rows x0 b h i) (keys x1 b h)) (gprob (rows x2 b h i) (vals x1 b h)) j := by
  have e := fun j => ref_wt x0 x1 b h i j
  have e' := ref_tot x0 x1 b h i
  have g := fun j => ref_gprob x1 x2 b h i j
  unfold val_main_v61 val_main_v60 val_main_v59 val_main_v58 val_main_v57 val_main_v56 val_main_v55 val_main_v54 val_main_v53 val_main_v52 val_main_v51 val_main_v50 val_main_v41 val_main_v40 val_main_v39
  generalize val_main_v34 (F := Ideal) x0 x1 = y at e ⊢
  generalize val_main_v36 (F := Ideal) x0 x1 = z at e' ⊢
  generalize val_main_v47 (F := Ideal) x1 x2 = w at g ⊢
  pointwise [val_main_cst_9, val_main_cst_10, val_main_cst_11]
  simp only [e, e', g]
  rw [Fin.sum_univ_one]; rfl

end Cert.ReferenceIdeal.Hand

end
-- ==== Proof.MemEq.lean ====
/- The reference's three results are the gradients the run of the kernel leaves, for finite queries and keys. -/
module

public import proofs.«01_k».proof.Proof.MemRef

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Cert.Softmax
open Cert.KernelIdeal.Hand (rows keys vals score gprob sc ds negInf dqRef dkRef dvRef dqHead dkHead dvHead sc_coe hd ln bq rq bk rk)

variable (x0 : Vec Ideal S4096x512 .bf16) (x1 : Vec Ideal S512x1024 .bf16) (x2 : Vec Ideal S4096x512 .bf16)

/-- Every query and every key is a real number. -/
def FiniteScores (x0 : S4096x512.Idx → EReal) (x1 : S512x1024.Idx → EReal) : Prop :=
  (∀ b h i d, ∃ r : ℝ, rows x0 b h i d = r) ∧ ∀ b h j d, ∃ r : ℝ, keys x1 b h j d = r

theorem score_real (hx : FiniteScores x0 x1) (b : Fin 2) (h : Fin 4) (i : Fin 2048) (j : Fin 256) :
    ∃ r : ℝ, score (rows x0 b h i) (keys x1 b h) j = r := by
  obtain ⟨c, -, hc⟩ := sc_coe
  choose q hq using hx.1 b h i
  choose k hk using hx.2 b h j
  refine ⟨(∑ d, q d * k d) * c, ?_⟩
  unfold score
  simp only [hq, hk, hc, ← EReal.coe_mul, ← coe_sum]

theorem ref_dscale (hx : FiniteScores x0 x1) (b : Fin 2) (h : Fin 4) (i : Fin 2048) (j : Fin 256) :
    val_main_v63 (F := Ideal) x0 x1 x2 (ix4 b h i j) = ds (rows x0 b h i) (rows x2 b h i) (keys x1 b h) (vals x1 b h) j * sc := by
  have e := ref_ds x0 x1 x2 b h i j
  unfold val_main_v63
  generalize val_main_v61 (F := Ideal) x0 x1 x2 = y at e ⊢
  pointwise [val_main_v62, val_main_cst_12]
  rw [e, dscoreQ_eq (by norm_num) _ _ (score_real x0 x1 hx b h i)]; rfl

/-- The factor of the scores taken out of a sum. -/
theorem scale_out {ι : Type} [Fintype ι] (f g : ι → EReal) : ∑ i, f i * sc * g i = (∑ i, f i * g i) * sc := by
  obtain ⟨c, h0, hc⟩ := sc_coe
  rw [hc, sum_mul_coe c h0]
  exact Finset.sum_congr rfl fun i _ => mul_right_comm _ _ _

theorem ref_dq (hx : FiniteScores x0 x1) (b : Fin 2) (h : Fin 4) (i : Fin 2048) (d : Fin 128) :
    val_main_v66 (F := Ideal) x0 x1 x2 (ix4 b h i d) = dqHead (rows x0 b h) (rows x2 b h) (keys x1 b h) (vals x1 b h) i d := by
  have e := fun j => ref_dscale x0 x1 x2 hx b h i j
  have k := fun j => ref_k x1 b h j d
  unfold val_main_v66
  generalize val_main_v63 (F := Ideal) x0 x1 x2 = y at e ⊢
  generalize val_main_v9 (F := Ideal) x1 = z at k ⊢
  pointwise []
  simp only [e, k]
  exact scale_out _ _

theorem ref_dk (hx : FiniteScores x0 x1) (b : Fin 2) (h : Fin 4) (j : Fin 256) (d : Fin 128) :
    val_main_v64 (F := Ideal) x0 x1 x2 (ix4 b h j d) = dkHead (rows x0 b h) (rows x2 b h) (keys x1 b h) (vals x1 b h) j d := by
  have e := fun i => ref_dscale x0 x1 x2 hx b h i j
  have k := fun i => ref_q x0 b h i d
  unfold val_main_v64
  generalize val_main_v63 (F := Ideal) x0 x1 x2 = y at e ⊢
  generalize val_main_v8 (F := Ideal) x0 = z at k ⊢
  pointwise []
  simp only [e, k]
  exact scale_out _ _

theorem ref_dv (b : Fin 2) (h : Fin 4) (j : Fin 256) (d : Fin 128) :
    val_main_v48 (F := Ideal) x0 x1 x2 (ix4 b h d j) = dvHead (rows x0 b h) (rows x2 b h) (keys x1 b h) j d := by
  have e := fun i => ref_prob x0 x1 b h i j
  have k := fun i => ref_o x2 b h i d
  unfold val_main_v48
  generalize val_main_v38 (F := Ideal) x0 x1 = y at e ⊢
  generalize val_main_v46 (F := Ideal) x2 = z at k ⊢
  pointwise []
  simp only [e, k]
  exact Finset.sum_congr rfl fun i _ => mul_comm _ _

theorem val_dq (hx : FiniteScores x0 x1) : val_main_v73 (F := Ideal) x0 x1 x2 = dqRef x0 x2 x1 := by
  funext y; idx_vars y
  have e := ref_dq x0 x1 x2 hx
  unfold val_main_v73 val_main_v72 val_main_v70 val_main_v67
  generalize val_main_v66 (F := Ideal) x0 x1 x2 = w at e ⊢
  pointwise []
  rw [e]; rfl

theorem val_dk (hx : FiniteScores x0 x1) : val_main_v75 (F := Ideal) x0 x1 x2 = dkRef x0 x2 x1 := by
  funext y; idx_vars y
  have e := ref_dk x0 x1 x2 hx
  unfold val_main_v75 val_main_v74 val_main_v71 val_main_v69 val_main_v65
  generalize val_main_v64 (F := Ideal) x0 x1 x2 = w at e ⊢
  generalize val_main_v68 (F := Ideal) x0 x1 x2 = w' at ⊢
  pointwise []
  rw [e]; rfl

theorem val_dv : val_main_v77 (F := Ideal) x0 x1 x2 = dvRef x0 x2 x1 := by
  funext y; idx_vars y
  have e := ref_dv x0 x1 x2
  unfold val_main_v77 val_main_v76 val_main_v71 val_main_v68 val_main_v49
  generalize val_main_v48 (F := Ideal) x0 x1 x2 = w at e ⊢
  generalize val_main_v69 (F := Ideal) x0 x1 x2 = w' at ⊢
  pointwise []
  rw [e]; rfl

end Cert.ReferenceIdeal.Hand

end
-- ==== Proof.MemPre.lean ====
/- The precondition read as a statement about numbers: every query and every key is real. -/
module

public import proofs.«01_k».proof.Pre_finite_scores
public import proofs.«01_k».proof.Proof.MemEq
public import Idealize.ShloMosaic.Lib.ReduceAll

@[expose] public section

noncomputable section

namespace Cert.Pre_finite_scores.Hand

open Cert.Pre_finite_scores Idealize.ShloMosaic Cert.KernelIdeal.Hand

/-- The side conditions that the printed predicate states. -/
theorem facts : Cert.Pre_finite_scores.Facts :=
  ⟨by decide, by decide, by decide, by decide, by decide, by decide⟩

theorem inf_bits : Ideal.ofBits .bf16 0x7F80#16 = ⊤ := by
  simp [Ideal.ofBits, Ideal.ieee, -EReal.coe_mul]

theorem real_of_lt {x : EReal} (h : Ideal.cmp .olt (max x (-x)) (Ideal.ofBits .bf16 0x7F80#16) = 1#1) : ∃ r : ℝ, x = r := by
  rw [inf_bits] at h
  have hlt : max x (-x) < ⊤ := by
    by_contra hn
    simp [Ideal.cmp, hn] at h
  refine ⟨x.toReal, (EReal.coe_toReal (fun e => ?_) fun e => ?_).symm⟩
  · rw [e] at hlt; simp at hlt
  · rw [e] at hlt; simp at hlt

theorem finite (x0 : Vec Ideal S4096x512 .bf16) (x1 : Vec Ideal S512x1024 .bf16) (x2 : Vec Ideal S4096x512 .bf16)
    (h : @fn facts Ideal _ x0 x1 x2 = fun _ => 1#1) : Cert.ReferenceIdeal.Hand.FiniteScores x0 x1 := by
  haveI := facts
  have h := congrFun h (Shape.Idx.first facts.h_S_)
  dsimp only [fn] at h
  obtain ⟨h1, h2⟩ := IntOp.andi_eq_one.1 h
  haveI : Subsingleton S_.Idx := ⟨fun a b => funext fun i => i.elim0⟩
  refine ⟨fun b h i d => ?_, fun b h j d => ?_⟩
  · have e := Host.reduce_andi_all _ _ _ _ _ h1 (ix2 ⟨b.val * 2048 + i.val, by omega⟩ ⟨h.val * 128 + d.val, by omega⟩)
    exact real_of_lt e
  · have e := Host.reduce_andi_all _ _ _ _ _ h2 (ix2 ⟨b.val * 256 + j.val, by omega⟩ ⟨h.val * 128 + d.val, by omega⟩)
    pointwise at e
    exact real_of_lt e

end Cert.Pre_finite_scores.Hand

end
-- ==== Proof.FoxBlock.lean ====
/- What the softmax-attention gradient's body computes for one block of query rows and one block of key rows: each value
   read at an index, in terms of the whole arrays' entries. -/
module

public import proofs.«01_k».proof.Proof.Gen.Kernel2Ideal.Skeleton
public import Idealize.ShloMosaic.Lib.Pointwise
public import Idealize.ShloMosaic.Lib.WordCmp

@[expose] public section

set_option maxRecDepth 16384

noncomputable section

namespace Cert.Kernel2Ideal.Hand

open Cert.Kernel2Ideal Cert.Kernel2Ideal.Gen Idealize.ShloMosaic

/-- One eighth, the factor the scores are scaled by. -/
def e8 : EReal := Ideal.ofBits .f32 0x3E000000#32

/-- The arrays one grid point works on: rows by lanes, the lanes of two heads side by side, and for each head the key's
gate sums and the query's log-sums. -/
structure Ops where
  q : Fin 2048 → Fin 128 → EReal
  k : Fin 2048 → Fin 128 → EReal
  v : Fin 2048 → Fin 128 → EReal
  o : Fin 2048 → Fin 128 → EReal
  d : Fin 2048 → Fin 128 → EReal
  ck : Fin 2 → Fin 2048 → EReal
  lse : Fin 2 → Fin 2048 → EReal

/-- Row `r` of block `n`. -/
def gr (n : ℕ) (r : Fin 512) : Fin 2048 := ⟨(512 * n + r.val) % 2048, Nat.mod_lt _ (by decide)⟩

theorem gr_val {n : ℕ} (hn : n < 4) (r : Fin 512) : (gr n r).val = 512 * n + r.val := Nat.mod_eq_of_lt (by omega)

/-- The entry where the lane belongs to head `h`, zero elsewhere. -/
def lane (h : Fin 2) (l : Fin 128) (x : EReal) : EReal := if (l.val < 64 ↔ h = 0) then x else 0

namespace Ops

variable (X : Ops) (h : Fin 2) (R C : Fin 2048)

/-- The probability of key row `C` for query row `R`. -/
def P : EReal :=
  if C ≤ R then Ideal.exp (((∑ l, lane h l (X.q R l) * X.k C l) * e8 - X.ck h C) - X.lse h R) else 0

/-- The row's sum of the output's gradient times the output. -/
def dl : EReal := ∑ l, lane h l (X.d R l) * X.o R l

/-- The gradient of the score. -/
def DS : EReal := X.P h R C * ((∑ l, lane h l (X.d R l) * X.v C l) - X.dl h R)

end Ops

theorem trips1 : k0_t1_loop.trips = 4 := by decide
theorem trips2 : ∀ k, (k0_t2_loop k).trips = k.val + 1 := by decide
theorem lt1 (k : Fin k0_t1_loop.trips) : k.val < 4 := lt_of_lt_of_eq k.isLt trips1
theorem lt2 (k : Fin k0_t1_loop.trips) (j : Fin (k0_t2_loop k).trips) : j.val ≤ k.val :=
  Nat.lt_succ_iff.mp (lt_of_lt_of_eq j.isLt (trips2 k))

variable (X : Ops) (k : Fin k0_t1_loop.trips) (j : Fin (k0_t2_loop k).trips)

theorem iv_sub : ∀ (k : Fin k0_t1_loop.trips) (j : Fin (k0_t2_loop k).trips),
    Scalar.subi (Scalar.muli (Scf.iv 0#32 1#32 k.val) 512#32) (Scalar.muli (Scf.iv 0#32 1#32 j.val) 512#32) =
      BitVec.ofNat 32 (512 * (k.val - j.val)) := by decide +kernel

/-- The mask of one block: the key's row is at most the query's. -/
theorem causal (r c : Fin 512) (a b : EReal) :
    Scalar.select (IntOp.cmpi .sle (BitVec.ofNat 32 c.val) (IntOp.addi (BitVec.ofNat 32 r.val)
      (Scalar.subi (Scalar.muli (Scf.iv 0#32 1#32 k.val) 512#32) (Scalar.muli (Scf.iv 0#32 1#32 j.val) 512#32)))) a b =
      if gr j.val c ≤ gr k.val r then a else b := by
  have hj := lt2 k j
  have hk := lt1 k
  have hr := r.isLt
  have hc := c.isLt
  have e : (gr j.val c ≤ gr k.val r) ↔ c.val ≤ r.val + 512 * (k.val - j.val) := by
    rw [Fin.le_def, gr_val hk, gr_val (by omega)]; omega
  rw [iv_sub, show IntOp.addi (BitVec.ofNat 32 r.val) (BitVec.ofNat 32 (512 * (k.val - j.val))) =
    BitVec.ofNat 32 (r.val + 512 * (k.val - j.val)) from (BitVec.ofNat_add _ _).symm,
    WordCmp.cmpi_sle_ofNat (by omega) (by omega)]
  by_cases hh : c.val ≤ r.val + 512 * (k.val - j.val)
  · rw [if_pos (e.mpr hh)]; simp [hh, Scalar.select]
  · rw [if_neg (fun z => hh (e.mp z))]; simp [hh, Scalar.select]

variable {q d kb vb : Vec Ideal S512x128 .bf16} {ck : Vec Ideal S1x1x1x512 .f32} {ls : Vec Ideal S1x1x512x1 .f32}
  {dl : FVec Ideal S512x1 .f32} {p : FVec Ideal S512x512 .f32} {h : Fin 2}

theorem pay16 (hq : ∀ r l, q (ix2 r l) = lane 0 l (X.q (gr k.val r) l))
    (hk : ∀ c l, kb (ix2 c l) = X.k (gr j.val c) l) (hc : ∀ c, ck (ix4 0 0 0 c) = X.ck 0 (gr j.val c))
    (hl : ∀ r, ls (ix4 0 0 r 0) = X.lse 0 (gr k.val r)) (r c : Fin 512) :
    k0_pay16 (F := Ideal) k (Scf.iv 0#32 1#32 k) q 0#32 1#32 j kb ck ls (ix2 r c) = X.P 0 (gr k.val r) (gr j.val c) := by
  pointwise [k0_pay16]
  rw [causal]
  simp only [hq, hk, hc, hl]
  rfl

theorem pay17 (hq : ∀ r l, q (ix2 r l) = lane 0 l (X.q (gr k.val r) l))
    (hd : ∀ r l, d (ix2 r l) = lane 0 l (X.d (gr k.val r) l)) (hdl : ∀ r, dl (ix2 r 0) = X.dl 0 (gr k.val r))
    (hk : ∀ c l, kb (ix2 c l) = X.k (gr j.val c) l) (hv : ∀ c l, vb (ix2 c l) = X.v (gr j.val c) l)
    (hc : ∀ c, ck (ix4 0 0 0 c) = X.ck 0 (gr j.val c))
    (hl : ∀ r, ls (ix4 0 0 r 0) = X.lse 0 (gr k.val r)) (r c : Fin 512) :
    k0_pay17 (F := Ideal) k (Scf.iv 0#32 1#32 k) q d dl 0#32 1#32 j kb vb ck ls (ix2 r c) =
      X.DS 0 (gr k.val r) (gr j.val c) := by
  have e := pay16 X k j hq hk hc hl
  unfold k0_pay17
  generalize k0_pay16 (F := Ideal) k (Scf.iv 0#32 1#32 k) q 0#32 1#32 j kb ck ls = y at e ⊢
  pointwise []
  simp only [e, hd, hv, hdl]
  rfl

theorem pay18 (hq : ∀ r l, q (ix2 r l) = lane 0 l (X.q (gr k.val r) l))
    (hd : ∀ r l, d (ix2 r l) = lane 0 l (X.d (gr k.val r) l))
    (hk : ∀ c l, kb (ix2 c l) = X.k (gr j.val c) l) (hc : ∀ c, ck (ix4 0 0 0 c) = X.ck 0 (gr j.val c))
    (hl : ∀ r, ls (ix4 0 0 r 0) = X.lse 0 (gr k.val r)) (g : Vec Ideal S512x128 .f32) (c : Fin 512) (l : Fin 128) :
    k0_pay19 (F := Ideal) (k0_pay18 k (Scf.iv 0#32 1#32 k) q d 0#32 1#32 j kb ck ls g) (ix2 c l) =
      g (ix2 c l) + ∑ r, X.P 0 (gr k.val r) (gr j.val c) * lane 0 l (X.d (gr k.val r) l) := by
  have e := pay16 X k j hq hk hc hl
  unfold k0_pay18
  generalize k0_pay16 (F := Ideal) k (Scf.iv 0#32 1#32 k) q 0#32 1#32 j kb ck ls = y at e ⊢
  pointwise [k0_pay19]
  simp only [e, hd]

theorem pay20 (hq : ∀ r l, q (ix2 r l) = lane 0 l (X.q (gr k.val r) l))
    (hp : ∀ r c, p (ix2 r c) = X.DS 0 (gr k.val r) (gr j.val c)) (g : Vec Ideal S512x128 .f32) (c : Fin 512) (l : Fin 128) :
    k0_pay20 (F := Ideal) q p g (ix2 c l) =
      g (ix2 c l) + (∑ r, X.DS 0 (gr k.val r) (gr j.val c) * lane 0 l (X.q (gr k.val r) l)) * e8 := by
  pointwise [k0_pay20]
  simp only [hp, hq]
  rfl

theorem pay21 (hp : ∀ r c, p (ix2 r c) = X.DS 0 (gr k.val r) (gr j.val c)) (g : Vec Ideal S1x1x1x512 .f32) (c : Fin 512) :
    k0_pay21 (F := Ideal) p g (ix4 0 0 0 c) = g (ix4 0 0 0 c) + (0 - ∑ r, X.DS 0 (gr k.val r) (gr j.val c)) := by
  pointwise [k0_pay21]
  simp only [hp]

theorem pay5 (hp : ∀ r c, p (ix2 r c) = X.DS 1 (gr k.val r) (gr j.val c)) (g : Vec Ideal S1x1x1x512 .f32) (c : Fin 512) :
    k0_pay5 (F := Ideal) p g (ix4 0 0 0 c) = g (ix4 0 0 0 c) + (0 - ∑ r, X.DS 1 (gr k.val r) (gr j.val c)) := by
  pointwise [k0_pay5]
  simp only [hp]

theorem pay22 (hk : ∀ c l, kb (ix2 c l) = X.k (gr j.val c) l)
    (hp : ∀ r c, p (ix2 r c) = X.DS 0 (gr k.val r) (gr j.val c)) (g : FVec Ideal S512x128 .f32) (r : Fin 512) (l : Fin 128) :
    k0_pay22 (F := Ideal) g kb p (ix2 r l) =
      g (ix2 r l) + (∑ c, X.DS 0 (gr k.val r) (gr j.val c) * X.k (gr j.val c) l) * e8 := by
  pointwise [k0_pay22]
  simp only [hp, hk]
  rfl

theorem pay6 (hk : ∀ c l, kb (ix2 c l) = X.k (gr j.val c) l)
    (hp : ∀ r c, p (ix2 r c) = X.DS 1 (gr k.val r) (gr j.val c)) (g : FVec Ideal S512x128 .f32) (r : Fin 512) (l : Fin 128) :
    k0_pay6 (F := Ideal) g kb p (ix2 r l) =
      g (ix2 r l) + (∑ c, X.DS 1 (gr k.val r) (gr j.val c) * X.k (gr j.val c) l) * e8 := by
  pointwise [k0_pay6]
  simp only [hp, hk]
  rfl

theorem pay23 (hp : ∀ r c, p (ix2 r c) = X.DS 0 (gr k.val r) (gr j.val c)) (g : FVec Ideal S512x1 .f32) (r : Fin 512) :
    k0_pay23 (F := Ideal) g p (ix2 r 0) = g (ix2 r 0) + ∑ c, X.DS 0 (gr k.val r) (gr j.val c) := by
  pointwise [k0_pay23]
  simp only [hp]

theorem pay7 (hp : ∀ r c, p (ix2 r c) = X.DS 1 (gr k.val r) (gr j.val c)) (g : FVec Ideal S512x1 .f32) (r : Fin 512) :
    k0_pay7 (F := Ideal) g p (ix2 r 0) = g (ix2 r 0) + ∑ c, X.DS 1 (gr k.val r) (gr j.val c) := by
  pointwise [k0_pay7]
  simp only [hp]

/-- The second head's probabilities. -/
theorem pay26 (hq : ∀ r l, q (ix2 r l) = lane 1 l (X.q (gr k.val r) l))
    (hk : ∀ c l, kb (ix2 c l) = X.k (gr j.val c) l) (hc : ∀ c, ck (ix4 0 0 0 c) = X.ck 1 (gr j.val c))
    (hl : ∀ r, ls (ix4 0 0 r 0) = X.lse 1 (gr k.val r)) (r c : Fin 512) :
    k0_pay26 (F := Ideal) (Scf.iv 0#32 1#32 k) (Scf.iv 0#32 1#32 j) (k0_pay24 ck) (k0_pay25 q kb)
      (Scalar.ofBits .f32 0x3E000000#32) ls (ix2 r c) = X.P 1 (gr k.val r) (gr j.val c) := by
  pointwise [k0_pay26, k0_pay24, k0_pay25]
  rw [causal]
  simp only [hq, hk, hc, hl]
  rfl

theorem pay27 (hq : ∀ r l, q (ix2 r l) = lane 1 l (X.q (gr k.val r) l))
    (hd : ∀ r l, d (ix2 r l) = lane 1 l (X.d (gr k.val r) l)) (hdl : ∀ r, dl (ix2 r 0) = X.dl 1 (gr k.val r))
    (hk : ∀ c l, kb (ix2 c l) = X.k (gr j.val c) l) (hv : ∀ c l, vb (ix2 c l) = X.v (gr j.val c) l)
    (hc : ∀ c, ck (ix4 0 0 0 c) = X.ck 1 (gr j.val c))
    (hl : ∀ r, ls (ix4 0 0 r 0) = X.lse 1 (gr k.val r)) (r c : Fin 512) :
    k0_pay27 (F := Ideal) (Scf.iv 0#32 1#32 k) d dl (Scf.iv 0#32 1#32 j) vb (k0_pay24 ck) (k0_pay25 q kb)
      (Scalar.ofBits .f32 0x3E000000#32) ls (ix2 r c) = X.DS 1 (gr k.val r) (gr j.val c) := by
  have e := pay26 X k j hq hk hc hl
  unfold k0_pay27
  generalize k0_pay26 (F := Ideal) (Scf.iv 0#32 1#32 k) (Scf.iv 0#32 1#32 j) (k0_pay24 ck) (k0_pay25 q kb)
      (Scalar.ofBits .f32 0x3E000000#32) ls = y at e ⊢
  pointwise []
  simp only [e, hd, hv, hdl]
  rfl

theorem pay28 (hq : ∀ r l, q (ix2 r l) = lane 1 l (X.q (gr k.val r) l))
    (hd : ∀ r l, d (ix2 r l) = lane 1 l (X.d (gr k.val r) l))
    (hk : ∀ c l, kb (ix2 c l) = X.k (gr j.val c) l) (hc : ∀ c, ck (ix4 0 0 0 c) = X.ck 1 (gr j.val c))
    (hl : ∀ r, ls (ix4 0 0 r 0) = X.lse 1 (gr k.val r)) (g : Vec Ideal S512x128 .f32) (c : Fin 512) (l : Fin 128) :
    k0_pay28 (F := Ideal) (Scf.iv 0#32 1#32 k) d (Scf.iv 0#32 1#32 j) (k0_pay24 ck) (k0_pay25 q kb)
      (Scalar.ofBits .f32 0x3E000000#32) ls g (ix2 c l) =
      g (ix2 c l) + ∑ r, X.P 1 (gr k.val r) (gr j.val c) * lane 1 l (X.d (gr k.val r) l) := by
  have e := pay26 X k j hq hk hc hl
  unfold k0_pay28
  generalize k0_pay26 (F := Ideal) (Scf.iv 0#32 1#32 k) (Scf.iv 0#32 1#32 j) (k0_pay24 ck) (k0_pay25 q kb)
      (Scalar.ofBits .f32 0x3E000000#32) ls = y at e ⊢
  pointwise []
  simp only [e, hd]

theorem pay29 (hq : ∀ r l, q (ix2 r l) = lane 1 l (X.q (gr k.val r) l))
    (hd : ∀ r l, d (ix2 r l) = lane 1 l (X.d (gr k.val r) l)) (hdl : ∀ r, dl (ix2 r 0) = X.dl 1 (gr k.val r))
    (hk : ∀ c l, kb (ix2 c l) = X.k (gr j.val c) l) (hv : ∀ c l, vb (ix2 c l) = X.v (gr j.val c) l)
    (hc : ∀ c, ck (ix4 0 0 0 c) = X.ck 1 (gr j.val c))
    (hl : ∀ r, ls (ix4 0 0 r 0) = X.lse 1 (gr k.val r)) (g : Vec Ideal S512x128 .f32) (c : Fin 512) (l : Fin 128) :
    k0_pay29 (F := Ideal) (Scf.iv 0#32 1#32 k) q d dl (Scf.iv 0#32 1#32 j) vb (k0_pay24 ck) (k0_pay25 q kb)
      (Scalar.ofBits .f32 0x3E000000#32) ls g (ix2 c l) =
      g (ix2 c l) + (∑ r, X.DS 1 (gr k.val r) (gr j.val c) * lane 1 l (X.q (gr k.val r) l)) * e8 := by
  have e := pay27 X k j hq hd hdl hk hv hc hl
  unfold k0_pay29
  generalize k0_pay27 (F := Ideal) (Scf.iv 0#32 1#32 k) d dl (Scf.iv 0#32 1#32 j) vb (k0_pay24 ck) (k0_pay25 q kb)
      (Scalar.ofBits .f32 0x3E000000#32) ls = y at e ⊢
  pointwise []
  simp only [e, hq]
  rfl

/-- Choosing by head: the lanes below 64 are the first head's. -/
theorem lane_select (l : Fin 128) (a b : EReal) :
    Scalar.select (IntOp.cmpi .slt (BitVec.ofNat 32 l.val) 64#32) a b = if l.val < 64 then a else b := by
  have hl := l.isLt
  rw [show (64#32) = BitVec.ofNat 32 64 from rfl, WordCmp.cmpi_slt_ofNat (by omega) (by omega)]
  by_cases hh : l.val < 64 <;> simp [hh, Scalar.select]

theorem zero_cast : (((0#32).toInt : ℝ) : EReal) = 0 := by simp

theorem pay45 (x : Vec Ideal S512x128 .bf16) (r : Fin 512) (l : Fin 128) :
    k0_pay45 (F := Ideal) k0_pay4 x (ix2 r l) = lane 0 l (x (ix2 r l)) := by
  pointwise [k0_pay45, k0_pay4]
  rw [lane_select, zero_cast]
  simp [lane]

theorem pay46 (x : Vec Ideal S512x128 .bf16) (r : Fin 512) (l : Fin 128) :
    k0_pay46 (F := Ideal) k0_pay4 x (ix2 r l) = lane 1 l (x (ix2 r l)) := by
  pointwise [k0_pay46, k0_pay4]
  rw [lane_select, zero_cast]
  by_cases hh : l.val < 64 <;> simp [lane, hh]

theorem pay47 (x : Vec Ideal S512x128 .bf16) (r : Fin 512) (l : Fin 128) :
    k0_pay47 (F := Ideal) k0_pay4 x (ix2 r l) = lane 0 l (x (ix2 r l)) := by
  pointwise [k0_pay47, k0_pay4]
  rw [lane_select, zero_cast]
  simp [lane]

theorem pay48 (x : Vec Ideal S512x128 .bf16) (r : Fin 512) (l : Fin 128) :
    k0_pay48 (F := Ideal) k0_pay4 x (ix2 r l) = lane 1 l (x (ix2 r l)) := by
  pointwise [k0_pay48, k0_pay4]
  rw [lane_select, zero_cast]
  by_cases hh : l.val < 64 <;> simp [lane, hh]

theorem pay49 (x y : Vec Ideal S512x128 .bf16) (r : Fin 512) :
    k0_pay49 (F := Ideal) k0_pay4 x y (ix2 r 0) = ∑ l, lane 0 l (x (ix2 r l)) * y (ix2 r l) := by
  have e := pay47 x r
  unfold k0_pay49
  generalize k0_pay47 (F := Ideal) k0_pay4 x = z at e ⊢
  pointwise [k0_pay44]
  simp only [e]

theorem pay50 (x y : Vec Ideal S512x128 .bf16) (r : Fin 512) :
    k0_pay50 (F := Ideal) k0_pay4 x y (ix2 r 0) = ∑ l, lane 1 l (x (ix2 r l)) * y (ix2 r l) := by
  have e := pay48 x r
  unfold k0_pay50
  generalize k0_pay48 (F := Ideal) k0_pay4 x = z at e ⊢
  pointwise [k0_pay44]
  simp only [e]

theorem pay11 (a b : FVec Ideal S512x128 .f32) (r : Fin 512) (l : Fin 128) :
    k0_pay11 (F := Ideal) a b (ix2 r l) = if l.val < 64 then a (ix2 r l) else b (ix2 r l) := by
  pointwise [k0_pay11, k0_pay4]
  exact lane_select _ _ _

theorem pay12 (a : FVec Ideal S512x1 .f32) (r : Fin 512) : k0_pay12 (F := Ideal) a (ix4 0 0 r 0) = a (ix2 r 0) := by
  pointwise [k0_pay12]

theorem pay13 (a : FVec Ideal S512x1 .f32) (r : Fin 512) : k0_pay13 (F := Ideal) a (ix4 0 0 r 0) = a (ix2 r 0) := by
  pointwise [k0_pay13]

theorem pay51 (r : Fin 512) (l : Fin 128) : k0_pay51 (F := Ideal) (ix2 r l) = 0 := by pointwise [k0_pay51]
theorem pay52 (r : Fin 512) : k0_pay52 (F := Ideal) (ix2 r 0) = 0 := by pointwise [k0_pay52]
theorem pay53 (r : Fin 512) (l : Fin 128) : k0_pay53 (F := Ideal) (ix2 r l) = 0 := by pointwise [k0_pay53]
theorem pay54 (r : Fin 512) : k0_pay54 (F := Ideal) (ix2 r 0) = 0 := by pointwise [k0_pay54]
theorem pay1 (x : S2048x128.Idx) : k0_pay1 (F := Ideal) x = 0 := by
  idx_vars x
  pointwise [k0_pay1]
theorem pay2 (x : S2048x128.Idx) : k0_pay2 (F := Ideal) x = 0 := by
  idx_vars x
  pointwise [k0_pay2]
theorem pay3 (x : S2x4x1x512.Idx) : k0_pay3 (F := Ideal) x = 0 := by
  idx_vars x
  pointwise [k0_pay3]

end Cert.Kernel2Ideal.Hand
-- ==== Proof.FoxMath.lean ====
/- One head of causal softmax attention with gate sums: the kernel's probabilities, taken from a log-sum without the
   query's gate sum, are the softmax's, and its score gradient is the softmax's, for finite arguments. -/
module

public import proofs.«01_k».proof.Proof.Softmax
public import proofs.«01_k».proof.Proof.FoxBlock

@[expose] public section

noncomputable section

namespace Cert.Fox

open Idealize.ShloMosaic Cert.Softmax
open Cert.Kernel2Ideal.Hand (e8)

/-- One head's arrays: rows by lanes, and the summed gates. -/
structure Head where
  q : Fin 2048 → Fin 64 → EReal
  k : Fin 2048 → Fin 64 → EReal
  v : Fin 2048 → Fin 64 → EReal
  d : Fin 2048 → Fin 64 → EReal
  c : Fin 2048 → EReal

namespace Head

variable (H : Head) (R C : Fin 2048)

/-- The scaled product of a query row and a key row. -/
def dot : EReal := (∑ l, H.q R l * H.k C l) * e8

/-- The masked score, with both gate sums, and with the key's alone. -/
def score : EReal := if C ≤ R then H.dot R C + (H.c R - H.c C) else ⊥
def score0 : EReal := if C ≤ R then H.dot R C + (0 - H.c C) else ⊥

/-- The log-sum of the scores with the key's gate sum alone. -/
def lse : EReal := rowMax (H.score0 R) + Ideal.log (tot (H.score0 R))

/-- The probabilities, their gradients, the output and the scores' gradients. -/
def p : EReal := prob (H.score R) C
def g : EReal := ∑ l, H.d R l * H.v C l
def out (l : Fin 64) : EReal := ∑ C, H.v C l * H.p R C
def ds : EReal := dscore (H.score R) (H.g R) C

/-- Every entry is a real number. -/
structure Finite : Prop where
  q : ∀ R l, ∃ r : ℝ, H.q R l = r
  k : ∀ R l, ∃ r : ℝ, H.k R l = r
  v : ∀ R l, ∃ r : ℝ, H.v R l = r
  d : ∀ R l, ∃ r : ℝ, H.d R l = r
  c : ∀ R, ∃ r : ℝ, H.c R = r

variable {H} (hH : H.Finite)

theorem e8_coe : ∃ r : ℝ, 0 ≤ r ∧ e8 = r := by
  refine ⟨1 / 8, by norm_num, ?_⟩
  simp [e8, Ideal.ofBits, Ideal.ieee, -EReal.coe_mul]
  norm_num

include hH in
theorem dot_real : ∃ r : ℝ, H.dot R C = r := by
  obtain ⟨e, -, he⟩ := e8_coe
  choose q hq using hH.q R
  choose k hk using hH.k C
  refine ⟨(∑ l, q l * k l) * e, ?_⟩
  unfold dot
  simp only [hq, hk, he, ← EReal.coe_mul, ← coe_sum]

include hH in
/-- The kernel's probability is the softmax's. -/
theorem p_eq : (if C ≤ R then Ideal.exp ((H.dot R C - H.c C) - H.lse R) else 0) = H.p R C := by
  choose x hx using dot_real R (hH := hH)
  choose c hc using hH.c
  have h0 : ∀ j, H.score0 R j = if j ≤ R then ((x j - c j : ℝ) : EReal) else ⊥ := fun j => by
    unfold score0
    split
    · rw [hx, hc, zero_sub, ← EReal.coe_neg, ← EReal.coe_add, sub_eq_add_neg]
    · rfl
  have h1 : ∀ j, H.score R j = if j ≤ R then ((x j - c j + c R : ℝ) : EReal) else ⊥ := fun j => by
    unfold score
    split
    · rw [hx, hc, hc, ← EReal.coe_sub, ← EReal.coe_add]; congr 1; ring
    · rfl
  have hl : H.lse R = _ := lse_masked _ _ _ h0 R le_rfl
  have hp : H.p R C = _ := prob_masked _ _ _ h1 R le_rfl C
  rw [hl, hp]
  split
  · rw [hx, hc, ← EReal.coe_sub, ← EReal.coe_sub]
    refine congrArg Real.toEReal ?_
    have hS : 0 < ∑ l, (if l ≤ R then Real.exp (x l - c l) else 0) :=
      Finset.sum_pos' (fun j _ => by split; exacts [(Real.exp_pos _).le, le_rfl])
        ⟨R, Finset.mem_univ _, by rw [if_pos le_rfl]; exact Real.exp_pos _⟩
    have e : ∑ l, (if l ≤ R then Real.exp (x l - c l + c R) else 0) = (∑ l, (if l ≤ R then Real.exp (x l - c l) else 0)) * Real.exp (c R) := by
      rw [Finset.sum_mul]
      refine Finset.sum_congr rfl fun l _ => ?_
      split
      · exact Real.exp_add _ _
      · rw [zero_mul]
    rw [e, Real.exp_add, mul_div_mul_right _ _ (Real.exp_pos _).ne', Real.exp_sub, Real.exp_log hS]
  · rfl

include hH in
theorem p_real : ∃ r : ℝ, H.p R C = r := by
  choose x hx using dot_real R (hH := hH)
  choose c hc using hH.c
  have h1 : ∀ j, H.score R j = if j ≤ R then ((x j + (c R - c j) : ℝ) : EReal) else ⊥ := fun j => by
    unfold score
    split
    · rw [hx, hc, hc, ← EReal.coe_sub, ← EReal.coe_add]
    · rfl
  exact ⟨_, prob_masked _ _ _ h1 R le_rfl C⟩

include hH in
theorem g_real : ∃ r : ℝ, H.g R C = r := by
  choose d hd using hH.d R
  choose v hv using hH.v C
  refine ⟨∑ l, d l * v l, ?_⟩
  unfold g
  simp only [hd, hv, ← EReal.coe_mul, ← coe_sum]

include hH in
theorem ds_real : ∃ r : ℝ, H.ds R C = r := by
  choose p hp using p_real R (hH := hH)
  choose g hg using g_real R (hH := hH)
  refine ⟨p C * (g C - ∑ l, p l * g l), ?_⟩
  have hp' : ∀ j, prob (H.score R) j = p j := hp
  unfold ds dscore
  simp only [hp', hg, ← EReal.coe_mul, ← coe_sum, ← EReal.coe_sub]

include hH in
/-- The kernel's score gradient, with the output's product for the sum over the keys, is the softmax's. -/
theorem ds_eq : H.p R C * (H.g R C - ∑ l, H.d R l * H.out R l) = H.ds R C := by
  choose p hp using p_real R (hH := hH)
  choose d hd using hH.d R
  choose v hv using hH.v
  have hp' : ∀ j, prob (H.score R) j = p j := hp
  have e : ∑ l, H.d R l * H.out R l = ∑ j, H.p R j * H.g R j := by
    unfold out g
    simp only [hp, hd, hv, ← EReal.coe_mul, ← coe_sum]
    refine congrArg Real.toEReal ?_
    simp only [Finset.mul_sum]
    rw [Finset.sum_comm]
    exact Finset.sum_congr rfl fun j _ => Finset.sum_congr rfl fun l _ => by ring
  rw [e]
  rfl

include hH in
/-- The reference's score gradient, through the quotient and masked again, is the softmax's. -/
theorem dsQ_eq : (if C ≤ R then dscoreQ (H.score R) (H.g R) C else 0) = H.ds R C := by
  choose x hx using dot_real R (hH := hH)
  choose c hc using hH.c
  have h1 : ∀ j, H.score R j = if j ≤ R then ((x j + (c R - c j) : ℝ) : EReal) else ⊥ := fun j => by
    unfold score
    split
    · rw [hx, hc, hc, ← EReal.coe_sub, ← EReal.coe_add]
    · rfl
  obtain ⟨μ, -, hw, hS, ht⟩ := wt_masked _ _ _ h1 R le_rfl
  split
  · exact dscoreQ_of_wt _ _ _ hw hS ht C
  · have hp : prob (H.score R) C = _ := prob_masked _ _ _ h1 R le_rfl C
    rename_i h
    rw [if_neg h] at hp
    unfold ds dscore
    rw [hp, EReal.coe_zero, zero_mul]

end Head

end Cert.Fox

end
-- ==== Proof.FoxRef.lean ====
/- The reference's stages of the forgetting-attention gradient, read element by element over the exact values. -/
module

public import proofs.«01_k».proof.Proof.Gen.Reference2Ideal.Read
public import proofs.«01_k».proof.Proof.FoxMath
public import Idealize.ShloMosaic.Lib.Pointwise
public import Idealize.ShloMosaic.Lib.WordCmp

@[expose] public section

set_option maxRecDepth 16384

noncomputable section

namespace Cert.Fox

open Idealize.ShloMosaic Cert.Softmax
open Cert.Kernel2Ideal.Hand (e8)
open Cert.Reference2Ideal (S4096x1536 S2x8x2048 S4096x512)

/-- Head `h` of batch `b`. -/
def headOf (x0 : S4096x1536.Idx → EReal) (x1 : S2x8x2048.Idx → EReal) (x2 : S4096x512.Idx → EReal) (b : Fin 2) (h : Fin 8) : Head where
  q R l := x0 (ix2 ⟨b.val * 2048 + R.val, by omega⟩ ⟨h.val * 64 + l.val, by omega⟩)
  k R l := x0 (ix2 ⟨b.val * 2048 + R.val, by omega⟩ ⟨512 + (h.val * 64 + l.val), by omega⟩)
  v R l := x0 (ix2 ⟨b.val * 2048 + R.val, by omega⟩ ⟨1024 + (h.val * 64 + l.val), by omega⟩)
  d R l := x2 (ix2 ⟨b.val * 2048 + R.val, by omega⟩ ⟨h.val * 64 + l.val, by omega⟩)
  c R := x1 (ix3 b h R)

end Cert.Fox

namespace Cert.Reference2Ideal.Hand

open Cert.Reference2Ideal Cert.Reference2Ideal.Gen Cert.Reference2Ideal.Read Idealize.ShloMosaic Idealize.ShloMosaic.TcCoe Idealize.SL.Sem Cert.Softmax Cert.Fox
open Cert.Kernel2Ideal.Hand (e8)

variable (x0 : Vec Ideal S4096x1536 .bf16) (x1 : Vec Ideal S2x8x2048 .f32) (x2 : Vec Ideal S4096x512 .bf16)
variable (b : Fin 2) (h : Fin 8) (R C : Fin 2048) (l : Fin 64)

theorem ref_q : val_main_v5 (F := Ideal) x0 (ix4 b R h l) = (headOf x0 x1 x2 b h).q R l := by
  pointwise [val_main_v5, val_main_v2, val_main_v1, val_main_v0]; rfl

theorem ref_k : val_main_v6 (F := Ideal) x0 (ix4 b R h l) = (headOf x0 x1 x2 b h).k R l := by
  pointwise [val_main_v6, val_main_v3, val_main_v1, val_main_v0]; rfl

theorem ref_v : val_main_v7 (F := Ideal) x0 (ix4 b R h l) = (headOf x0 x1 x2 b h).v R l := by
  pointwise [val_main_v7, val_main_v4, val_main_v1, val_main_v0]; rfl

theorem ref_d : val_main_v55 (F := Ideal) x2 (ix4 b h l R) = (headOf x0 x1 x2 b h).d R l := by
  pointwise [val_main_v55, val_main_v54, val_main_v53, val_main_v52]; rfl

theorem ref_dot : val_main_v10 (F := Ideal) x0 (ix4 b h R C) = (headOf x0 x1 x2 b h).dot R C := by
  have e := ref_q x0 x1 x2 b h R
  have e' := ref_k x0 x1 x2 b h C
  unfold val_main_v10 val_main_v8
  generalize val_main_v5 (F := Ideal) x0 = y at e ⊢
  generalize val_main_v6 (F := Ideal) x0 = z at e' ⊢
  pointwise [val_main_v9, val_main_cst]
  simp only [e, e']; rfl

theorem bot_bits : Ideal.ofBits .f32 0xFF800000#32 = ⊥ := by
  simp [Ideal.ofBits, Ideal.ieee, -EReal.coe_mul]

theorem zero_bits : Ideal.ofBits .f32 0x00000000#32 = 0 := by
  simp [Ideal.ofBits, Ideal.ieee, -EReal.coe_mul]

theorem ref_mask (a c : EReal) : Scalar.select (val_main_v20_1 (F := Ideal) (ix4 b h R C)) a c = if C ≤ R then a else c := by
  pointwise [val_main_v20_1, val_main_v18, val_main_v17, val_main_v16]
  rw [WordCmp.cmpi_sge_ofNat (lt_of_lt_of_le R.isLt (by decide)) (lt_of_lt_of_le C.isLt (by decide))]
  by_cases hc : C ≤ R
  · rw [if_pos hc, decide_eq_true (show C.val ≤ R.val from hc)]; rfl
  · rw [if_neg hc, decide_eq_false (show ¬ C.val ≤ R.val from hc)]; rfl

theorem ref_key : val_main_v14 (F := Ideal) x1 (ix4 b h R C) = (headOf x0 x1 x2 b h).c C := by
  pointwise [val_main_v14, val_main_v12]; rfl

theorem ref_score : val_main_v20_0 (F := Ideal) x0 x1 (ix4 b h R C) = (headOf x0 x1 x2 b h).score R C := by
  rw [val_main_v20_0_apply, ref_mask, val_main_v19_apply, ref_dot x0 x1 x2]
  unfold Head.score
  refine if_congr Iff.rfl ?_ ?_
  · refine congrArg (fun z : EReal => (headOf x0 x1 x2 b h).dot R C + z) ?_
    pointwise [val_main_v15, val_main_v14, val_main_v13, val_main_v12, val_main_v11]; rfl
  · exact bot_bits

theorem reduces_last : S2x8x2048x2048.Reduces [(3 : Fin 4)] S2x8x2048 := by decide

/-- The host's maximum over the last axis. -/
theorem reduce_max (y : S2x8x2048x2048.Idx → EReal) (z : S_.Idx → EReal) :
    Host.reduce (α := EReal) max y z reducesTo_S2x8x2048x2048_S2x8x2048_d3 h_S_ (ix3 b h R)
      = Finset.univ.fold max (z (Shape.Idx.first h_S_)) fun j : Fin 2048 => y (ix4 b h R j) := by
  rw [Host.reduce_eq_fold_single max y z _ reduces_last h_S_ (ix3 b h R)]
  refine Finset.fold_congr fun j _ => congrArg y (funext fun a => Fin.ext ?_)
  match a with | ⟨0, _⟩ => rfl | ⟨1, _⟩ => rfl | ⟨2, _⟩ => rfl | ⟨3, _⟩ => rfl

theorem ref_max : val_main_v28 (F := Ideal) x0 x1 (ix3 b h R) = rowMax ((headOf x0 x1 x2 b h).score R) := by
  have e := fun j => ref_score x0 x1 x2 b h R j
  have e' : val_main_v21 (F := Ideal) x0 x1 (ix3 b h R) = rowMax ((headOf x0 x1 x2 b h).score R) := by
    unfold val_main_v21
    generalize val_main_v20_0 (F := Ideal) x0 x1 = y at e ⊢
    refine (reduce_max b h R y _).trans ?_
    refine (Finset.fold_congr fun j _ => e j).trans ?_
    exact congrArg (fun z : EReal => Finset.univ.fold max z _) bot_bits
  rw [val_main_v28_apply, e', val_main_v27_apply]
  exact (congrArg (fun z : EReal => max z _) bot_bits).trans (bot_sup_eq _)

theorem ref_wt : val_main_v41 (F := Ideal) x0 x1 (ix4 b h R C) = wt ((headOf x0 x1 x2 b h).score R) C := by
  have e := ref_max x0 x1 x2 b h R
  have e' := ref_score x0 x1 x2 b h R C
  unfold val_main_v41 val_main_v40 val_main_v39 val_main_v38
  generalize val_main_v28 (F := Ideal) x0 x1 = y at e ⊢
  generalize val_main_v20_0 (F := Ideal) x0 x1 = z at e' ⊢
  pointwise []
  rw [e, e']; rfl

theorem ref_tot : val_main_v43 (F := Ideal) x0 x1 (ix4 b h R 0) = tot ((headOf x0 x1 x2 b h).score R) := by
  have e := fun j => ref_wt x0 x1 x2 b h R j
  unfold val_main_v43 val_main_v42
  generalize val_main_v41 (F := Ideal) x0 x1 = y at e ⊢
  pointwise [val_main_cst_9]
  simp only [e]; rfl

theorem ref_prob : val_main_v45 (F := Ideal) x0 x1 (ix4 b h R C) = (headOf x0 x1 x2 b h).p R C := by
  have e := ref_wt x0 x1 x2 b h R C
  have e' := ref_tot x0 x1 x2 b h R
  unfold val_main_v45 val_main_v44
  generalize val_main_v41 (F := Ideal) x0 x1 = y at e ⊢
  generalize val_main_v43 (F := Ideal) x0 x1 = z at e' ⊢
  pointwise []
  rw [e, e']; rfl

theorem ref_g : val_main_v56 (F := Ideal) x0 x2 (ix4 b h R C) = (headOf x0 x1 x2 b h).g R C := by
  have e := fun l => ref_d x0 x1 x2 b h R l
  have e' := fun l => ref_v x0 x1 x2 b h C l
  unfold val_main_v56
  generalize val_main_v55 (F := Ideal) x2 = y at e ⊢
  generalize val_main_v7 (F := Ideal) x0 = z at e' ⊢
  pointwise []
  simp only [e, e']; rfl

theorem ref_ds : val_main_v71 (F := Ideal) x0 x1 x2 (ix4 b h R C)
    = if C ≤ R then dscoreQ ((headOf x0 x1 x2 b h).score R) ((headOf x0 x1 x2 b h).g R) C else 0 := by
  rw [val_main_v71_apply, ref_mask]
  refine if_congr Iff.rfl ?_ zero_bits
  have e := fun j => ref_wt x0 x1 x2 b h R j
  have e' := ref_tot x0 x1 x2 b h R
  have g := fun j => ref_g x0 x1 x2 b h R j
  unfold val_main_v70 val_main_v69 val_main_v68 val_main_v67 val_main_v66 val_main_v65 val_main_v64 val_main_v63 val_main_v62 val_main_v61 val_main_v60 val_main_v59 val_main_v48 val_main_v47 val_main_v46
  generalize val_main_v41 (F := Ideal) x0 x1 = y at e ⊢
  generalize val_main_v43 (F := Ideal) x0 x1 = z at e' ⊢
  generalize val_main_v56 (F := Ideal) x0 x2 = w at g ⊢
  pointwise [val_main_cst_10, val_main_cst_11, val_main_cst_12]
  simp only [e, e', g]
  rw [Fin.sum_univ_one]; rfl

variable (H : Head) (hH : H = headOf x0 x1 x2 b h) (hf : H.Finite)

include hH hf in
theorem ref_ds' : val_main_v71 (F := Ideal) x0 x1 x2 (ix4 b h R C) = H.ds R C := by
  subst hH
  exact (ref_ds x0 x1 x2 b h R C).trans (Head.dsQ_eq R C hf)

include hH hf in
theorem ref_sds : val_main_v80 (F := Ideal) x0 x1 x2 (ix4 b h R C) = H.ds R C * e8 := by
  rw [val_main_v80_apply, ref_ds' x0 x1 x2 b h R C H hH hf]; rfl

include hH in
/-- The gradient of the values. -/
theorem ref_dv : val_main_v93 (F := Ideal) x0 x1 x2 (ix2 ⟨b.val * 2048 + C.val, by omega⟩ ⟨h.val * 64 + l.val, by omega⟩)
    = ∑ R, H.d R l * H.p R C := by
  have e := fun R => ref_d x0 x1 x2 b h R l
  have e' := fun R => ref_prob x0 x1 x2 b h R C
  rw [← hH] at e e'
  unfold val_main_v93 val_main_v92 val_main_v85 val_main_v58 val_main_v57
  generalize val_main_v55 (F := Ideal) x2 = y at e ⊢
  generalize val_main_v45 (F := Ideal) x0 x1 = z at e' ⊢
  pointwise []
  simp only [e, e']

include hH hf in
/-- The gradient of the keys. -/
theorem ref_dk : val_main_v91 (F := Ideal) x0 x1 x2 (ix2 ⟨b.val * 2048 + C.val, by omega⟩ ⟨h.val * 64 + l.val, by omega⟩)
    = ∑ R, (H.ds R C * e8) * H.q R l := by
  have e := fun R => ref_q x0 x1 x2 b h R l
  have e' := fun R => ref_sds x0 x1 x2 b h R C H hH hf
  rw [← hH] at e
  unfold val_main_v91 val_main_v90 val_main_v86 val_main_v82 val_main_v81
  generalize val_main_v5 (F := Ideal) x0 = y at e ⊢
  generalize val_main_v80 (F := Ideal) x0 x1 x2 = z at e' ⊢
  pointwise []
  simp only [e, e']

include hH hf in
/-- The gradient of the queries. -/
theorem ref_dq : val_main_v89 (F := Ideal) x0 x1 x2 (ix2 ⟨b.val * 2048 + R.val, by omega⟩ ⟨h.val * 64 + l.val, by omega⟩)
    = ∑ C, (H.ds R C * e8) * H.k C l := by
  have e := fun C => ref_k x0 x1 x2 b h C l
  have e' := fun C => ref_sds x0 x1 x2 b h R C H hH hf
  rw [← hH] at e
  unfold val_main_v89 val_main_v88 val_main_v87 val_main_v84 val_main_v83
  generalize val_main_v6 (F := Ideal) x0 = y at e ⊢
  generalize val_main_v80 (F := Ideal) x0 x1 x2 = z at e' ⊢
  pointwise []
  simp only [e, e']

include hH hf in
/-- The gradient of the gate sums at the keys. -/
theorem ref_dck (n : Fin 4) (y : Fin 512) : val_main_v94 (F := Ideal) x0 x1 x2 (ix4 ⟨b.val * 8 + h.val, by omega⟩ n 0 y)
    = ∑ R, -H.ds R ⟨n.val * 512 + y.val, by omega⟩ := by
  have e := fun R => ref_ds' x0 x1 x2 b h R ⟨n.val * 512 + y.val, by omega⟩ H hH hf
  unfold val_main_v94 val_main_v77 val_main_v76 val_main_v75 val_main_v74
  generalize val_main_v71 (F := Ideal) x0 x1 x2 = z at e ⊢
  pointwise [val_main_cst_14, val_main_cst_15]
  simp only [Fin.sum_univ_one, e]

include hH hf in
/-- The gradient of the gate sums at the queries. -/
theorem ref_dcq (n : Fin 4) (r : Fin 512) : val_main_v95 (F := Ideal) x0 x1 x2 (ix4 ⟨b.val * 8 + h.val, by omega⟩ n r 0)
    = ∑ C, H.ds ⟨n.val * 512 + r.val, by omega⟩ C := by
  have e := fun C => ref_ds' x0 x1 x2 b h ⟨n.val * 512 + r.val, by omega⟩ C H hH hf
  unfold val_main_v95 val_main_v78 val_main_v73 val_main_v72
  generalize val_main_v71 (F := Ideal) x0 x1 x2 = z at e ⊢
  pointwise [val_main_cst_13, val_main_cst_16]
  simp only [Fin.sum_univ_one, e]

end Cert.Reference2Ideal.Hand

end
-- ==== Proof.FoxPre.lean ====
/- The precondition read as a statement about numbers: every entry of every head is real. -/
module

public import proofs.«01_k».proof.Proof.Gen.Pre_finite_arguments
public import proofs.«01_k».proof.Proof.FoxRef
public import proofs.«01_k».proof.Proof.MemPre

@[expose] public section

noncomputable section

namespace Cert.Pre_finite_arguments.Hand

open Cert.Pre_finite_arguments Idealize.ShloMosaic Cert.Fox
open Cert.Pre_finite_scores.Hand (real_of_lt)

theorem same_inf : Ideal.ofBits .f32 0x7F800000#32 = Ideal.ofBits .bf16 0x7F80#16 := by
  simp [Ideal.ofBits, Ideal.ieee, -EReal.coe_mul]

theorem finite (x0 : Vec Ideal S4096x1536 .bf16) (x1 : Vec Ideal S2x8x2048 .f32) (x2 : Vec Ideal S4096x512 .bf16)
    (h : @fn Gen.facts Ideal _ x0 x1 x2 = fun _ => 1#1) (b : Fin 2) (a : Fin 8) : (headOf x0 x1 x2 b a).Finite := by
  haveI := Gen.facts
  have h := congrFun h (Shape.Idx.first Gen.facts.h_S_)
  dsimp only [fn] at h
  obtain ⟨h, h3⟩ := IntOp.andi_eq_one.1 h
  obtain ⟨h1, h2⟩ := IntOp.andi_eq_one.1 h
  haveI : Subsingleton S_.Idx := ⟨fun a b => funext fun i => i.elim0⟩
  refine ⟨fun R l => ?_, fun R l => ?_, fun R l => ?_, fun R l => ?_, fun R => ?_⟩
  · exact real_of_lt (Host.reduce_andi_all _ _ _ _ _ h1 (ix2 ⟨b.val * 2048 + R.val, by omega⟩ ⟨a.val * 64 + l.val, by omega⟩))
  · exact real_of_lt (Host.reduce_andi_all _ _ _ _ _ h1 (ix2 ⟨b.val * 2048 + R.val, by omega⟩ ⟨512 + (a.val * 64 + l.val), by omega⟩))
  · exact real_of_lt (Host.reduce_andi_all _ _ _ _ _ h1 (ix2 ⟨b.val * 2048 + R.val, by omega⟩ ⟨1024 + (a.val * 64 + l.val), by omega⟩))
  · exact real_of_lt (Host.reduce_andi_all _ _ _ _ _ h3 (ix2 ⟨b.val * 2048 + R.val, by omega⟩ ⟨a.val * 64 + l.val, by omega⟩))
  · refine real_of_lt ?_
    rw [← same_inf]
    exact Host.reduce_andi_all _ _ _ _ _ h2 (ix3 b a R)

end Cert.Pre_finite_arguments.Hand

end
-- ==== Proof.FoxTrip.lean ====
/- One trip of the loop over the query blocks of the forgetting-attention gradient, and the loop's invariant: each buffer
   the loop writes holds what the trips before have written over its contents at the loop's entry. -/
module

public import proofs.«01_k».proof.Proof.Gen.Kernel2Ideal.Frame
public import proofs.«01_k».proof.Proof.Gen.Kernel2Ideal.Loops
public import Idealize.ShloMosaic.Lib.LoopRemainder

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S2048x128 .bf16) (harg1 : arg1.IsWhole) (arg2 : Memref sig .tc .vmem S2048x128
  .bf16) (harg2 : arg2.IsWhole) (arg3 : Memref sig .tc .vmem S2048x128 .bf16) (harg3 : arg3.IsWhole) (arg4 :
  Memref sig .tc .vmem S2048x128 .bf16) (harg4 : arg4.IsWhole) (arg5 : Memref sig .tc .vmem S2048x128 .bf16)
  (harg5 : arg5.IsWhole) (arg6 : Memref sig .tc .vmem S2x4x1x512 .f32) (harg6 : arg6.IsWhole) (arg7 : Memref sig
  .tc .vmem S2x4x512x1 .f32) (harg7 : arg7.IsWhole) (arg8 : Memref sig .tc .vmem S2048x128 .bf16) (harg8 :
  arg8.IsWhole) (arg9 : Memref sig .tc .vmem S2048x128 .bf16) (harg9 : arg9.IsWhole) (arg10 : Memref sig .tc .vmem
  S2048x128 .bf16) (harg10 : arg10.IsWhole) (arg11 : Memref sig .tc .vmem S2x4x1x512 .f32) (harg11 :
  arg11.IsWhole) (arg12 : Memref sig .tc .vmem S2x4x512x1 .f32) (harg12 : arg12.IsWhole) (arg13 : Memref sig .tc
  .vmem S2048x128 .f32) (harg13 : arg13.IsWhole) (arg14 : Memref sig .tc .vmem S2048x128 .f32) (harg14 :
  arg14.IsWhole)

/-- What one trip of the loop over the query blocks holds: seven buffers it only reads, five it writes. -/
abbrev Trip (X1 : BufTy.Contents (Elt F) arg1.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (f8 : BufTy.Contents (Elt F) arg8.view.ty)
    (f11 : BufTy.Contents (Elt F) arg11.view.ty) (f12 : BufTy.Contents (Elt F) arg12.view.ty)
    (f13 : BufTy.Contents (Elt F) arg13.view.ty) (f14 : BufTy.Contents (Elt F) arg14.view.ty) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} f8)
    ∗ (arg11.view.loc (c : Thread nD τ) ↦[arg11.view.set]{fullShare} f11) ∗ (arg12.view.loc (c : Thread nD τ) ↦[arg12.view.set]{fullShare} f12)
    ∗ (arg13.view.loc (c : Thread nD τ) ↦[arg13.view.set]{fullShare} f13) ∗ (arg14.view.loc (c : Thread nD τ) ↦[arg14.view.set]{fullShare} f14))

/-- One trip at a symbolic query block: the pieces it writes into the five buffers, as functions of what it finds in the
    three it reads back. -/
@[irreducible] def trip (X1 : BufTy.Contents (Elt F) arg1.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (k : Fin k0_t1_loop.trips) :
    Σ' (L8 : BufTy.Contents (Elt F) arg11.view.ty → BufTy.Contents (Elt F) arg13.view.ty → BufTy.Contents (Elt F) arg14.view.ty → List (View.Piece (Elt F) S2048x128 .bf16))
      (L11 : BufTy.Contents (Elt F) arg11.view.ty → BufTy.Contents (Elt F) arg13.view.ty → BufTy.Contents (Elt F) arg14.view.ty → List (View.Piece (Elt F) S2x4x1x512 .f32))
      (L12 : BufTy.Contents (Elt F) arg11.view.ty → BufTy.Contents (Elt F) arg13.view.ty → BufTy.Contents (Elt F) arg14.view.ty → List (View.Piece (Elt F) S2x4x512x1 .f32))
      (L13 : BufTy.Contents (Elt F) arg11.view.ty → BufTy.Contents (Elt F) arg13.view.ty → BufTy.Contents (Elt F) arg14.view.ty → List (View.Piece (Elt F) S2048x128 .f32)),
      { L14 : BufTy.Contents (Elt F) arg11.view.ty → BufTy.Contents (Elt F) arg13.view.ty → BufTy.Contents (Elt F) arg14.view.ty → List (View.Piece (Elt F) S2048x128 .f32) //
        ∀ (E : Set ℕ) (f8 : BufTy.Contents (Elt F) arg8.view.ty) (f11 : BufTy.Contents (Elt F) arg11.view.ty)
          (f12 : BufTy.Contents (Elt F) arg12.view.ty) (f13 : BufTy.Contents (Elt F) arg13.view.ty)
          (f14 : BufTy.Contents (Elt F) arg14.view.ty),
          Trip c arg1 arg2 arg3 arg4 arg5 arg6 arg7 arg8 arg11 arg12 arg13 arg14 X1 X2 X3 X4 X5 X6 X7 f8 f11 f12 f13 f14
          ⊢ wp frame (wpE (defs₀ (F := F)) Variants.none (c : Thread nD τ) none) E
              (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k ())
              (fun _ => Trip c arg1 arg2 arg3 arg4 arg5 arg6 arg7 arg8 arg11 arg12 arg13 arg14 X1 X2 X3 X4 X5 X6 X7
                (arg8.view.writes (Elt F) f8 (L8 f11 f13 f14)) (arg11.view.writes (Elt F) f11 (L11 f11 f13 f14))
                (arg12.view.writes (Elt F) f12 (L12 f11 f13 f14)) (arg13.view.writes (Elt F) f13 (L13 f11 f13 f14))
                (arg14.view.writes (Elt F) f14 (L14 f11 f13 f14))) } := by
  refine ⟨?_, ?_, ?_, ?_, ?_, fun E f8 f11 f12 f13 f14 => ?run⟩
  case run =>
    unfold k0_t1_body
    iintro ⟨H1, H2, H3, H4, H5, H6, H7, H8, H11, H12, H13, H14⟩
    sl_exec
    sl_step
    sl_close

end Cert.Kernel2Ideal.Hand

end
-- ==== Proof.FoxLoop.lean ====
/- The loop over the query blocks of the forgetting-attention gradient by its invariant: before trip `k` each buffer the loop
   writes holds what the trips before have written over its contents at the loop's entry. -/
module

public import proofs.«01_k».proof.Proof.FoxTrip

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S2048x128 .bf16) (harg1 : arg1.IsWhole) (arg2 : Memref sig .tc .vmem S2048x128
  .bf16) (harg2 : arg2.IsWhole) (arg3 : Memref sig .tc .vmem S2048x128 .bf16) (harg3 : arg3.IsWhole) (arg4 :
  Memref sig .tc .vmem S2048x128 .bf16) (harg4 : arg4.IsWhole) (arg5 : Memref sig .tc .vmem S2048x128 .bf16)
  (harg5 : arg5.IsWhole) (arg6 : Memref sig .tc .vmem S2x4x1x512 .f32) (harg6 : arg6.IsWhole) (arg7 : Memref sig
  .tc .vmem S2x4x512x1 .f32) (harg7 : arg7.IsWhole) (arg8 : Memref sig .tc .vmem S2048x128 .bf16) (harg8 :
  arg8.IsWhole) (arg9 : Memref sig .tc .vmem S2048x128 .bf16) (harg9 : arg9.IsWhole) (arg10 : Memref sig .tc .vmem
  S2048x128 .bf16) (harg10 : arg10.IsWhole) (arg11 : Memref sig .tc .vmem S2x4x1x512 .f32) (harg11 :
  arg11.IsWhole) (arg12 : Memref sig .tc .vmem S2x4x512x1 .f32) (harg12 : arg12.IsWhole) (arg13 : Memref sig .tc
  .vmem S2048x128 .f32) (harg13 : arg13.IsWhole) (arg14 : Memref sig .tc .vmem S2048x128 .f32) (harg14 :
  arg14.IsWhole)

/-- The pieces written into the five buffers so far. -/
abbrev Pcs (F : FTy → Type) [FloatOps F] : Type :=
  List (View.Piece (Elt F) S2048x128 .bf16) × List (View.Piece (Elt F) S2x4x1x512 .f32)
    × List (View.Piece (Elt F) S2x4x512x1 .f32) × List (View.Piece (Elt F) S2048x128 .f32)
    × List (View.Piece (Elt F) S2048x128 .f32)

variable (X1 : BufTy.Contents (Elt F) arg1.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty)
    (X7 : BufTy.Contents (Elt F) arg7.view.ty) (G8 : BufTy.Contents (Elt F) arg8.view.ty)
    (G11 : BufTy.Contents (Elt F) arg11.view.ty) (G12 : BufTy.Contents (Elt F) arg12.view.ty)
    (G13 : BufTy.Contents (Elt F) arg13.view.ty) (G14 : BufTy.Contents (Elt F) arg14.view.ty)

/-- One more trip's pieces before those already written. -/
def add (k : Fin k0_t1_loop.trips) (p : Pcs F) : Pcs F :=
  ((trip c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).1 (arg11.view.writes (Elt F) G11 p.2.1) (arg13.view.writes (Elt F) G13 p.2.2.2.1) (arg14.view.writes (Elt F) G14 p.2.2.2.2) ++ p.1, (trip c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).2.1 (arg11.view.writes (Elt F) G11 p.2.1) (arg13.view.writes (Elt F) G13 p.2.2.2.1) (arg14.view.writes (Elt F) G14 p.2.2.2.2) ++ p.2.1, (trip c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).2.2.1 (arg11.view.writes (Elt F) G11 p.2.1) (arg13.view.writes (Elt F) G13 p.2.2.2.1) (arg14.view.writes (Elt F) G14 p.2.2.2.2) ++ p.2.2.1, (trip c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).2.2.2.1 (arg11.view.writes (Elt F) G11 p.2.1) (arg13.view.writes (Elt F) G13 p.2.2.2.1) (arg14.view.writes (Elt F) G14 p.2.2.2.2) ++ p.2.2.2.1, (trip c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).2.2.2.2.1 (arg11.view.writes (Elt F) G11 p.2.1) (arg13.view.writes (Elt F) G13 p.2.2.2.1) (arg14.view.writes (Elt F) G14 p.2.2.2.2) ++ p.2.2.2.2)

@[irreducible] def pcsStep (k : ℕ) (p : Pcs F) : Pcs F :=
  if h : k < k0_t1_loop.trips then add c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 ⟨k, h⟩ p else p

/-- The pieces of the trips before `k`. -/
def pcs : ℕ → Pcs F
  | 0 => ([], [], [], [], [])
  | k + 1 => pcsStep c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k (pcs k)

theorem pcs_succ (k : Fin k0_t1_loop.trips) :
    pcs c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 (k.val + 1) = add c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k (pcs c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k.val) := by
  rw [pcs.eq_2]; unfold pcsStep; exact dif_pos k.isLt

/-- What the loop holds before trip `k`. -/
abbrev inv (k : ℕ) (_ : Unit) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7)
    ∗ (∃ f, (arg8.view.loc (c : Thread nD τ) ↦[arg8.view.set]{fullShare} f) ∗ ⌜f = arg8.view.writes (Elt F) G8 (pcs c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k).1⌝)
    ∗ (∃ f, (arg11.view.loc (c : Thread nD τ) ↦[arg11.view.set]{fullShare} f) ∗ ⌜f = arg11.view.writes (Elt F) G11 (pcs c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k).2.1⌝)
    ∗ (∃ f, (arg12.view.loc (c : Thread nD τ) ↦[arg12.view.set]{fullShare} f) ∗ ⌜f = arg12.view.writes (Elt F) G12 (pcs c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k).2.2.1⌝)
    ∗ (∃ f, (arg13.view.loc (c : Thread nD τ) ↦[arg13.view.set]{fullShare} f) ∗ ⌜f = arg13.view.writes (Elt F) G13 (pcs c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k).2.2.2.1⌝)
    ∗ (∃ f, (arg14.view.loc (c : Thread nD τ) ↦[arg14.view.set]{fullShare} f) ∗ ⌜f = arg14.view.writes (Elt F) G14 (pcs c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k).2.2.2.2⌝))

set_option maxHeartbeats 1000000 in
set_option warn.classDefReducibility false in
/-- The loop by its invariant: one trip takes what the trips before `k` left to what the trips before `k + 1` leave. -/
@[sl_loop] def loopInv (E : Set ℕ) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 where
  inv := inv c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G8 G11 G12 G13 G14
  step k acc := by
    iintro ⟨H1, H2, H3, H4, H5, H6, H7, ⟨%f8, H8, %h8⟩, ⟨%f11, H11, %h11⟩, ⟨%f12, H12, %h12⟩, ⟨%f13, H13, %h13⟩, ⟨%f14, H14, %h14⟩⟩
    subst h8 h11 h12 h13 h14
    iapply (wp_wand_r Idealize.ShloMosaic.frame (wpE (defs₀ (F := F)) Variants.none (c : Thread nD τ) none) E)
    isplitl [H1 H2 H3 H4 H5 H6 H7 H8 H11 H12 H13 H14]
    · iapply ((trip c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).2.2.2.2.2 E _ _ _ _ _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      isplitl [H12]; · iexact H12
      isplitl [H13]; · iexact H13
      iexact H14
    · iintro %yld ⟨H1, H2, H3, H4, H5, H6, H7, H8, H11, H12, H13, H14⟩
      isplitl [H1]; · iexact H1
      isplitl [H2]; · iexact H2
      isplitl [H3]; · iexact H3
      isplitl [H4]; · iexact H4
      isplitl [H5]; · iexact H5
      isplitl [H6]; · iexact H6
      isplitl [H7]; · iexact H7
      rw [pcs_succ c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k]; unfold add; dsimp only
      isplitl [H8]
      · iexists _; isplitl [H8]; · iexact H8
        ipureintro; exact (View.writes_append _ _ _ _).symm
      isplitl [H11]
      · iexists _; isplitl [H11]; · iexact H11
        ipureintro; exact (View.writes_append _ _ _ _).symm
      isplitl [H12]
      · iexists _; isplitl [H12]; · iexact H12
        ipureintro; exact (View.writes_append _ _ _ _).symm
      isplitl [H13]
      · iexists _; isplitl [H13]; · iexact H13
        ipureintro; exact (View.writes_append _ _ _ _).symm
      iexists _; isplitl [H14]; · iexact H14
      ipureintro; exact (View.writes_append _ _ _ _).symm

end Cert.Kernel2Ideal.Hand

end
-- ==== Proof.FoxRun.lean ====
/- One grid point of the forgetting-attention gradient: on whole buffers, the inputs at their contents and everything else at
   anything, the body runs and leaves in each output the pieces this module names. -/
module

public import proofs.«01_k».proof.Proof.FoxLoop

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S2048x128 .bf16) (harg1 : arg1.IsWhole) (arg2 : Memref sig .tc .vmem S2048x128
  .bf16) (harg2 : arg2.IsWhole) (arg3 : Memref sig .tc .vmem S2048x128 .bf16) (harg3 : arg3.IsWhole) (arg4 :
  Memref sig .tc .vmem S2048x128 .bf16) (harg4 : arg4.IsWhole) (arg5 : Memref sig .tc .vmem S2048x128 .bf16)
  (harg5 : arg5.IsWhole) (arg6 : Memref sig .tc .vmem S2x4x1x512 .f32) (harg6 : arg6.IsWhole) (arg7 : Memref sig
  .tc .vmem S2x4x512x1 .f32) (harg7 : arg7.IsWhole) (arg8 : Memref sig .tc .vmem S2048x128 .bf16) (harg8 :
  arg8.IsWhole) (arg9 : Memref sig .tc .vmem S2048x128 .bf16) (harg9 : arg9.IsWhole) (arg10 : Memref sig .tc .vmem
  S2048x128 .bf16) (harg10 : arg10.IsWhole) (arg11 : Memref sig .tc .vmem S2x4x1x512 .f32) (harg11 :
  arg11.IsWhole) (arg12 : Memref sig .tc .vmem S2x4x512x1 .f32) (harg12 : arg12.IsWhole) (arg13 : Memref sig .tc
  .vmem S2048x128 .f32) (harg13 : arg13.IsWhole) (arg14 : Memref sig .tc .vmem S2048x128 .f32) (harg14 :
  arg14.IsWhole)

set_option maxHeartbeats 1000000 in
/-- The pieces the body leaves in its five outputs, with the proof that it runs and leaves them. -/
noncomputable def bodyRun
    (x1 : Vec F S2048x128 .bf16)
    (x2 : Vec F S2048x128 .bf16)
    (x3 : Vec F S2048x128 .bf16)
    (x4 : Vec F S2048x128 .bf16)
    (x5 : Vec F S2048x128 .bf16)
    (x6 : Vec F S2x4x1x512 .f32)
    (x7 : Vec F S2x4x512x1 .f32) :
    Σ' (L8 : List (View.Piece (Elt F) S2048x128 .bf16)), Σ' (L9 : List (View.Piece (Elt F) S2048x128 .bf16)), Σ' (L10 : List (View.Piece (Elt F) S2048x128 .bf16)), Σ' (L11 : List (View.Piece (Elt F) S2x4x1x512 .f32)), { L12 : List (View.Piece (Elt F) S2x4x512x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ f, arg8.view.loc (c : Thread nD τ) ↦[arg8.view.set]{fullShare} arg8.view.writes (Elt F) f L8)
            ∗ (∃ f, arg9.view.loc (c : Thread nD τ) ↦[arg9.view.set]{fullShare} arg9.view.writes (Elt F) f L9)
            ∗ (∃ f, arg10.view.loc (c : Thread nD τ) ↦[arg10.view.set]{fullShare} arg10.view.writes (Elt F) f L10)
            ∗ (∃ f, arg11.view.loc (c : Thread nD τ) ↦[arg11.view.set]{fullShare} arg11.view.writes (Elt F) f L11)
            ∗ (∃ f, arg12.view.loc (c : Thread nD τ) ↦[arg12.view.set]{fullShare} arg12.view.writes (Elt F) f L12)
            ∗ (∃ d, owns (c : Thread nD τ) arg13 fullShare d) ∗ (∃ d, owns (c : Thread nD τ) arg14 fullShare d)) -∗ K ⟨⟩))
          ⊢ wp frame (wpE (defs₀ (F := F)) Variants.none c none) E (cc0_fox_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_fox_bwd_eq_skeleton]; unfold cc0_fox_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _; iexists _; isplitr
      swap; · iexact H13
      ipureintro; rfl
    iexists _; iexists _; isplitr
    swap; · iexact H14
    ipureintro; rfl

end Cert.Kernel2Ideal.Hand

end
-- ==== Proof.FoxFrame.lean ====
/- The forgetting-attention gradient's pipeline: what each staging buffer holds at each grid point, the body's obligation, the
   launch, and the frame — the program ends with its arguments unchanged and every counter at zero. -/
module

public import proofs.«01_k».proof.Proof.FoxRun
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a grid point -/

abbrev ms0 (t : Fin cfg0.N) : Memref sig .tc .vmem S2048x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x4x1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x4x512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x4x1x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2x4x512x1 .f32 := win0_11.stage (cfg0.slots t 11)
abbrev hs11 (t : Fin cfg0.N) : (ms11 t).IsWhole := hstage0_11 ((cfg0.slots t 11).cast nbuf0_11)
abbrev sc0 : Memref sig .tc .vmem S2048x128 .f32 := Memref.whole cc0_scratch0
abbrev sc1 : Memref sig .tc .vmem S2048x128 .f32 := Memref.whole cc0_scratch1

/-- The body's run at a grid point, on that point's buffers and the blocks they hold. -/
abbrev runAt (c : Dev nD) (t : Fin cfg0.N) :=
  bodyRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _)
    (iblk m c 0 t) (iblk m c 1 t) (iblk m c 2 t) (iblk m c 3 t) (iblk m c 4 t) (iblk m c 5 t) (iblk m c 6 t)

/-! ## The stores cover each output's block -/

theorem cover7 (c : Dev nD) (t : Fin cfg0.N) (y : S2048x128.Idx) : ∃ pc ∈ (runAt m c t).1, y ∈ pc.1.set :=
  View.cover_of_tiledL (runAt m c t).1 S512x128.size (by sl_kernel_rfl) y

/-- What the body leaves in output 7. -/
def out7 (c : Dev nD) (t : Fin cfg0.N) : Vec F S2048x128 .bf16 := View.canon (runAt m c t).1

theorem cover8 (c : Dev nD) (t : Fin cfg0.N) (y : S2048x128.Idx) : ∃ pc ∈ (runAt m c t).2.1, y ∈ pc.1.set :=
  View.cover_of_tiledL (runAt m c t).2.1 S2048x128.size (by sl_kernel_rfl) y

/-- What the body leaves in output 8. -/
def out8 (c : Dev nD) (t : Fin cfg0.N) : Vec F S2048x128 .bf16 := View.canon (runAt m c t).2.1

theorem cover9 (c : Dev nD) (t : Fin cfg0.N) (y : S2048x128.Idx) : ∃ pc ∈ (runAt m c t).2.2.1, y ∈ pc.1.set :=
  View.cover_of_tiledL (runAt m c t).2.2.1 S2048x128.size (by sl_kernel_rfl) y

/-- What the body leaves in output 9. -/
def out9 (c : Dev nD) (t : Fin cfg0.N) : Vec F S2048x128 .bf16 := View.canon (runAt m c t).2.2.1

theorem cover10 (c : Dev nD) (t : Fin cfg0.N) (y : S2x4x1x512.Idx) : ∃ pc ∈ (runAt m c t).2.2.2.1, y ∈ pc.1.set :=
  View.cover_of_tiledBy (runAt m c t).2.2.2.1 S1x1x1x512.size (by sl_kernel_rfl) y

/-- What the body leaves in output 10. -/
def out10 (c : Dev nD) (t : Fin cfg0.N) : Vec F S2x4x1x512 .f32 := View.canon (runAt m c t).2.2.2.1

theorem cover11 (c : Dev nD) (t : Fin cfg0.N) (y : S2x4x512x1.Idx) : ∃ pc ∈ (runAt m c t).2.2.2.2.1, y ∈ pc.1.set :=
  View.cover_of_tiledL (runAt m c t).2.2.2.2.1 S1x1x512x1.size (by sl_kernel_rfl) y

/-- What the body leaves in output 11. -/
def out11 (c : Dev nD) (t : Fin cfg0.N) : Vec F S2x4x512x1 .f32 := View.canon (runAt m c t).2.2.2.2.1

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
    | ⟨10, _⟩ => out10 m c t
    | ⟨11, _⟩ => out11 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]
theorem after8 (c : Dev nD) (t : Fin cfg0.N) : (dats m 0 c).after 8 t = out8 m c t := by dsimp only [dats]
theorem after9 (c : Dev nD) (t : Fin cfg0.N) : (dats m 0 c).after 9 t = out9 m c t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The invariant carried between grid points: the two scratch buffers at some contents, and the generator register. -/
theorem scratch_eq (c : Dev nD) :
    (Pipeline.ΦA spec0 c : sProp 𝕄)
      = iprop(((∃ d, owns (c : Thread nD τ) sc0 fullShare d) ∗ (∃ d, owns (c : Thread nD τ) sc1 fullShare d)) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 1000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, scratch_eq]
  unfold out7 out8 out9 out10 out11
  iintro ⟨⟨⟨⟨%e0, HS0⟩, ⟨%e1, HS1⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runAt m c t).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexists _; iexact HS0
  isplitl [HS1]; · iexists _; iexact HS1
  iintro ⟨H0, H1, H2, H3, H4, H5, H6, ⟨%g7, H7⟩, ⟨%g8, H8⟩, ⟨%g9, H9⟩, ⟨%g10, H10⟩, ⟨%g11, H11⟩, ⟨%e0, HS0⟩, ⟨%e1, HS1⟩⟩
  isplitl [HS0 HS1 HR]
  · isplitl [HS0 HS1]
    · isplitl [HS0]; · iexists _; iexact HS0
      iexists _; iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (cover7 m c t)
  isplitl [H8]
  · unfold owns; iexists _; isplitr
    swap; · iexact H8
    ipureintro; exact View.read_writes_eq_canon _ _ _ (cover8 m c t)
  isplitl [H9]
  · unfold owns; iexists _; isplitr
    swap; · iexact H9
    ipureintro; exact View.read_writes_eq_canon _ _ _ (cover9 m c t)
  isplitl [H10]
  · unfold owns; iexists _; isplitr
    swap; · iexact H10
    ipureintro; exact View.read_writes_eq_canon _ _ _ (cover10 m c t)
  unfold owns; iexists _; isplitr
  swap; · iexact H11
  ipureintro; exact View.read_writes_eq_canon _ _ _ (cover11 m c t)

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution terminates, with each array of the pipeline at what the proof data compute, every other buffer as the
    kernel call found it, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.Hand

end
-- ==== Proof.FoxBits.lean ====
/- The call as printed for the machine's floats and as printed for the exact values is one text: the run of the one is the
   run of the other. -/
module

public import proofs.«01_k».proof.Defs
public import proofs.«01_k».proof.Proof.Gen.Kernel2
public import proofs.«01_k».proof.Proof.FoxFrame

@[expose] public section

set_option maxRecDepth 65536

noncomputable section

namespace Cert.Kernel2.Hand

open Idealize.ShloMosaic Idealize.SL.Sem

theorem body_eq : Cert.Kernel2.cc0_fox_bwd (F := Bits) = Cert.Kernel2Ideal.cc0_fox_bwd (F := Bits) := rfl

set_option maxHeartbeats 8000000 in
theorem defs₀_eq : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) =>
    dsimp only
    rw [body_eq]
    rfl

theorem defs_eq : Cert.Kernel2.defs (F := Bits) = Cert.Kernel2Ideal.defs (F := Bits) :=
  congrArg (Pipeline.defs Cert.Kernel2Ideal.pcfgs) defs₀_eq

set_option maxHeartbeats 4000000 in
theorem main_eq : Cert.Kernel2.main (F := Bits) = Cert.Kernel2Ideal.main (F := Bits) := rfl

set_option maxHeartbeats 4000000 in
theorem frame : Cert.quiescent_Kernel2 (hKernel2 := Cert.Kernel2.Gen.facts) := fun m g _ => by
  rw [main_eq, defs_eq]
  exact (θ_run Cert.Kernel2Ideal.defs _ _).mono (fun r h => h) (Cert.Kernel2Ideal.Hand.frame (F := Bits) m g)

end Cert.Kernel2.Hand

end
-- ==== Proof.FoxHost.lean ====
/- What the call is given: the output and the log-sums that the host lines before it compute. -/
module

public import proofs.«01_k».proof.Proof.FoxFrame
public import proofs.«01_k».proof.Proof.Gen.Reference2Ideal.Read
public import Idealize.ShloMosaic.Lib.StableHlo.RunRead

@[expose] public section

set_option maxRecDepth 65536

noncomputable section

namespace Cert.Kernel2Ideal.Hand

open Cert.Kernel2Ideal Cert.Kernel2Ideal.Gen Idealize.ShloMosaic Idealize.ShloMosaic.TcCoe Idealize.SL.Sem
open Cert.Reference2Ideal.Read

section Lines

variable {F : FTy → Type} [FloatOps F] (x0 : (⟨S4096x1536, .bf16⟩ : BufTy).Contents (Elt F)) (x1 : (⟨S2x8x2048, .f32⟩ : BufTy).Contents (Elt F))

/-- The masked scores less the key's gate sum alone. -/
def hostScore : (⟨S2x8x2048x2048, .f32⟩ : BufTy).Contents (Elt F) :=
  select (val_main_v20_1 (F := F))
    (addf (val_main_v10 x0)
      (subf (broadcastInDim S2x8x2048x2048 ![0, 1, 2, 3] bcast_S2x8x2048x1_S2x8x2048x2048_0_1_2_3
        (broadcastInDim S2x8x2048x1 ![0, 1, 2] bcast_S2x8x2048_S2x8x2048x1_0_1_2
          (broadcastInDim S2x8x2048 ![] bcast_S_S2x8x2048 (constant (F := F) S_ .f32 0x00000000#32)))) (val_main_v14 x1)))
    (val_main_call0_v2 (F := F))

/-- The largest score of each query row. -/
def hostMax : (⟨S2x8x2048, .f32⟩ : BufTy).Contents (Elt F) :=
  Host.reduce FloatOps.maximumf (hostScore x0 x1) (constant (F := F) S_ .f32 0xFF800000#32) reducesTo_S2x8x2048x2048_S2x8x2048_d3 h_S_

/-- The weights of each query row. -/
def hostExp : (⟨S2x8x2048x2048, .f32⟩ : BufTy).Contents (Elt F) :=
  Host.exp (subf (hostScore x0 x1) (broadcastInDim S2x8x2048x2048 ![0, 1, 2, 3] bcast_S2x8x2048x1_S2x8x2048x2048_0_1_2_3
    (broadcastInDim S2x8x2048x1 ![0, 1, 2] bcast_S2x8x2048_S2x8x2048x1_0_1_2 (hostMax x0 x1))))

/-- The log-sum of each query row. -/
def hostLse : (⟨S2x8x2048, .f32⟩ : BufTy).Contents (Elt F) :=
  addf (hostMax x0 x1) (Host.log (Host.reduceAdd (hostExp x0 x1) (constant (F := F) S_ .f32 0x00000000#32) reducesTo_S2x8x2048x2048_S2x8x2048_d3 h_S_))

/-- The output. -/
def hostOut : (⟨S4096x512, .bf16⟩ : BufTy).Contents (Elt F) :=
  truncf .bf16 (shapeCast S4096x512 (val_main_v51 x0 x1) shapeCasts_S2x2048x512_S4096x512) bitsLt_bf16_f32

end Lines

variable (m : (ℓ : Loc nD τ sig) → Buf (Elt Ideal) ℓ) (c : Dev nD)

theorem V61 : V m c main_v61 = shapeCast S16x4x1x512 (m ((c : Thread nD τ).loc main_arg1)) shapeCasts_S2x8x2048_S16x4x1x512 := by
  unfold V hostOps0 hostOps0_1 hostOps0_2 hostOps0_3 hostOps0_4
  simp only [List.flatten_cons, List.flatten_nil, List.append_nil, List.cons_append, List.nil_append]
  after_reads_simp
  rfl

set_option maxHeartbeats 1000000 in
theorem V62 : V m c main_v62 = shapeCast S16x4x512x1 (hostLse (F := Ideal) (m ((c : Thread nD τ).loc main_arg0)) (m ((c : Thread nD τ).loc main_arg1))) shapeCasts_S2x8x2048_S16x4x512x1 := by
  unfold V hostOps0 hostOps0_1 hostOps0_2 hostOps0_3 hostOps0_4
  simp only [List.flatten_cons, List.flatten_nil, List.append_nil, List.cons_append, List.nil_append]
  after_reads_simp
  rfl

set_option maxHeartbeats 1000000 in
theorem V60 : V m c main_v60 = hostOut (F := Ideal) (m ((c : Thread nD τ).loc main_arg0)) (m ((c : Thread nD τ).loc main_arg1)) := by
  unfold V hostOps0 hostOps0_1 hostOps0_2 hostOps0_3 hostOps0_4
  simp only [List.flatten_cons, List.flatten_nil, List.append_nil, List.cons_append, List.nil_append]
  after_reads_simp
  rfl

end Cert.Kernel2Ideal.Hand

end
-- ==== Proof.FoxStep.lean ====
/- One block of query rows against one block of key rows: what the body adds to the values it carries and to the three
   buffers it reads back and writes, in terms of the whole arrays' entries. -/
module

public import proofs.«01_k».proof.Proof.FoxBlock
public import proofs.«01_k».proof.Proof.FoxTrip
public import Idealize.ShloMosaic.Lib.WritesUnit

@[expose] public section

set_option maxRecDepth 16384

noncomputable section

namespace Cert.Kernel2Ideal.Hand

open Cert.Kernel2Ideal Cert.Kernel2Ideal.Gen Idealize.ShloMosaic

section Blocks

variable {κ : Kind} {sp : Space} {e : EltTy}

theorem read_rows (v : View sig κ sp S2048x128 e) (f : v.ty.Contents (Elt Ideal)) {off : Fin 2 → ℕ}
    (inb : ∀ a, off a + S512x128.size a ≤ S2048x128.size a) (n : ℕ) (hn : n < 4) (heq : off = ![512 * n, 0]) (c : Fin 512) (l : Fin 128) :
    v.readAt (Elt Ideal) (Rect.unit (s := S2048x128) off S512x128.size inb).toLoadRect f (ix2 c l) =
      v.read (Elt Ideal) f (ix2 (gr n c) l) := by
  subst heq
  show v.read (Elt Ideal) f _ = _
  congr 1
  funext a
  apply Fin.ext
  revert a
  refine Fin.forall_fin_two.mpr ⟨?_, ?_⟩
  · show 512 * n + 1 * c.val = (gr n c).val
    rw [gr_val hn]; omega
  · show 0 + 1 * l.val = l.val
    omega

theorem read_keys (v : View sig κ sp S2x4x1x512 e) (f : v.ty.Contents (Elt Ideal)) {off : Fin 4 → ℕ}
    (inb : ∀ a, off a + S1x1x1x512.size a ≤ S2x4x1x512.size a) (h : Fin 2) (n : Fin 4) (heq : off = ![h.val, n.val, 0, 0]) (c : Fin 512) :
    v.readAt (Elt Ideal) (Rect.unit (s := S2x4x1x512) off S1x1x1x512.size inb).toLoadRect f (ix4 0 0 0 c) =
      v.read (Elt Ideal) f (ix4 h n 0 c) := by
  subst heq
  show v.read (Elt Ideal) f _ = _
  congr 1
  funext a
  apply Fin.ext
  fin_cases a
  · show h.val + 1 * 0 = h.val; omega
  · show n.val + 1 * 0 = n.val; omega
  · rfl
  · show 0 + 1 * c.val = c.val; omega

theorem read_queries (v : View sig κ sp S2x4x512x1 e) (f : v.ty.Contents (Elt Ideal)) {off : Fin 4 → ℕ}
    (inb : ∀ a, off a + S1x1x512x1.size a ≤ S2x4x512x1.size a) (h : Fin 2) (n : Fin 4) (heq : off = ![h.val, n.val, 0, 0]) (r : Fin 512) :
    v.readAt (Elt Ideal) (Rect.unit (s := S2x4x512x1) off S1x1x512x1.size inb).toLoadRect f (ix4 0 0 r 0) =
      v.read (Elt Ideal) f (ix4 h n r 0) := by
  subst heq
  show v.read (Elt Ideal) f _ = _
  congr 1
  funext a
  apply Fin.ext
  fin_cases a
  · show h.val + 1 * 0 = h.val; omega
  · show n.val + 1 * 0 = n.val; omega
  · show 0 + 1 * r.val = r.val; omega
  · rfl

theorem writes_rows_of_mem (v : View sig κ sp S2048x128 e) (f : v.ty.Contents (Elt Ideal)) {off : Fin 2 → ℕ}
    (inb : ∀ a, off a + S512x128.size a ≤ S2048x128.size a) (w : (Rect.unit (s := S2048x128) off S512x128.size inb).shape.Idx → Elt Ideal e)
    (L : List (View.Piece (Elt Ideal) S2048x128 e)) (n : ℕ) (hn : n < 4) (heq : off = ![512 * n, 0]) (c : Fin 512) (l : Fin 128) :
    v.read (Elt Ideal) (v.writes (Elt Ideal) f (⟨Rect.unit off S512x128.size inb, w⟩ :: L)) (ix2 (gr n c) l) = w (ix2 c l) :=
  View.read_writes_cons_unit_of_mem v f inb w L _ (ix2 c l) heq (Fin.forall_fin_two.mpr
    ⟨by show (gr n c).val = 512 * n + c.val; exact gr_val hn c, by show l.val = 0 + l.val; omega⟩)

theorem writes_rows_of_not_mem (v : View sig κ sp S2048x128 e) (f : v.ty.Contents (Elt Ideal)) {off : Fin 2 → ℕ}
    (inb : ∀ a, off a + S512x128.size a ≤ S2048x128.size a) (w : (Rect.unit (s := S2048x128) off S512x128.size inb).shape.Idx → Elt Ideal e)
    (L : List (View.Piece (Elt Ideal) S2048x128 e)) (n : ℕ) (heq : off = ![512 * n, 0]) (C : Fin 2048) (l : Fin 128)
    (h : ¬(512 * n ≤ C.val ∧ C.val < 512 * n + 512)) :
    v.read (Elt Ideal) (v.writes (Elt Ideal) f (⟨Rect.unit off S512x128.size inb, w⟩ :: L)) (ix2 C l) =
      v.read (Elt Ideal) (v.writes (Elt Ideal) f L) (ix2 C l) :=
  View.read_writes_cons_unit_of_not_mem v f inb w L _ heq 0 (by
    show C.val < 512 * n ∨ 512 * n + 512 ≤ C.val; omega)

theorem writes_keys_of_mem (v : View sig κ sp S2x4x1x512 e) (f : v.ty.Contents (Elt Ideal)) {off : Fin 4 → ℕ}
    (inb : ∀ a, off a + S1x1x1x512.size a ≤ S2x4x1x512.size a) (w : (Rect.unit (s := S2x4x1x512) off S1x1x1x512.size inb).shape.Idx → Elt Ideal e)
    (L : List (View.Piece (Elt Ideal) S2x4x1x512 e)) (h : Fin 2) (n : Fin 4) (heq : off = ![h.val, n.val, 0, 0]) (c : Fin 512) :
    v.read (Elt Ideal) (v.writes (Elt Ideal) f (⟨Rect.unit off S1x1x1x512.size inb, w⟩ :: L)) (ix4 h n 0 c) = w (ix4 0 0 0 c) :=
  View.read_writes_cons_unit_of_mem v f inb w L _ (ix4 0 0 0 c) heq (by
    intro a
    fin_cases a
    · show h.val = h.val + 0; omega
    · show n.val = n.val + 0; omega
    · rfl
    · show c.val = 0 + c.val; omega)

theorem writes_keys_of_not_mem (v : View sig κ sp S2x4x1x512 e) (f : v.ty.Contents (Elt Ideal)) {off : Fin 4 → ℕ}
    (inb : ∀ a, off a + S1x1x1x512.size a ≤ S2x4x1x512.size a) (w : (Rect.unit (s := S2x4x1x512) off S1x1x1x512.size inb).shape.Idx → Elt Ideal e)
    (L : List (View.Piece (Elt Ideal) S2x4x1x512 e)) (h : Fin 2) (n : Fin 4) (heq : off = ![h.val, n.val, 0, 0]) (h' : Fin 2) (n' : Fin 4)
    (c : Fin 512) (hne : h' ≠ h ∨ n' ≠ n) :
    v.read (Elt Ideal) (v.writes (Elt Ideal) f (⟨Rect.unit off S1x1x1x512.size inb, w⟩ :: L)) (ix4 h' n' 0 c) =
      v.read (Elt Ideal) (v.writes (Elt Ideal) f L) (ix4 h' n' 0 c) := by
  rcases hne with hne | hne
  · exact View.read_writes_cons_unit_of_not_mem v f inb w L _ heq 0 (by
      show h'.val < h.val ∨ h.val + 1 ≤ h'.val; have := Fin.val_ne_of_ne hne; omega)
  · exact View.read_writes_cons_unit_of_not_mem v f inb w L _ heq 1 (by
      show n'.val < n.val ∨ n.val + 1 ≤ n'.val; have := Fin.val_ne_of_ne hne; omega)

/-- A row in block `n` is row `c` of the block. -/
theorem gr_of {n : ℕ} (hn : n < 4) (C : Fin 2048) (h : 512 * n ≤ C.val ∧ C.val < 512 * n + 512) : ∃ c : Fin 512, C = gr n c :=
  ⟨⟨C.val - 512 * n, by omega⟩, Fin.ext (by rw [gr_val hn]; show C.val = 512 * n + (C.val - 512 * n); omega)⟩

end Blocks

namespace Ops

variable (X : Ops)

/-- What the query rows of block `i` add to the value gradient of key row `C`, at lane `l`. -/
def dvI (i : ℕ) (C : Fin 2048) (l : Fin 128) : EReal :=
  (∑ r, X.P 0 (gr i r) C * lane 0 l (X.d (gr i r) l)) + ∑ r, X.P 1 (gr i r) C * lane 1 l (X.d (gr i r) l)

/-- What the query rows of block `i` add to the key gradient of key row `C`, at lane `l`. -/
def dkI (i : ℕ) (C : Fin 2048) (l : Fin 128) : EReal :=
  (∑ r, X.DS 0 (gr i r) C * lane 0 l (X.q (gr i r) l)) * e8 + (∑ r, X.DS 1 (gr i r) C * lane 1 l (X.q (gr i r) l)) * e8

/-- What the query rows of block `i` add to the gradient of key row `C`'s gate sum, head `h`. -/
def dckI (h : Fin 2) (i : ℕ) (C : Fin 2048) : EReal := 0 - ∑ r, X.DS h (gr i r) C

/-- What the key rows of block `j` add to the query gradient of row `R`, at lane `l`, head `h`. -/
def dqJ (h : Fin 2) (j : ℕ) (R : Fin 2048) (l : Fin 128) : EReal := (∑ c, X.DS h R (gr j c) * X.k (gr j c) l) * e8

/-- What the key rows of block `j` add to the gradient of query row `R`'s gate sum, head `h`. -/
def dcqJ (h : Fin 2) (j : ℕ) (R : Fin 2048) : EReal := ∑ c, X.DS h R (gr j c)

end Ops

variable (c : Dev nD) (i : grid0.Coords)
  (arg1 : Memref sig .tc .vmem S2048x128 .bf16) (harg1 : arg1.IsWhole) (arg2 : Memref sig .tc .vmem S2048x128
  .bf16) (harg2 : arg2.IsWhole) (arg3 : Memref sig .tc .vmem S2048x128 .bf16) (harg3 : arg3.IsWhole) (arg4 :
  Memref sig .tc .vmem S2048x128 .bf16) (harg4 : arg4.IsWhole) (arg5 : Memref sig .tc .vmem S2048x128 .bf16)
  (harg5 : arg5.IsWhole) (arg6 : Memref sig .tc .vmem S2x4x1x512 .f32) (harg6 : arg6.IsWhole) (arg7 : Memref sig
  .tc .vmem S2x4x512x1 .f32) (harg7 : arg7.IsWhole) (arg8 : Memref sig .tc .vmem S2048x128 .bf16) (harg8 :
  arg8.IsWhole) (arg9 : Memref sig .tc .vmem S2048x128 .bf16) (harg9 : arg9.IsWhole) (arg10 : Memref sig .tc .vmem
  S2048x128 .bf16) (harg10 : arg10.IsWhole) (arg11 : Memref sig .tc .vmem S2x4x1x512 .f32) (harg11 :
  arg11.IsWhole) (arg12 : Memref sig .tc .vmem S2x4x512x1 .f32) (harg12 : arg12.IsWhole) (arg13 : Memref sig .tc
  .vmem S2048x128 .f32) (harg13 : arg13.IsWhole) (arg14 : Memref sig .tc .vmem S2048x128 .f32) (harg14 :
  arg14.IsWhole)

variable {arg1 arg2 arg3 arg4 arg5 arg6 arg7}
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (X7 : BufTy.Contents (Elt Ideal) arg7.view.ty)

/-- The seven buffers read hold the arrays of `X`. -/
structure Holds (X : Ops) : Prop where
  q : ∀ R l, arg1.view.read (Elt Ideal) X1 (ix2 R l) = X.q R l
  k : ∀ R l, arg2.view.read (Elt Ideal) X2 (ix2 R l) = X.k R l
  v : ∀ R l, arg3.view.read (Elt Ideal) X3 (ix2 R l) = X.v R l
  o : ∀ R l, arg4.view.read (Elt Ideal) X4 (ix2 R l) = X.o R l
  d : ∀ R l, arg5.view.read (Elt Ideal) X5 (ix2 R l) = X.d R l
  ck : ∀ (h : Fin 2) (n : Fin 4) c, arg6.view.read (Elt Ideal) X6 (ix4 h n 0 c) = X.ck h (gr n.val c)
  lse : ∀ (h : Fin 2) (n : Fin 4) r, arg7.view.read (Elt Ideal) X7 (ix4 h n r 0) = X.lse h (gr n.val r)

variable {X1 X2 X3 X4 X5 X6 X7} (X : Ops) (H : Holds X1 X2 X3 X4 X5 X6 X7 X)
  (k : Fin k0_t1_loop.trips) (j : Fin (k0_t2_loop k).trips)
  {q0 q1 d0 d1 : Vec Ideal S512x128 .bf16} {l0 l1 : FVec Ideal S512x1 .f32}

/-- The values of the query block the inner loop works with: each head's lanes of the queries and of the output's gradient,
and each head's row sums. -/
structure Query (X : Ops) (k : ℕ) (q0 q1 d0 d1 : Vec Ideal S512x128 .bf16) (l0 l1 : FVec Ideal S512x1 .f32) : Prop where
  q0 : ∀ r l, q0 (ix2 r l) = lane 0 l (X.q (gr k r) l)
  q1 : ∀ r l, q1 (ix2 r l) = lane 1 l (X.q (gr k r) l)
  d0 : ∀ r l, d0 (ix2 r l) = lane 0 l (X.d (gr k r) l)
  d1 : ∀ r l, d1 (ix2 r l) = lane 1 l (X.d (gr k r) l)
  l0 : ∀ r, l0 (ix2 r 0) = X.dl 0 (gr k r)
  l1 : ∀ r, l1 (ix2 r 0) = X.dl 1 (gr k r)

variable (Q : Query X k.val q0 q1 d0 d1 l0 l1)

include H in
theorem rd_k (c l) : trip_k0_t2.sl.r (F := Ideal) arg2 k X2 j (ix2 c l) = X.k (gr j.val c) l :=
  (read_rows _ _ _ j.val (by have := lt1 k; have := lt2 k j; omega) (k0_off2_eq k j) c l).trans (H.k _ _)

include H in
theorem rd_v (c l) : trip_k0_t2.sl.r_1 (F := Ideal) arg3 k X3 j (ix2 c l) = X.v (gr j.val c) l :=
  (read_rows _ _ _ j.val (by have := lt1 k; have := lt2 k j; omega) (k0_off2_eq k j) c l).trans (H.v _ _)

include H Q in
theorem ds0 (r c : Fin 512) : trip_k0_t2.sl.r_2 (F := Ideal) arg2 arg3 arg6 arg7 k (Scf.iv 0#32 1#32 k.val) q0 d0 l0 X2 X3 X6 X7 j (ix2 r c) =
    X.DS 0 (gr k.val r) (gr j.val c) := by
  unfold trip_k0_t2.sl.r_2
  refine pay17 X k j Q.q0 Q.d0 Q.l0 (rd_k X H k j) (rd_v X H k j) (fun c => ?_) (fun r => ?_) r c
  · exact (read_keys _ _ _ 0 ⟨j.val, by have := lt1 k; have := lt2 k j; omega⟩ (k0_off3_eq k j) c).trans (H.ck _ _ _)
  · exact (read_queries _ _ _ 0 ⟨k.val, lt1 k⟩ (k0_off4_eq k) r).trans (H.lse _ _ _)

include H Q in
theorem ds1 (r c : Fin 512) : trip_k0_t2.sl.r_9 (F := Ideal) arg2 arg3 arg6 arg7 k (Scf.iv 0#32 1#32 k.val) q1 d1 l1 X2 X3 X6 X7 j (ix2 r c) =
    X.DS 1 (gr k.val r) (gr j.val c) := by
  unfold trip_k0_t2.sl.r_9
  refine pay27 X k j Q.q1 Q.d1 Q.l1 (rd_k X H k j) (rd_v X H k j) (fun c => ?_) (fun r => ?_) r c
  · exact (read_keys _ _ _ 1 ⟨j.val, by have := lt1 k; have := lt2 k j; omega⟩ (k0_off5_eq k j) c).trans (H.ck _ _ _)
  · exact (read_queries _ _ _ 1 ⟨k.val, lt1 k⟩ (k0_off6_eq k) r).trans (H.lse _ _ _)

end Cert.Kernel2Ideal.Hand

end
-- ==== Proof.FoxInner.lean ====
/- The loop over the key blocks of one block of query rows: the values it carries and what the three buffers it reads back
   hold after any number of its trips. -/
module

public import proofs.«01_k».proof.Proof.FoxStep

@[expose] public section

set_option maxRecDepth 16384

noncomputable section

namespace Cert.Kernel2Ideal.Hand

open Cert.Kernel2Ideal Cert.Kernel2Ideal.Gen Idealize.ShloMosaic

variable (c : Dev nD) (i : grid0.Coords)
  (arg1 : Memref sig .tc .vmem S2048x128 .bf16) (harg1 : arg1.IsWhole) (arg2 : Memref sig .tc .vmem S2048x128
  .bf16) (harg2 : arg2.IsWhole) (arg3 : Memref sig .tc .vmem S2048x128 .bf16) (harg3 : arg3.IsWhole) (arg4 :
  Memref sig .tc .vmem S2048x128 .bf16) (harg4 : arg4.IsWhole) (arg5 : Memref sig .tc .vmem S2048x128 .bf16)
  (harg5 : arg5.IsWhole) (arg6 : Memref sig .tc .vmem S2x4x1x512 .f32) (harg6 : arg6.IsWhole) (arg7 : Memref sig
  .tc .vmem S2x4x512x1 .f32) (harg7 : arg7.IsWhole) (arg8 : Memref sig .tc .vmem S2048x128 .bf16) (harg8 :
  arg8.IsWhole) (arg9 : Memref sig .tc .vmem S2048x128 .bf16) (harg9 : arg9.IsWhole) (arg10 : Memref sig .tc .vmem
  S2048x128 .bf16) (harg10 : arg10.IsWhole) (arg11 : Memref sig .tc .vmem S2x4x1x512 .f32) (harg11 :
  arg11.IsWhole) (arg12 : Memref sig .tc .vmem S2x4x512x1 .f32) (harg12 : arg12.IsWhole) (arg13 : Memref sig .tc
  .vmem S2048x128 .f32) (harg13 : arg13.IsWhole) (arg14 : Memref sig .tc .vmem S2048x128 .f32) (harg14 :
  arg14.IsWhole)

variable {arg1 arg2 arg3 arg4 arg5 arg6 arg7}
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (X7 : BufTy.Contents (Elt Ideal) arg7.view.ty)

variable {X1 X2 X3 X4 X5 X6 X7} (X : Ops) (H : Holds X1 X2 X3 X4 X5 X6 X7 X)
  (k : Fin k0_t1_loop.trips) (j : Fin (k0_t2_loop k).trips)
  {q0 q1 d0 d1 : Vec Ideal S512x128 .bf16} {l0 l1 : FVec Ideal S512x1 .f32}

variable (Q : Query X k.val q0 q1 d0 d1 l0 l1)

/-- The values the loop over the key blocks carries. -/
abbrev Acc : Type := FVec Ideal S512x128 .f32 × FVec Ideal S512x1 .f32 × FVec Ideal S512x128 .f32 × FVec Ideal S512x1 .f32

variable (acc : Acc) (f11 : BufTy.Contents (Elt Ideal) arg11.view.ty) (f13 : BufTy.Contents (Elt Ideal) arg13.view.ty)
  (f14 : BufTy.Contents (Elt Ideal) arg14.view.ty)

theorem lt3 : j.val < 4 := lt_of_le_of_lt (lt2 k j) (lt1 k)

include H Q in
theorem step_dq0 (r : Fin 512) (l : Fin 128) :
    ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) q0 q1 d0 d1 l0 l1 X2 X3 X6 X7 j).1 acc f11 f13 f14).1 (ix2 r l) = acc.1 (ix2 r l) + X.dqJ 0 j.val (gr k.val r) l := by
  unfold trip_k0_t2
  exact pay22 X k j (rd_k X H k j) (ds0 X H k j Q) _ r l

include H Q in
theorem step_dcq0 (r : Fin 512) :
    ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) q0 q1 d0 d1 l0 l1 X2 X3 X6 X7 j).1 acc f11 f13 f14).2.1 (ix2 r 0) = acc.2.1 (ix2 r 0) + X.dcqJ 0 j.val (gr k.val r) := by
  unfold trip_k0_t2
  exact pay23 X k j (ds0 X H k j Q) _ r

include H Q in
theorem step_dq1 (r : Fin 512) (l : Fin 128) :
    ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) q0 q1 d0 d1 l0 l1 X2 X3 X6 X7 j).1 acc f11 f13 f14).2.2.1 (ix2 r l) = acc.2.2.1 (ix2 r l) + X.dqJ 1 j.val (gr k.val r) l := by
  unfold trip_k0_t2
  exact pay6 X k j (rd_k X H k j) (ds1 X H k j Q) _ r l

include H Q in
theorem step_dcq1 (r : Fin 512) :
    ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) q0 q1 d0 d1 l0 l1 X2 X3 X6 X7 j).1 acc f11 f13 f14).2.2.2 (ix2 r 0) = acc.2.2.2 (ix2 r 0) + X.dcqJ 1 j.val (gr k.val r) := by
  unfold trip_k0_t2
  exact pay7 X k j (ds1 X H k j Q) _ r

include H Q in
theorem step_dk (C : Fin 2048) (l : Fin 128) :
    arg13.view.read (Elt Ideal) (arg13.view.writes (Elt Ideal) f13 ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) q0 q1 d0 d1 l0 l1 X2 X3 X6 X7 j).2.2.1 acc f11 f13 f14)) (ix2 C l) =
      arg13.view.read (Elt Ideal) f13 (ix2 C l) + if 512 * j.val ≤ C.val ∧ C.val < 512 * j.val + 512 then X.dkI k.val C l else 0 := by
  unfold trip_k0_t2
  by_cases hC : 512 * j.val ≤ C.val ∧ C.val < 512 * j.val + 512
  · rw [if_pos hC]
    obtain ⟨c, rfl⟩ := gr_of (lt3 k j) C hC
    refine (writes_rows_of_mem _ _ _ _ _ j.val (lt3 k j) (k0_off2_eq k j) c l).trans ?_
    refine (pay29 X k j Q.q1 Q.d1 Q.l1 (rd_k X H k j) (rd_v X H k j) (fun c => ?_) (fun r => ?_) _ c l).trans ?_
    · exact (read_keys _ _ _ 1 ⟨j.val, lt3 k j⟩ (k0_off5_eq k j) c).trans (H.ck _ _ _)
    · exact (read_queries _ _ _ 1 ⟨k.val, lt1 k⟩ (k0_off6_eq k) r).trans (H.lse _ _ _)
    · unfold Ops.dkI
      rw [← add_assoc]
      congr 1
      refine (read_rows arg13.view _ _ j.val (lt3 k j) (k0_off2_eq k j) c l).trans ?_
      refine (writes_rows_of_mem _ _ _ _ _ j.val (lt3 k j) (k0_off2_eq k j) c l).trans ?_
      refine (pay20 X k j Q.q0 (ds0 X H k j Q) _ c l).trans ?_
      congr 1
      exact read_rows arg13.view _ _ j.val (lt3 k j) (k0_off2_eq k j) c l
  · rw [if_neg hC, add_zero]
    refine (writes_rows_of_not_mem _ _ _ _ _ j.val (k0_off2_eq k j) C l hC).trans ?_
    exact writes_rows_of_not_mem _ _ _ _ _ j.val (k0_off2_eq k j) C l hC

include H Q in
theorem step_dv (C : Fin 2048) (l : Fin 128) :
    arg14.view.read (Elt Ideal) (arg14.view.writes (Elt Ideal) f14 ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) q0 q1 d0 d1 l0 l1 X2 X3 X6 X7 j).2.2.2.1 acc f11 f13 f14)) (ix2 C l) =
      arg14.view.read (Elt Ideal) f14 (ix2 C l) + if 512 * j.val ≤ C.val ∧ C.val < 512 * j.val + 512 then X.dvI k.val C l else 0 := by
  unfold trip_k0_t2
  by_cases hC : 512 * j.val ≤ C.val ∧ C.val < 512 * j.val + 512
  · rw [if_pos hC]
    obtain ⟨c, rfl⟩ := gr_of (lt3 k j) C hC
    refine (writes_rows_of_mem _ _ _ _ _ j.val (lt3 k j) (k0_off2_eq k j) c l).trans ?_
    refine (pay28 X k j Q.q1 Q.d1 (rd_k X H k j) (fun c => ?_) (fun r => ?_) _ c l).trans ?_
    · exact (read_keys _ _ _ 1 ⟨j.val, lt3 k j⟩ (k0_off5_eq k j) c).trans (H.ck _ _ _)
    · exact (read_queries _ _ _ 1 ⟨k.val, lt1 k⟩ (k0_off6_eq k) r).trans (H.lse _ _ _)
    · unfold Ops.dvI
      rw [← add_assoc]
      congr 1
      refine (read_rows arg14.view _ _ j.val (lt3 k j) (k0_off2_eq k j) c l).trans ?_
      refine (writes_rows_of_mem _ _ _ _ _ j.val (lt3 k j) (k0_off2_eq k j) c l).trans ?_
      refine (pay18 X k j Q.q0 Q.d0 (rd_k X H k j) (fun c => ?_) (fun r => ?_) _ c l).trans ?_
      · exact (read_keys _ _ _ 0 ⟨j.val, lt3 k j⟩ (k0_off3_eq k j) c).trans (H.ck _ _ _)
      · exact (read_queries _ _ _ 0 ⟨k.val, lt1 k⟩ (k0_off4_eq k) r).trans (H.lse _ _ _)
      congr 1
      exact read_rows arg14.view _ _ j.val (lt3 k j) (k0_off2_eq k j) c l
  · rw [if_neg hC, add_zero]
    refine (writes_rows_of_not_mem _ _ _ _ _ j.val (k0_off2_eq k j) C l hC).trans ?_
    exact writes_rows_of_not_mem _ _ _ _ _ j.val (k0_off2_eq k j) C l hC

include H Q in
theorem step_dck (h : Fin 2) (n : Fin 4) (y : Fin 512) :
    arg11.view.read (Elt Ideal) (arg11.view.writes (Elt Ideal) f11 ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) q0 q1 d0 d1 l0 l1 X2 X3 X6 X7 j).2.1 acc f11 f13 f14)) (ix4 h n 0 y) =
      arg11.view.read (Elt Ideal) f11 (ix4 h n 0 y) + if n.val = j.val then X.dckI h k.val (gr n.val y) else 0 := by
  unfold trip_k0_t2
  by_cases hn : n.val = j.val
  · rw [if_pos hn]
    obtain rfl : n = ⟨j.val, lt3 k j⟩ := Fin.ext hn
    fin_cases h
    · refine (writes_keys_of_not_mem _ _ _ _ _ 1 ⟨j.val, lt3 k j⟩ (k0_off5_eq k j) 0 _ y (.inl (by decide))).trans ?_
      refine (writes_keys_of_mem _ _ _ _ _ 0 ⟨j.val, lt3 k j⟩ (k0_off3_eq k j) y).trans ?_
      refine (pay21 X k j (ds0 X H k j Q) _ y).trans ?_
      exact congrArg (· + _) (read_keys arg11.view _ _ 0 ⟨j.val, lt3 k j⟩ (k0_off3_eq k j) y)
    · refine (writes_keys_of_mem _ _ _ _ _ 1 ⟨j.val, lt3 k j⟩ (k0_off5_eq k j) y).trans ?_
      refine (pay5 X k j (ds1 X H k j Q) _ y).trans ?_
      exact congrArg (· + _) (read_keys arg11.view _ _ 1 ⟨j.val, lt3 k j⟩ (k0_off5_eq k j) y)
  · rw [if_neg hn, add_zero]
    have hne : n ≠ ⟨j.val, lt3 k j⟩ := fun e => hn (congrArg Fin.val e)
    refine (writes_keys_of_not_mem _ _ _ _ _ 1 ⟨j.val, lt3 k j⟩ (k0_off5_eq k j) h n y (.inr hne)).trans ?_
    exact writes_keys_of_not_mem _ _ _ _ _ 0 ⟨j.val, lt3 k j⟩ (k0_off3_eq k j) h n y (.inr hne)

/-- What the loop over the key blocks holds after `n` of its trips. -/
structure After (n : ℕ) (st : Acc × List (View.Piece (Elt Ideal) S2x4x1x512 .f32) × List (View.Piece (Elt Ideal) S2048x128 .f32)
    × List (View.Piece (Elt Ideal) S2048x128 .f32)) : Prop where
  dq0 : ∀ r l, st.1.1 (ix2 r l) = acc.1 (ix2 r l) + ∑ j ∈ Finset.range n, X.dqJ 0 j (gr k.val r) l
  dcq0 : ∀ r, st.1.2.1 (ix2 r 0) = acc.2.1 (ix2 r 0) + ∑ j ∈ Finset.range n, X.dcqJ 0 j (gr k.val r)
  dq1 : ∀ r l, st.1.2.2.1 (ix2 r l) = acc.2.2.1 (ix2 r l) + ∑ j ∈ Finset.range n, X.dqJ 1 j (gr k.val r) l
  dcq1 : ∀ r, st.1.2.2.2 (ix2 r 0) = acc.2.2.2 (ix2 r 0) + ∑ j ∈ Finset.range n, X.dcqJ 1 j (gr k.val r)
  dck : ∀ h m c, arg11.view.read (Elt Ideal) (arg11.view.writes (Elt Ideal) f11 st.2.1) (ix4 h m 0 c) =
    arg11.view.read (Elt Ideal) f11 (ix4 h m 0 c) + if m.val < n then X.dckI h k.val (gr m.val c) else 0
  dk : ∀ C l, arg13.view.read (Elt Ideal) (arg13.view.writes (Elt Ideal) f13 st.2.2.1) (ix2 C l) =
    arg13.view.read (Elt Ideal) f13 (ix2 C l) + if C.val < 512 * n then X.dkI k.val C l else 0
  dv : ∀ C l, arg14.view.read (Elt Ideal) (arg14.view.writes (Elt Ideal) f14 st.2.2.2) (ix2 C l) =
    arg14.view.read (Elt Ideal) f14 (ix2 C l) + if C.val < 512 * n then X.dvI k.val C l else 0

theorem ite_step (p q s : Prop) [Decidable p] [Decidable q] [Decidable s] (hs : s ↔ p ∨ q) (hpq : ¬(p ∧ q)) (y x : EReal) :
    (y + if p then x else 0) + (if q then x else 0) = y + if s then x else 0 := by
  by_cases hp : p <;> by_cases hq : q
  · exact absurd ⟨hp, hq⟩ hpq
  · rw [if_pos hp, if_neg hq, if_pos (hs.mpr (.inl hp)), add_zero]
  · rw [if_neg hp, if_pos hq, if_pos (hs.mpr (.inr hq)), add_zero]
  · rw [if_neg hp, if_neg hq, if_neg (fun z => (hs.mp z).elim hp hq), add_zero, add_zero]

include H Q in
theorem after (n : ℕ) (hn : n ≤ k.val + 1) : After arg11 arg13 arg14 X k acc f11 f13 f14 n (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) q0 q1 d0 d1 l0 l1 X2 X3 X6 X7 f11 f13 f14 acc n) := by
  induction n with
  | zero => exact ⟨fun r l => by simp [st_k0_t2], fun r => by simp [st_k0_t2], fun r l => by simp [st_k0_t2],
      fun r => by simp [st_k0_t2], fun h m c => by simp [st_k0_t2, View.writes], fun C l => by simp [st_k0_t2, View.writes],
      fun C l => by simp [st_k0_t2, View.writes]⟩
  | succ n ih =>
    have ih := ih (by omega)
    obtain ⟨j, rfl⟩ : ∃ j : Fin (k0_t2_loop k).trips, j.val = n := ⟨⟨n, lt_of_lt_of_eq (by omega) (trips2 k).symm⟩, rfl⟩
    rw [st_k0_t2_succ]
    generalize st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (Scf.iv 0#32 1#32 k.val) q0 q1 d0 d1 l0 l1 X2 X3 X6 X7 f11 f13 f14 acc j.val = st at ih ⊢
    constructor
    · intro r l
      rw [step_dq0 (H := H) (Q := Q), ih.dq0, Finset.sum_range_succ, add_assoc]
    · intro r
      rw [step_dcq0 (H := H) (Q := Q), ih.dcq0, Finset.sum_range_succ, add_assoc]
    · intro r l
      rw [step_dq1 (H := H) (Q := Q), ih.dq1, Finset.sum_range_succ, add_assoc]
    · intro r
      rw [step_dcq1 (H := H) (Q := Q), ih.dcq1, Finset.sum_range_succ, add_assoc]
    · intro h m c
      rw [View.writes_append, step_dck (H := H) (Q := Q), ih.dck]
      exact ite_step _ _ _ (by omega) (by omega) _ _
    · intro C l
      rw [View.writes_append, step_dk (H := H) (Q := Q), ih.dk]
      exact ite_step _ _ _ (by omega) (by omega) _ _
    · intro C l
      rw [View.writes_append, step_dv (H := H) (Q := Q), ih.dv]
      exact ite_step _ _ _ (by omega) (by omega) _ _

end Cert.Kernel2Ideal.Hand

end
-- ==== Proof.FoxOuter.lean ====
/- The loop over the blocks of query rows: what the five buffers it writes hold after any number of its trips. -/
module

public import proofs.«01_k».proof.Proof.FoxInner
public import proofs.«01_k».proof.Proof.FoxLoop

@[expose] public section

set_option maxRecDepth 16384

noncomputable section

namespace Cert.Kernel2Ideal.Hand

open Cert.Kernel2Ideal Cert.Kernel2Ideal.Gen Idealize.ShloMosaic

section Zero

variable (X : Ops) (h : Fin 2) (R C : Fin 2048)

theorem Ops.P_zero (hRC : R < C) : X.P h R C = 0 := if_neg (not_le.mpr hRC)
theorem Ops.DS_zero (hRC : R < C) : X.DS h R C = 0 := by rw [Ops.DS, X.P_zero h R C hRC, zero_mul]

theorem gr_lt {i : ℕ} (hi : i < 4) (hC : 512 * (i + 1) ≤ C.val) (r : Fin 512) : gr i r < C := by
  rw [Fin.lt_def, gr_val hi]; have := r.isLt; omega

theorem Ops.dvI_zero {i : ℕ} (hi : i < 4) (hC : 512 * (i + 1) ≤ C.val) (l : Fin 128) : X.dvI i C l = 0 := by
  simp only [Ops.dvI, X.P_zero _ _ C (gr_lt C hi hC _), zero_mul, Finset.sum_const_zero, add_zero]
theorem Ops.dkI_zero {i : ℕ} (hi : i < 4) (hC : 512 * (i + 1) ≤ C.val) (l : Fin 128) : X.dkI i C l = 0 := by
  simp only [Ops.dkI, X.DS_zero _ _ C (gr_lt C hi hC _), zero_mul, Finset.sum_const_zero, add_zero]
theorem Ops.dckI_zero {i : ℕ} (hi : i < 4) (hC : 512 * (i + 1) ≤ C.val) : X.dckI h i C = 0 := by
  simp only [Ops.dckI, X.DS_zero _ _ C (gr_lt C hi hC _), Finset.sum_const_zero, sub_zero]
theorem Ops.dqJ_zero {i j : ℕ} (hij : i < j) (hj : j < 4) (r : Fin 512) (l : Fin 128) : X.dqJ h j (gr i r) l = 0 := by
  have e (c : Fin 512) : gr i r < gr j c := by rw [Fin.lt_def, gr_val hj, gr_val (by omega)]; have := r.isLt; omega
  simp only [Ops.dqJ, X.DS_zero _ _ _ (e _), zero_mul, Finset.sum_const_zero]
theorem Ops.dcqJ_zero {i j : ℕ} (hij : i < j) (hj : j < 4) (r : Fin 512) : X.dcqJ h j (gr i r) = 0 := by
  have e (c : Fin 512) : gr i r < gr j c := by rw [Fin.lt_def, gr_val hj, gr_val (by omega)]; have := r.isLt; omega
  simp only [Ops.dcqJ, X.DS_zero _ _ _ (e _), Finset.sum_const_zero]

theorem sum_le {i : ℕ} (hi : i < 4) (f : ℕ → EReal) (hf : ∀ j, i < j → j < 4 → f j = 0) :
    ∑ j ∈ Finset.range (i + 1), f j = ∑ j ∈ Finset.range 4, f j :=
  Finset.sum_subset (Finset.range_subset_range.mpr (by omega)) fun j hj hn =>
    hf j (by simpa using hn) (Finset.mem_range.mp hj)

theorem eq_of_zero {a x s : EReal} (e : a = x + s) (hx : x = 0) : a = s := by rw [e, hx, zero_add]

theorem trips3 : ∀ k : Fin k0_t1_loop.trips, Scf.trips (k0_t2_loop k).lb (k0_t2_loop k).ub (k0_t2_loop k).st = k.val + 1 := trips2

end Zero

namespace Ops

variable (X : Ops)

/-- The query gradient: each lane takes its own head's. -/
def dq (R : Fin 2048) (l : Fin 128) : EReal :=
  if l.val < 64 then ∑ j ∈ Finset.range 4, X.dqJ 0 j R l else ∑ j ∈ Finset.range 4, X.dqJ 1 j R l
def dcq (h : Fin 2) (R : Fin 2048) : EReal := ∑ j ∈ Finset.range 4, X.dcqJ h j R
def dk (n : ℕ) (C : Fin 2048) (l : Fin 128) : EReal := ∑ i ∈ Finset.range n, X.dkI i C l
def dv (n : ℕ) (C : Fin 2048) (l : Fin 128) : EReal := ∑ i ∈ Finset.range n, X.dvI i C l
def dck (n : ℕ) (h : Fin 2) (C : Fin 2048) : EReal := ∑ i ∈ Finset.range n, X.dckI h i C

end Ops

section Queries

variable {κ : Kind} {sp : Space} {e : EltTy}

theorem writes_queries_of_mem (v : View sig κ sp S2x4x512x1 e) (f : v.ty.Contents (Elt Ideal)) {off : Fin 4 → ℕ}
    (inb : ∀ a, off a + S1x1x512x1.size a ≤ S2x4x512x1.size a) (w : (Rect.unit (s := S2x4x512x1) off S1x1x512x1.size inb).shape.Idx → Elt Ideal e)
    (L : List (View.Piece (Elt Ideal) S2x4x512x1 e)) (h : Fin 2) (n : Fin 4) (heq : off = ![h.val, n.val, 0, 0]) (r : Fin 512) :
    v.read (Elt Ideal) (v.writes (Elt Ideal) f (⟨Rect.unit off S1x1x512x1.size inb, w⟩ :: L)) (ix4 h n r 0) = w (ix4 0 0 r 0) :=
  View.read_writes_cons_unit_of_mem v f inb w L _ (ix4 0 0 r 0) heq (by
    intro a
    fin_cases a
    · show h.val = h.val + 0; omega
    · show n.val = n.val + 0; omega
    · show r.val = 0 + r.val; omega
    · rfl)

theorem writes_queries_of_not_mem (v : View sig κ sp S2x4x512x1 e) (f : v.ty.Contents (Elt Ideal)) {off : Fin 4 → ℕ}
    (inb : ∀ a, off a + S1x1x512x1.size a ≤ S2x4x512x1.size a) (w : (Rect.unit (s := S2x4x512x1) off S1x1x512x1.size inb).shape.Idx → Elt Ideal e)
    (L : List (View.Piece (Elt Ideal) S2x4x512x1 e)) (h : Fin 2) (n : Fin 4) (heq : off = ![h.val, n.val, 0, 0]) (h' : Fin 2) (n' : Fin 4)
    (r : Fin 512) (hne : h' ≠ h ∨ n' ≠ n) :
    v.read (Elt Ideal) (v.writes (Elt Ideal) f (⟨Rect.unit off S1x1x512x1.size inb, w⟩ :: L)) (ix4 h' n' r 0) =
      v.read (Elt Ideal) (v.writes (Elt Ideal) f L) (ix4 h' n' r 0) := by
  rcases hne with hne | hne
  · exact View.read_writes_cons_unit_of_not_mem v f inb w L _ heq 0 (by
      show h'.val < h.val ∨ h.val + 1 ≤ h'.val; have := Fin.val_ne_of_ne hne; omega)
  · exact View.read_writes_cons_unit_of_not_mem v f inb w L _ heq 1 (by
      show n'.val < n.val ∨ n.val + 1 ≤ n'.val; have := Fin.val_ne_of_ne hne; omega)

end Queries

variable (c : Dev nD) (i : grid0.Coords)
  (arg1 : Memref sig .tc .vmem S2048x128 .bf16) (harg1 : arg1.IsWhole) (arg2 : Memref sig .tc .vmem S2048x128
  .bf16) (harg2 : arg2.IsWhole) (arg3 : Memref sig .tc .vmem S2048x128 .bf16) (harg3 : arg3.IsWhole) (arg4 :
  Memref sig .tc .vmem S2048x128 .bf16) (harg4 : arg4.IsWhole) (arg5 : Memref sig .tc .vmem S2048x128 .bf16)
  (harg5 : arg5.IsWhole) (arg6 : Memref sig .tc .vmem S2x4x1x512 .f32) (harg6 : arg6.IsWhole) (arg7 : Memref sig
  .tc .vmem S2x4x512x1 .f32) (harg7 : arg7.IsWhole) (arg8 : Memref sig .tc .vmem S2048x128 .bf16) (harg8 :
  arg8.IsWhole) (arg9 : Memref sig .tc .vmem S2048x128 .bf16) (harg9 : arg9.IsWhole) (arg10 : Memref sig .tc .vmem
  S2048x128 .bf16) (harg10 : arg10.IsWhole) (arg11 : Memref sig .tc .vmem S2x4x1x512 .f32) (harg11 :
  arg11.IsWhole) (arg12 : Memref sig .tc .vmem S2x4x512x1 .f32) (harg12 : arg12.IsWhole) (arg13 : Memref sig .tc
  .vmem S2048x128 .f32) (harg13 : arg13.IsWhole) (arg14 : Memref sig .tc .vmem S2048x128 .f32) (harg14 :
  arg14.IsWhole)

variable {arg1 arg2 arg3 arg4 arg5 arg6 arg7}
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (X7 : BufTy.Contents (Elt Ideal) arg7.view.ty)

variable {X1 X2 X3 X4 X5 X6 X7} (X : Ops) (H : Holds X1 X2 X3 X4 X5 X6 X7 X) (k : Fin k0_t1_loop.trips)

include H in
theorem query : Query X k.val (trip.sl.r (F := Ideal) arg1 X1 k) (trip.sl.r_1 arg1 X1 k) (trip.sl.r_2 arg5 X5 k)
    (trip.sl.r_3 arg5 X5 k) (trip.sl.r_4 arg4 arg5 X4 X5 k) (trip.sl.r_5 arg4 arg5 X4 X5 k) where
  q0 r l := (pay45 _ r l).trans (congrArg _ ((read_rows _ _ _ k.val (lt1 k) (k0_off1_eq k) r l).trans (H.q _ _)))
  q1 r l := (pay46 _ r l).trans (congrArg _ ((read_rows _ _ _ k.val (lt1 k) (k0_off1_eq k) r l).trans (H.q _ _)))
  d0 r l := (pay47 _ r l).trans (congrArg _ ((read_rows _ _ _ k.val (lt1 k) (k0_off1_eq k) r l).trans (H.d _ _)))
  d1 r l := (pay48 _ r l).trans (congrArg _ ((read_rows _ _ _ k.val (lt1 k) (k0_off1_eq k) r l).trans (H.d _ _)))
  l0 r := (pay49 _ _ r).trans (Finset.sum_congr rfl fun l _ => congrArg₂ (fun a b => lane 0 l a * b)
    ((read_rows _ _ _ k.val (lt1 k) (k0_off1_eq k) r l).trans (H.d _ _))
    ((read_rows _ _ _ k.val (lt1 k) (k0_off1_eq k) r l).trans (H.o _ _)))
  l1 r := (pay50 _ _ r).trans (Finset.sum_congr rfl fun l _ => congrArg₂ (fun a b => lane 1 l a * b)
    ((read_rows _ _ _ k.val (lt1 k) (k0_off1_eq k) r l).trans (H.d _ _))
    ((read_rows _ _ _ k.val (lt1 k) (k0_off1_eq k) r l).trans (H.o _ _)))

variable (f8 : BufTy.Contents (Elt Ideal) arg8.view.ty) (f11 : BufTy.Contents (Elt Ideal) arg11.view.ty)
  (f12 : BufTy.Contents (Elt Ideal) arg12.view.ty) (f13 : BufTy.Contents (Elt Ideal) arg13.view.ty)
  (f14 : BufTy.Contents (Elt Ideal) arg14.view.ty)

include H in
theorem whole (n : ℕ) (hn : n = k.val + 1) :
    After arg11 arg13 arg14 X k (k0_pay51, k0_pay52, k0_pay53, k0_pay54) f11 f13 f14 (k.val + 1) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 k (trip.sl.arg15 k) (trip.sl.r (F := Ideal) arg1 X1 k) (trip.sl.r_1 arg1 X1 k) (trip.sl.r_2 arg5 X5 k) (trip.sl.r_3 arg5 X5 k) (trip.sl.r_4 arg4 arg5 X4 X5 k) (trip.sl.r_5 arg4 arg5 X4 X5 k) X2 X3 X6 X7 f11 f13 f14 (k0_pay51, k0_pay52, k0_pay53, k0_pay54) n) := by
  subst hn
  exact after c i harg1 harg2 harg3 harg4 harg5 harg6 harg7 arg8 harg8 arg9 harg9 arg10 harg10 arg11 harg11 arg12 harg12 arg13 harg13 arg14 harg14 X H k (query X H k) (k0_pay51, k0_pay52, k0_pay53, k0_pay54) f11 f13 f14 _ le_rfl

include H in
/-- One trip of the loop over the query blocks: what the loop over the key blocks leaves, stored. -/
theorem trip_eq : ∃ st : Acc × List (View.Piece (Elt Ideal) S2x4x1x512 .f32) × List (View.Piece (Elt Ideal) S2048x128 .f32)
      × List (View.Piece (Elt Ideal) S2048x128 .f32),
    After arg11 arg13 arg14 X k (k0_pay51, k0_pay52, k0_pay53, k0_pay54) f11 f13 f14 (k.val + 1) st
    ∧ (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).1 f11 f13 f14 = [⟨Rect.unit (k0_off1 k) S512x128.size (k0_off1_inb k), k0_pay11 st.1.1 st.1.2.2.1⟩]
    ∧ (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).2.1 f11 f13 f14 = st.2.1
    ∧ (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).2.2.1 f11 f13 f14 = [⟨Rect.unit (k0_off13 k) S1x1x512x1.size (k0_off13_inb k), k0_pay13 st.1.2.2.2⟩,
        ⟨Rect.unit (k0_off12 k) S1x1x512x1.size (k0_off12_inb k), k0_pay12 st.1.2.1⟩]
    ∧ (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).2.2.2.1 f11 f13 f14 = st.2.2.1
    ∧ (trip (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 k).2.2.2.2.1 f11 f13 f14 = st.2.2.2 := by
  refine ⟨_, whole c i harg1 harg2 harg3 harg4 harg5 harg6 harg7 arg8 harg8 arg9 harg9 arg10 harg10 arg11 harg11 arg12 harg12 arg13 harg13 arg14 harg14 X H k f11 f13 f14 (Scf.trips (k0_t2_loop k).lb (k0_t2_loop k).ub (k0_t2_loop k).st) (trips3 k), ?_, ?_, ?_, ?_, ?_⟩
  all_goals unfold trip; with_reducible rfl

variable {st : Acc × List (View.Piece (Elt Ideal) S2x4x1x512 .f32) × List (View.Piece (Elt Ideal) S2048x128 .f32)
      × List (View.Piece (Elt Ideal) S2048x128 .f32)}
  (A : After arg11 arg13 arg14 X k (k0_pay51, k0_pay52, k0_pay53, k0_pay54) f11 f13 f14 (k.val + 1) st)

include A

theorem row_dk (C : Fin 2048) (l : Fin 128) :
    arg13.view.read (Elt Ideal) (arg13.view.writes (Elt Ideal) f13 st.2.2.1) (ix2 C l) =
      arg13.view.read (Elt Ideal) f13 (ix2 C l) + X.dkI k.val C l := by
  rw [A.dk]
  by_cases hC : C.val < 512 * (k.val + 1)
  · rw [if_pos hC]
  · rw [if_neg hC, X.dkI_zero C (lt1 k) (by omega)]

theorem row_dv (C : Fin 2048) (l : Fin 128) :
    arg14.view.read (Elt Ideal) (arg14.view.writes (Elt Ideal) f14 st.2.2.2) (ix2 C l) =
      arg14.view.read (Elt Ideal) f14 (ix2 C l) + X.dvI k.val C l := by
  rw [A.dv]
  by_cases hC : C.val < 512 * (k.val + 1)
  · rw [if_pos hC]
  · rw [if_neg hC, X.dvI_zero C (lt1 k) (by omega)]

theorem row_dck (h : Fin 2) (n : Fin 4) (y : Fin 512) :
    arg11.view.read (Elt Ideal) (arg11.view.writes (Elt Ideal) f11 st.2.1) (ix4 h n 0 y) =
      arg11.view.read (Elt Ideal) f11 (ix4 h n 0 y) + X.dckI h k.val (gr n.val y) := by
  rw [A.dck]
  by_cases hC : n.val < k.val + 1
  · rw [if_pos hC]
  · rw [if_neg hC, X.dckI_zero h _ (lt1 k) (by rw [gr_val n.isLt]; omega)]

theorem row_dq (R : Fin 2048) (l : Fin 128) :
    arg8.view.read (Elt Ideal) (arg8.view.writes (Elt Ideal) f8
        [⟨Rect.unit (k0_off1 k) S512x128.size (k0_off1_inb k), k0_pay11 st.1.1 st.1.2.2.1⟩]) (ix2 R l) =
      if 512 * k.val ≤ R.val ∧ R.val < 512 * k.val + 512 then X.dq R l else arg8.view.read (Elt Ideal) f8 (ix2 R l) := by
  by_cases hR : 512 * k.val ≤ R.val ∧ R.val < 512 * k.val + 512
  · rw [if_pos hR]
    obtain ⟨r, rfl⟩ := gr_of (lt1 k) R hR
    refine (writes_rows_of_mem _ _ _ _ _ k.val (lt1 k) (k0_off1_eq k) r l).trans ?_
    refine (pay11 _ _ r l).trans ?_
    unfold Ops.dq
    rw [A.dq0, A.dq1, sum_le (lt1 k) _ fun j h1 h2 => X.dqJ_zero 0 h1 h2 r l,
      sum_le (lt1 k) _ fun j h1 h2 => X.dqJ_zero 1 h1 h2 r l]
    dsimp only
    rw [pay51, pay53, zero_add, zero_add]
  · rw [if_neg hR]
    exact writes_rows_of_not_mem _ _ _ _ _ k.val (k0_off1_eq k) R l hR

theorem row_dcq (h : Fin 2) (n : Fin 4) (r : Fin 512) :
    arg12.view.read (Elt Ideal) (arg12.view.writes (Elt Ideal) f12
        [⟨Rect.unit (k0_off13 k) S1x1x512x1.size (k0_off13_inb k), k0_pay13 st.1.2.2.2⟩,
          ⟨Rect.unit (k0_off12 k) S1x1x512x1.size (k0_off12_inb k), k0_pay12 st.1.2.1⟩]) (ix4 h n r 0) =
      if n.val = k.val then X.dcq h (gr n.val r) else arg12.view.read (Elt Ideal) f12 (ix4 h n r 0) := by
  by_cases hn : n.val = k.val
  · rw [if_pos hn]
    obtain rfl : n = ⟨k.val, lt1 k⟩ := Fin.ext hn
    unfold Ops.dcq
    obtain rfl | rfl : h = 0 ∨ h = 1 := by omega
    · refine (writes_queries_of_not_mem _ _ _ _ _ 1 ⟨k.val, lt1 k⟩ (k0_off13_eq k) 0 _ r (.inl (by decide))).trans ?_
      refine (writes_queries_of_mem _ _ _ _ _ 0 ⟨k.val, lt1 k⟩ (k0_off12_eq k) r).trans ?_
      refine (pay12 _ r).trans ?_
      rw [A.dcq0, sum_le (lt1 k) _ fun j h1 h2 => X.dcqJ_zero 0 h1 h2 r]
      dsimp only
      rw [pay52, zero_add]
    · refine (writes_queries_of_mem _ _ _ _ _ 1 ⟨k.val, lt1 k⟩ (k0_off13_eq k) r).trans ?_
      refine (pay13 _ r).trans ?_
      rw [A.dcq1, sum_le (lt1 k) _ fun j h1 h2 => X.dcqJ_zero 1 h1 h2 r]
      dsimp only
      rw [pay54, zero_add]
  · rw [if_neg hn]
    have hne : n ≠ ⟨k.val, lt1 k⟩ := fun e => hn (congrArg Fin.val e)
    refine (writes_queries_of_not_mem _ _ _ _ _ 1 ⟨k.val, lt1 k⟩ (k0_off13_eq k) h n r (.inr hne)).trans ?_
    exact writes_queries_of_not_mem _ _ _ _ _ 0 ⟨k.val, lt1 k⟩ (k0_off12_eq k) h n r (.inr hne)

omit A

variable (G8 : BufTy.Contents (Elt Ideal) arg8.view.ty) (G11 : BufTy.Contents (Elt Ideal) arg11.view.ty)
  (G12 : BufTy.Contents (Elt Ideal) arg12.view.ty) (G13 : BufTy.Contents (Elt Ideal) arg13.view.ty)
  (G14 : BufTy.Contents (Elt Ideal) arg14.view.ty)

/-- What the five buffers hold after `n` trips of the loop over the query blocks. -/
structure Rows (n : ℕ) (p : Pcs Ideal) : Prop where
  dq : ∀ R l, R.val < 512 * n → arg8.view.read (Elt Ideal) (arg8.view.writes (Elt Ideal) G8 p.1) (ix2 R l) = X.dq R l
  dck : ∀ h m y, arg11.view.read (Elt Ideal) (arg11.view.writes (Elt Ideal) G11 p.2.1) (ix4 h m 0 y) =
    arg11.view.read (Elt Ideal) G11 (ix4 h m 0 y) + X.dck n h (gr m.val y)
  dcq : ∀ h (m : Fin 4) r, m.val < n → arg12.view.read (Elt Ideal) (arg12.view.writes (Elt Ideal) G12 p.2.2.1) (ix4 h m r 0) =
    X.dcq h (gr m.val r)
  dk : ∀ C l, arg13.view.read (Elt Ideal) (arg13.view.writes (Elt Ideal) G13 p.2.2.2.1) (ix2 C l) =
    arg13.view.read (Elt Ideal) G13 (ix2 C l) + X.dk n C l
  dv : ∀ C l, arg14.view.read (Elt Ideal) (arg14.view.writes (Elt Ideal) G14 p.2.2.2.2) (ix2 C l) =
    arg14.view.read (Elt Ideal) G14 (ix2 C l) + X.dv n C l

include H in
theorem rows (n : ℕ) (hn : n ≤ 4) : Rows arg8 arg11 arg12 arg13 arg14 X G8 G11 G12 G13 G14 n (pcs (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 n) := by
  induction n with
  | zero => exact ⟨fun R l h => absurd h (by omega), fun h m y => by simp [pcs, View.writes, Ops.dck], fun h m r hm => absurd hm (by omega),
      fun C l => by simp [pcs, View.writes, Ops.dk], fun C l => by simp [pcs, View.writes, Ops.dv]⟩
  | succ n ih =>
    have ih := ih (by omega)
    obtain ⟨k, rfl⟩ : ∃ k : Fin k0_t1_loop.trips, k.val = n := ⟨⟨n, lt_of_lt_of_eq (by omega) trips1.symm⟩, rfl⟩
    rw [pcs_succ]
    generalize pcs (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 G11 G13 G14 k.val = p at ih ⊢
    unfold add
    obtain ⟨st, A, e8, e11, e12, e13, e14⟩ := trip_eq c i harg1 harg2 harg3 harg4 harg5 harg6 harg7 arg8 harg8 arg9 harg9 arg10 harg10 arg11 harg11 arg12 harg12 arg13 harg13 arg14 harg14 X H k (arg11.view.writes (Elt Ideal) G11 p.2.1)
      (arg13.view.writes (Elt Ideal) G13 p.2.2.2.1) (arg14.view.writes (Elt Ideal) G14 p.2.2.2.2)
    rw [e8, e11, e12, e13, e14]
    constructor
    · intro R l hR
      rw [View.writes_append, row_dq (A := A)]
      by_cases h : 512 * k.val ≤ R.val ∧ R.val < 512 * k.val + 512
      · exact if_pos h
      · rw [if_neg h]; exact ih.dq R l (by omega)
    · intro h m y
      rw [View.writes_append, row_dck (A := A), ih.dck, add_assoc]
      exact congrArg _ (Finset.sum_range_succ _ _).symm
    · intro h m r hm
      rw [View.writes_append, row_dcq (A := A)]
      by_cases e : m.val = k.val
      · exact if_pos e
      · rw [if_neg e]; exact ih.dcq h m r (by omega)
    · intro C l
      rw [View.writes_append, row_dk (A := A), ih.dk, add_assoc]
      exact congrArg _ (Finset.sum_range_succ _ _).symm
    · intro C l
      rw [View.writes_append, row_dv (A := A), ih.dv, add_assoc]
      exact congrArg _ (Finset.sum_range_succ _ _).symm

end Cert.Kernel2Ideal.Hand

end
-- ==== Proof.FoxPoint.lean ====
/- What the body leaves in its five outputs, in terms of the blocks it was given. -/
module

public import proofs.«01_k».proof.Proof.FoxOuter
public import proofs.«01_k».proof.Proof.FoxFrame

@[expose] public section

set_option maxRecDepth 16384

noncomputable section

namespace Cert.Kernel2Ideal.Hand

open Cert.Kernel2Ideal Cert.Kernel2Ideal.Gen Idealize.ShloMosaic

/-- Seven blocks as arrays. -/
def opsOf (x1 x2 x3 x4 x5 : Vec Ideal S2048x128 .bf16) (x6 : Vec Ideal S2x4x1x512 .f32) (x7 : Vec Ideal S2x4x512x1 .f32) : Ops where
  q R l := x1 (ix2 R l)
  k R l := x2 (ix2 R l)
  v R l := x3 (ix2 R l)
  o R l := x4 (ix2 R l)
  d R l := x5 (ix2 R l)
  ck h R := x6 (ix4 h ⟨R.val / 512, by omega⟩ 0 ⟨R.val % 512, Nat.mod_lt _ (by decide)⟩)
  lse h R := x7 (ix4 h ⟨R.val / 512, by omega⟩ ⟨R.val % 512, Nat.mod_lt _ (by decide)⟩ 0)

theorem gr_div (n : Fin 4) (r : Fin 512) (h : (gr n.val r).val / 512 < 4) : (⟨(gr n.val r).val / 512, h⟩ : Fin 4) = n :=
  Fin.ext (by show (gr n.val r).val / 512 = n.val; rw [gr_val n.isLt]; omega)
theorem gr_mod (n : Fin 4) (r : Fin 512) (h : (gr n.val r).val % 512 < 512) : (⟨(gr n.val r).val % 512, h⟩ : Fin 512) = r :=
  Fin.ext (by show (gr n.val r).val % 512 = r.val; rw [gr_val n.isLt]; omega)

variable (c : Dev nD) (i : grid0.Coords)
  (arg1 : Memref sig .tc .vmem S2048x128 .bf16) (harg1 : arg1.IsWhole) (arg2 : Memref sig .tc .vmem S2048x128
  .bf16) (harg2 : arg2.IsWhole) (arg3 : Memref sig .tc .vmem S2048x128 .bf16) (harg3 : arg3.IsWhole) (arg4 :
  Memref sig .tc .vmem S2048x128 .bf16) (harg4 : arg4.IsWhole) (arg5 : Memref sig .tc .vmem S2048x128 .bf16)
  (harg5 : arg5.IsWhole) (arg6 : Memref sig .tc .vmem S2x4x1x512 .f32) (harg6 : arg6.IsWhole) (arg7 : Memref sig
  .tc .vmem S2x4x512x1 .f32) (harg7 : arg7.IsWhole) (arg8 : Memref sig .tc .vmem S2048x128 .bf16) (harg8 :
  arg8.IsWhole) (arg9 : Memref sig .tc .vmem S2048x128 .bf16) (harg9 : arg9.IsWhole) (arg10 : Memref sig .tc .vmem
  S2048x128 .bf16) (harg10 : arg10.IsWhole) (arg11 : Memref sig .tc .vmem S2x4x1x512 .f32) (harg11 :
  arg11.IsWhole) (arg12 : Memref sig .tc .vmem S2x4x512x1 .f32) (harg12 : arg12.IsWhole) (arg13 : Memref sig .tc
  .vmem S2048x128 .f32) (harg13 : arg13.IsWhole) (arg14 : Memref sig .tc .vmem S2048x128 .f32) (harg14 :
  arg14.IsWhole)

variable (x1 x2 x3 x4 x5 : Vec Ideal S2048x128 .bf16) (x6 : Vec Ideal S2x4x1x512 .f32) (x7 : Vec Ideal S2x4x512x1 .f32)

theorem holds : Holds (harg1.unread x1) (harg2.unread x2) (harg3.unread x3) (harg4.unread x4) (harg5.unread x5)
    (harg6.unread x6) (harg7.unread x7) (opsOf x1 x2 x3 x4 x5 x6 x7) where
  q R l := congrFun (harg1.read_unread x1) _
  k R l := congrFun (harg2.read_unread x2) _
  v R l := congrFun (harg3.read_unread x3) _
  o R l := congrFun (harg4.read_unread x4) _
  d R l := congrFun (harg5.read_unread x5) _
  ck h n y := (congrFun (harg6.read_unread x6) _).trans (by dsimp only [opsOf]; rw [gr_div, gr_mod])
  lse h n y := (congrFun (harg7.read_unread x7) _).trans (by dsimp only [opsOf]; rw [gr_div, gr_mod])

/-- The three buffers filled with zeros. -/
abbrev g11 : BufTy.Contents (Elt Ideal) arg11.view.ty := arg11.view.writes (Elt Ideal) arg11.view.junk (bodyRun.sl.H11_1 (F := Ideal))
abbrev g13 : BufTy.Contents (Elt Ideal) arg13.view.ty := arg13.view.writes (Elt Ideal) arg13.view.junk (bodyRun.sl.H13_1 (F := Ideal))
abbrev g14 : BufTy.Contents (Elt Ideal) arg14.view.ty := arg14.view.writes (Elt Ideal) arg14.view.junk (bodyRun.sl.H14_1 (F := Ideal))

theorem g13_zero (C : Fin 2048) (l : Fin 128) : arg13.view.read (Elt Ideal) (g13 arg13) (ix2 C l) = 0 :=
  (View.read_writes_cons_unit_of_mem _ _ _ _ _ _ (ix2 C l) (rfl : ![0, 0] = ![0, 0])
    (Fin.forall_fin_two.mpr ⟨(Nat.zero_add _).symm, (Nat.zero_add _).symm⟩)).trans (pay1 _)
theorem g14_zero (C : Fin 2048) (l : Fin 128) : arg14.view.read (Elt Ideal) (g14 arg14) (ix2 C l) = 0 :=
  (View.read_writes_cons_unit_of_mem _ _ _ _ _ _ (ix2 C l) (rfl : ![0, 0] = ![0, 0])
    (Fin.forall_fin_two.mpr ⟨(Nat.zero_add _).symm, (Nat.zero_add _).symm⟩)).trans (pay2 _)
theorem g11_zero (h : Fin 2) (n : Fin 4) (y : Fin 512) : arg11.view.read (Elt Ideal) (g11 arg11) (ix4 h n 0 y) = 0 :=
  (View.read_writes_cons_unit_of_mem _ _ _ _ _ _ (ix4 h n 0 y) (rfl : ![0, 0, 0, 0] = ![0, 0, 0, 0]) (by
    intro a
    fin_cases a
    · exact (Nat.zero_add _).symm
    · exact (Nat.zero_add _).symm
    · exact (Nat.zero_add _).symm
    · exact (Nat.zero_add _).symm)).trans (pay3 _)

theorem all_rows (n : ℕ) (hn : n = 4) : Rows arg8 arg11 arg12 arg13 arg14 (opsOf x1 x2 x3 x4 x5 x6 x7) arg8.view.junk (g11 arg11) arg12.view.junk
    (g13 arg13) (g14 arg14) 4 (pcs (F := Ideal) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg2.unread x2) (harg3.unread x3) (harg4.unread x4) (harg5.unread x5) (harg6.unread x6) (harg7.unread x7) (g11 arg11) (g13 arg13) (g14 arg14) n) := by
  subst hn
  exact rows c i harg1 harg2 harg3 harg4 harg5 harg6 harg7 arg8 harg8 arg9 harg9 arg10 harg10 arg11 harg11 arg12 harg12 arg13 harg13 arg14 harg14 _ (holds _ harg1 _ harg2 _ harg3 _ harg4 _ harg5 _ harg6 _ harg7 x1 x2 x3 x4 x5 x6 x7) _ _ _ _ _ 4 le_rfl

/-- The body's outputs by the pieces of the loop over the query blocks. -/
theorem body_eq : ∃ p : Pcs Ideal, Rows arg8 arg11 arg12 arg13 arg14 (opsOf x1 x2 x3 x4 x5 x6 x7) arg8.view.junk (g11 arg11) arg12.view.junk
    (g13 arg13) (g14 arg14) 4 p
    ∧ (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).1 = p.1
    ∧ (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).2.1 = [⟨Rect.unit ![0, 0] S2048x128.size inb_S2048x128_S2048x128_0_0,
        k0_pay14 (arg13.view.readCov (p.2.2.2.1 ++ bodyRun.sl.H13_1 (F := Ideal)) (Rect.unit ![0, 0] S2048x128.size inb_S2048x128_S2048x128_0_0).toLoadRect)⟩]
    ∧ (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).2.2.1 = [⟨Rect.unit ![0, 0] S2048x128.size inb_S2048x128_S2048x128_0_0,
        k0_pay15 (arg14.view.readCov (p.2.2.2.2 ++ bodyRun.sl.H14_1 (F := Ideal)) (Rect.unit ![0, 0] S2048x128.size inb_S2048x128_S2048x128_0_0).toLoadRect)⟩]
    ∧ (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).2.2.2.1 = p.2.1 ++ bodyRun.sl.H11_1 (F := Ideal)
    ∧ (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).2.2.2.2.1 = p.2.2.1 := by
  refine ⟨_, all_rows c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 (Scf.trips (0#32) (Scalar.addi 0#32 4#32) 1#32) (by decide), ?_, ?_, ?_, ?_, ?_⟩
  all_goals unfold bodyRun; rfl

end Cert.Kernel2Ideal.Hand

end
-- ==== Proof.FoxOuts.lean ====
/- What the body leaves in its five outputs at each grid point, by the blocks that the point takes. -/
module

public import proofs.«01_k».proof.Proof.FoxPoint

@[expose] public section

set_option maxRecDepth 16384

noncomputable section

namespace Cert.Kernel2Ideal.Hand

open Cert.Kernel2Ideal Cert.Kernel2Ideal.Gen Idealize.ShloMosaic

variable (m : (ℓ : Loc nD τ sig) → Buf (Elt Ideal) ℓ) (c : Dev nD) (t : Fin cfg0.N)

/-- The arrays of a grid point. -/
def ops : Ops := opsOf (iblk m c 0 t) (iblk m c 1 t) (iblk m c 2 t) (iblk m c 3 t) (iblk m c 4 t) (iblk m c 5 t) (iblk m c 6 t)

theorem out_eq : ∃ p : Pcs Ideal, Rows (ms7 t) (ms10 t) (ms11 t) sc0 sc1 (ops m c t) (ms7 t).view.junk (g11 (ms10 t)) (ms11 t).view.junk
    (g13 sc0) (g14 sc1) 4 p
    ∧ (runAt m c t).1 = p.1
    ∧ (runAt m c t).2.1 = [⟨Rect.unit ![0, 0] S2048x128.size inb_S2048x128_S2048x128_0_0,
        k0_pay14 (sc0.view.readCov (p.2.2.2.1 ++ bodyRun.sl.H13_1 (F := Ideal)) (Rect.unit ![0, 0] S2048x128.size inb_S2048x128_S2048x128_0_0).toLoadRect)⟩]
    ∧ (runAt m c t).2.2.1 = [⟨Rect.unit ![0, 0] S2048x128.size inb_S2048x128_S2048x128_0_0,
        k0_pay15 (sc1.view.readCov (p.2.2.2.2 ++ bodyRun.sl.H14_1 (F := Ideal)) (Rect.unit ![0, 0] S2048x128.size inb_S2048x128_S2048x128_0_0).toLoadRect)⟩]
    ∧ (runAt m c t).2.2.2.1 = p.2.1 ++ bodyRun.sl.H11_1 (F := Ideal)
    ∧ (runAt m c t).2.2.2.2.1 = p.2.2.1 :=
  body_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _)
    (iblk m c 0 t) (iblk m c 1 t) (iblk m c 2 t) (iblk m c 3 t) (iblk m c 4 t) (iblk m c 5 t) (iblk m c 6 t)

theorem pay14 (x : Vec Ideal S2048x128 .f32) (y : S2048x128.Idx) : k0_pay14 (F := Ideal) x y = x y := rfl
theorem pay15 (x : Vec Ideal S2048x128 .f32) (y : S2048x128.Idx) : k0_pay15 (F := Ideal) x y = x y := rfl

/-- A buffer read whole is its contents. -/
theorem readCov_whole {κ : Kind} {sp : Space} (v : View sig κ sp S2048x128 .f32) (L : List (View.Piece (Elt Ideal) S2048x128 .f32)) (R : Fin 2048) (l : Fin 128) :
    v.readCov L (Rect.unit ![0, 0] S2048x128.size inb_S2048x128_S2048x128_0_0).toLoadRect (ix2 R l)
      = v.read (Elt Ideal) (v.writes (Elt Ideal) v.junk L) (ix2 R l) := by
  refine congrArg (v.read (Elt Ideal) (v.writes (Elt Ideal) v.junk L)) (funext fun a => Fin.ext ?_)
  fin_cases a
  · show 0 + 1 * R.val = R.val; omega
  · show 0 + 1 * l.val = l.val; omega

theorem out7_apply (R : Fin 2048) (l : Fin 128) : out7 m c t (ix2 R l) = (ops m c t).dq R l := by
  obtain ⟨p, H, e1, -⟩ := out_eq m c t
  have h := congrFun (View.read_writes_eq_canon (ms7 t).view (ms7 t).view.junk _ (cover7 m c t)) (ix2 R l)
  unfold out7
  rw [← h, e1]
  exact H.dq R l (by omega)

theorem out11_apply (h : Fin 2) (n : Fin 4) (r : Fin 512) : out11 m c t (ix4 h n r 0) = (ops m c t).dcq h (gr n.val r) := by
  obtain ⟨p, H, -, -, -, -, e⟩ := out_eq m c t
  have h' := congrFun (View.read_writes_eq_canon (ms11 t).view (ms11 t).view.junk _ (cover11 m c t)) (ix4 h n r 0)
  unfold out11
  rw [← h', e]
  exact H.dcq h n r n.isLt

theorem out10_apply (h : Fin 2) (n : Fin 4) (y : Fin 512) : out10 m c t (ix4 h n 0 y) = (ops m c t).dck 4 h (gr n.val y) := by
  obtain ⟨p, H, -, -, -, e, -⟩ := out_eq m c t
  have h' := congrFun (View.read_writes_eq_canon (ms10 t).view (ms10 t).view.junk _ (cover10 m c t)) (ix4 h n 0 y)
  unfold out10
  rw [← h', e, View.writes_append, H.dck, g11_zero, zero_add]

theorem out8_apply (R : Fin 2048) (l : Fin 128) : out8 m c t (ix2 R l) = (ops m c t).dk 4 R l := by
  obtain ⟨p, H, -, e, -⟩ := out_eq m c t
  have h := congrFun (View.read_writes_eq_canon (ms8 t).view (ms8 t).view.junk _ (cover8 m c t)) (ix2 R l)
  unfold out8
  rw [← h, e, View.read_writes_cons_unit_of_mem _ _ _ _ _ _ (ix2 R l) (rfl : ![0, 0] = ![0, 0])
    (Fin.forall_fin_two.mpr ⟨(Nat.zero_add _).symm, (Nat.zero_add _).symm⟩), pay14, readCov_whole, View.writes_append, H.dk, g13_zero, zero_add]

theorem out9_apply (R : Fin 2048) (l : Fin 128) : out9 m c t (ix2 R l) = (ops m c t).dv 4 R l := by
  obtain ⟨p, H, -, -, e, -⟩ := out_eq m c t
  have h := congrFun (View.read_writes_eq_canon (ms9 t).view (ms9 t).view.junk _ (cover9 m c t)) (ix2 R l)
  unfold out9
  rw [← h, e, View.read_writes_cons_unit_of_mem _ _ _ _ _ _ (ix2 R l) (rfl : ![0, 0] = ![0, 0])
    (Fin.forall_fin_two.mpr ⟨(Nat.zero_add _).symm, (Nat.zero_add _).symm⟩), pay15, readCov_whole, View.writes_append, H.dv, g14_zero, zero_add]

end Cert.Kernel2Ideal.Hand

end
-- ==== Proof.FoxBlocks.lean ====
/- The blocks of a grid point as parts of the arrays that the call is given. -/
module

public import proofs.«01_k».proof.Proof.FoxOuts
public import Idealize.ShloMosaic.Lib.Pipeline.ValueKit

@[expose] public section

set_option maxRecDepth 16384

noncomputable section

namespace Cert.Kernel2Ideal.Hand

open Cert.Kernel2Ideal Cert.Kernel2Ideal.Gen Idealize.ShloMosaic Idealize.ShloMosaic.TcCoe Idealize.SL.Sem

/-- The arrays of batch `b`, the two heads of column block `g`. -/
def pairOps (x : S4096x1536.Idx → EReal) (o d : S4096x512.Idx → EReal) (ck : S16x4x1x512.Idx → EReal) (ls : S16x4x512x1.Idx → EReal)
    (b : Fin 2) (g : Fin 4) : Ops where
  q R l := x (ix2 ⟨b.val * 2048 + R.val, by omega⟩ ⟨g.val * 128 + l.val, by omega⟩)
  k R l := x (ix2 ⟨b.val * 2048 + R.val, by omega⟩ ⟨(4 + g.val) * 128 + l.val, by omega⟩)
  v R l := x (ix2 ⟨b.val * 2048 + R.val, by omega⟩ ⟨(8 + g.val) * 128 + l.val, by omega⟩)
  o R l := o (ix2 ⟨b.val * 2048 + R.val, by omega⟩ ⟨g.val * 128 + l.val, by omega⟩)
  d R l := d (ix2 ⟨b.val * 2048 + R.val, by omega⟩ ⟨g.val * 128 + l.val, by omega⟩)
  ck h R := ck (ix4 ⟨(b.val * 4 + g.val) * 2 + h.val, by omega⟩ ⟨R.val / 512, by omega⟩ 0 ⟨R.val % 512, Nat.mod_lt _ (by decide)⟩)
  lse h R := ls (ix4 ⟨(b.val * 4 + g.val) * 2 + h.val, by omega⟩ ⟨R.val / 512, by omega⟩ ⟨R.val % 512, Nat.mod_lt _ (by decide)⟩ 0)

/-- The batch, the row in it, the pair of heads and the lane in it. -/
def rb (n : Fin 4096) : Fin 2 := ⟨n.val / 2048, by omega⟩
def rr (n : Fin 4096) : Fin 2048 := ⟨n.val % 2048, by omega⟩
def cg (n : Fin 512) : Fin 4 := ⟨n.val / 128, by omega⟩
def cl (n : Fin 512) : Fin 128 := ⟨n.val % 128, by omega⟩
/-- The batch, the pair and the head in it of one of the sixteen heads. -/
def hb (n : Fin 16) : Fin 2 := ⟨n.val / 8, by omega⟩
def hg (n : Fin 16) : Fin 4 := ⟨n.val % 8 / 2, by omega⟩
def hh (n : Fin 16) : Fin 2 := ⟨n.val % 2, by omega⟩

/-- The blocks that each grid point takes. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4, t.val % 4] ∧ win0_4.index t = ![t.val / 4, t.val % 4]
    ∧ win0_5.index t = ![t.val, 0, 0, 0] ∧ win0_6.index t = ![t.val, 0, 0, 0] ∧ win0_7.index t = ![t.val / 4, t.val % 4]
    ∧ win0_8.index t = ![t.val / 4, t.val % 4] ∧ win0_9.index t = ![t.val / 4, t.val % 4] ∧ win0_10.index t = ![t.val, 0, 0, 0]
    ∧ win0_11.index t = ![t.val, 0, 0, 0] :=
  (by decide +kernel : ∀ t : Fin grid0.N, _)

theorem N8 : cfg0.N = 8 := by decide +kernel

variable (c : Dev nD)

section Blocks

variable (W : (b : Ref sig .tc) → Buf (Elt Ideal) ((c : Thread nD τ).loc b)) (t : Fin cfg0.N)

theorem blk0 (R : Fin 2048) (l : Fin 128) (n : Fin 4096) (k : Fin 1536) (hn : n.val = t.val / 4 * 2048 + R.val)
    (hk : k.val = t.val % 4 * 128 + l.val) :
    ((cfg0.win 0).blk t).view.read (Elt Ideal) (W (Pipeline.arrRef spec0 0)) (ix2 R l) = W main_arg0 (ix2 n k) := by
  blk_simp
  blk_ext [idx t]

theorem blk1 (R : Fin 2048) (l : Fin 128) (n : Fin 4096) (k : Fin 1536) (hn : n.val = t.val / 4 * 2048 + R.val)
    (hk : k.val = (4 + t.val % 4) * 128 + l.val) :
    ((cfg0.win 1).blk t).view.read (Elt Ideal) (W (Pipeline.arrRef spec0 1)) (ix2 R l) = W main_arg0 (ix2 n k) := by
  blk_simp
  blk_ext [idx t]

theorem blk2 (R : Fin 2048) (l : Fin 128) (n : Fin 4096) (k : Fin 1536) (hn : n.val = t.val / 4 * 2048 + R.val)
    (hk : k.val = (8 + t.val % 4) * 128 + l.val) :
    ((cfg0.win 2).blk t).view.read (Elt Ideal) (W (Pipeline.arrRef spec0 2)) (ix2 R l) = W main_arg0 (ix2 n k) := by
  blk_simp
  blk_ext [idx t]

theorem blk3 (R : Fin 2048) (l : Fin 128) (n : Fin 4096) (k : Fin 512) (hn : n.val = t.val / 4 * 2048 + R.val)
    (hk : k.val = t.val % 4 * 128 + l.val) :
    ((cfg0.win 3).blk t).view.read (Elt Ideal) (W (Pipeline.arrRef spec0 3)) (ix2 R l) = W main_v60 (ix2 n k) := by
  blk_simp
  blk_ext [idx t]

theorem blk4 (R : Fin 2048) (l : Fin 128) (n : Fin 4096) (k : Fin 512) (hn : n.val = t.val / 4 * 2048 + R.val)
    (hk : k.val = t.val % 4 * 128 + l.val) :
    ((cfg0.win 4).blk t).view.read (Elt Ideal) (W (Pipeline.arrRef spec0 4)) (ix2 R l) = W main_arg2 (ix2 n k) := by
  blk_simp
  blk_ext [idx t]

theorem blk5 (h : Fin 2) (n : Fin 4) (y : Fin 512) (k : Fin 16) (hk : k.val = t.val * 2 + h.val) :
    ((cfg0.win 5).blk t).view.read (Elt Ideal) (W (Pipeline.arrRef spec0 5)) (ix4 h n 0 y) = W main_v61 (ix4 k n 0 y) := by
  blk_simp
  blk_ext [idx t]

theorem blk6 (h : Fin 2) (n : Fin 4) (y : Fin 512) (k : Fin 16) (hk : k.val = t.val * 2 + h.val) :
    ((cfg0.win 6).blk t).view.read (Elt Ideal) (W (Pipeline.arrRef spec0 6)) (ix4 h n y 0) = W main_v62 (ix4 k n y 0) := by
  blk_simp
  blk_ext [idx t]

end Blocks

/-- The arrays of a batch and pair of heads as the call finds them. -/
def callOps (W : (b : Ref sig .tc) → Buf (Elt Ideal) ((c : Thread nD τ).loc b)) : Fin 2 → Fin 4 → Ops :=
  pairOps (W main_arg0) (W main_v60) (W main_arg2) (W main_v61) (W main_v62)

theorem ops_eq' (W : (b : Ref sig .tc) → Buf (Elt Ideal) ((c : Thread nD τ).loc b)) (t : Fin cfg0.N) (b : Fin 2) (g : Fin 4)
    (hb : b.val = t.val / 4) (hg : g.val = t.val % 4) :
    opsOf (((cfg0.win 0).blk t).view.read (Elt Ideal) (W (Pipeline.arrRef spec0 0))) (((cfg0.win 1).blk t).view.read (Elt Ideal) (W (Pipeline.arrRef spec0 1)))
      (((cfg0.win 2).blk t).view.read (Elt Ideal) (W (Pipeline.arrRef spec0 2))) (((cfg0.win 3).blk t).view.read (Elt Ideal) (W (Pipeline.arrRef spec0 3)))
      (((cfg0.win 4).blk t).view.read (Elt Ideal) (W (Pipeline.arrRef spec0 4))) (((cfg0.win 5).blk t).view.read (Elt Ideal) (W (Pipeline.arrRef spec0 5)))
      (((cfg0.win 6).blk t).view.read (Elt Ideal) (W (Pipeline.arrRef spec0 6))) = callOps c W b g := by
  have := N8
  have := t.isLt
  unfold callOps opsOf pairOps
  congr 1
  · funext R l; exact blk0 c W t R l _ _ (by dsimp only; omega) (by dsimp only; omega)
  · funext R l; exact blk1 c W t R l _ _ (by dsimp only; omega) (by dsimp only; omega)
  · funext R l; exact blk2 c W t R l _ _ (by dsimp only; omega) (by dsimp only; omega)
  · funext R l; exact blk3 c W t R l _ _ (by dsimp only; omega) (by dsimp only; omega)
  · funext R l; exact blk4 c W t R l _ _ (by dsimp only; omega) (by dsimp only; omega)
  · funext h R; exact blk5 c W t h _ _ _ (by dsimp only; omega)
  · funext h R; exact blk6 c W t h _ _ _ (by dsimp only; omega)

variable (m : (ℓ : Loc nD τ sig) → Buf (Elt Ideal) ℓ)

/-- The arrays that the call is given. -/
def X0 : Fin 2 → Fin 4 → Ops := callOps c (V m c)

theorem ops_eq (t : Fin cfg0.N) (b : Fin 2) (g : Fin 4) (hb : b.val = t.val / 4) (hg : g.val = t.val % 4) : ops m c t = X0 c m b g := by
  unfold ops X0 iblk
  generalize V m c = W
  exact ops_eq' c W t b g hb hg

end Cert.Kernel2Ideal.Hand

end
-- ==== Proof.FoxArray.lean ====
/- What the five output arrays hold after the run, by the arrays that the call is given. -/
module

public import proofs.«01_k».proof.Proof.FoxBlocks

@[expose] public section

set_option maxRecDepth 16384

noncomputable section

namespace Cert.Kernel2Ideal.Hand

open Cert.Kernel2Ideal Cert.Kernel2Ideal.Gen Idealize.ShloMosaic Idealize.ShloMosaic.TcCoe Idealize.SL.Sem

section Outputs

variable (X : Fin 2 → Fin 4 → Ops)

def dqOut (y : S4096x512.Idx) : EReal := (X (rb (y 0)) (cg (y 1))).dq (rr (y 0)) (cl (y 1))
def dkOut (y : S4096x512.Idx) : EReal := (X (rb (y 0)) (cg (y 1))).dk 4 (rr (y 0)) (cl (y 1))
def dvOut (y : S4096x512.Idx) : EReal := (X (rb (y 0)) (cg (y 1))).dv 4 (rr (y 0)) (cl (y 1))
def dckOut (y : S16x4x1x512.Idx) : EReal := (X (hb (y 0)) (hg (y 0))).dck 4 (hh (y 0)) (gr (y 1).val (y 3))
def dcqOut (y : S16x4x512x1.Idx) : EReal := (X (hb (y 0)) (hg (y 0))).dcq (hh (y 0)) (gr (y 1).val (y 2))

end Outputs

variable (c : Dev nD) (m : (ℓ : Loc nD τ sig) → Buf (Elt Ideal) ℓ)

theorem quarter (t : Fin cfg0.N) : t.val / 4 < 2 := by
  have := N8
  have := t.isLt
  omega

theorem dq_point (t : Fin cfg0.N) (R : Fin 2048) (l : Fin 128) (z : S4096x512.Idx) (h0 : (z 0).val = t.val / 4 * 2048 + R.val)
    (h1 : (z 1).val = t.val % 4 * 128 + l.val) : rb (z 0) = ⟨t.val / 4, quarter t⟩
      ∧ rr (z 0) = R ∧ cg (z 1) = ⟨t.val % 4, by omega⟩ ∧ cl (z 1) = l :=
  ⟨Fin.ext (by show (z 0).val / 2048 = _; dsimp only; omega), Fin.ext (by show (z 0).val % 2048 = _; omega),
    Fin.ext (by show (z 1).val / 128 = _; dsimp only; omega), Fin.ext (by show (z 1).val % 128 = _; omega)⟩

theorem head_point (t : Fin cfg0.N) (h : Fin 2) (z : Fin 16) (h0 : z.val = t.val * 2 + h.val) :
    hb z = ⟨t.val / 4, quarter t⟩ ∧ hg z = ⟨t.val % 4, by omega⟩ ∧ hh z = h :=
  ⟨Fin.ext (by show z.val / 8 = _; dsimp only; omega), Fin.ext (by show z.val % 8 / 2 = _; dsimp only; omega),
    Fin.ext (by show z.val % 2 = _; omega)⟩

theorem arr7 : (dats m 0 c).arrAt 7 cfg0.N = dqOut (X0 c m) := by
  refine (dats m 0 c).arrAt_eq_of_covers 7 _ (by decide +kernel) fun t hf y => ?_
  blk_simp
  rw [after7]
  idx_vars y
  rw [out7_apply, ops_eq c m t ⟨t.val / 4, quarter t⟩ ⟨t.val % 4, by omega⟩ rfl rfl]
  generalize X0 c m = X
  generalize hz : ((View.whole main_v63_0).slice (win0_7.rect t)).emb (ix2 y0 y1) = z
  obtain ⟨e1, e2, e3, e4⟩ := dq_point t y0 y1 z (by rw [← hz]; blk_simp [idx t]) (by rw [← hz]; blk_simp [idx t])
  unfold dqOut
  rw [e1, e2, e3, e4]

theorem arr8 : (dats m 0 c).arrAt 8 cfg0.N = dkOut (X0 c m) := by
  refine (dats m 0 c).arrAt_eq_of_covers 8 _ (by decide +kernel) fun t hf y => ?_
  blk_simp
  rw [after8]
  idx_vars y
  rw [out8_apply, ops_eq c m t ⟨t.val / 4, quarter t⟩ ⟨t.val % 4, by omega⟩ rfl rfl]
  generalize X0 c m = X
  generalize hz : ((View.whole main_v63_1).slice (win0_8.rect t)).emb (ix2 y0 y1) = z
  obtain ⟨e1, e2, e3, e4⟩ := dq_point t y0 y1 z (by rw [← hz]; blk_simp [idx t]) (by rw [← hz]; blk_simp [idx t])
  unfold dkOut
  rw [e1, e2, e3, e4]

theorem arr9 : (dats m 0 c).arrAt 9 cfg0.N = dvOut (X0 c m) := by
  refine (dats m 0 c).arrAt_eq_of_covers 9 _ (by decide +kernel) fun t hf y => ?_
  blk_simp
  rw [after9]
  idx_vars y
  rw [out9_apply, ops_eq c m t ⟨t.val / 4, quarter t⟩ ⟨t.val % 4, by omega⟩ rfl rfl]
  generalize X0 c m = X
  generalize hz : ((View.whole main_v63_2).slice (win0_9.rect t)).emb (ix2 y0 y1) = z
  obtain ⟨e1, e2, e3, e4⟩ := dq_point t y0 y1 z (by rw [← hz]; blk_simp [idx t]) (by rw [← hz]; blk_simp [idx t])
  unfold dvOut
  rw [e1, e2, e3, e4]

theorem arr10 : (dats m 0 c).arrAt 10 cfg0.N = dckOut (X0 c m) := by
  refine (dats m 0 c).arrAt_eq_of_covers 10 _ (by decide +kernel) fun t hf y => ?_
  blk_simp
  rw [after10]
  idx_vars y
  obtain rfl : y2 = 0 := Subsingleton.elim _ _
  rw [out10_apply, ops_eq c m t ⟨t.val / 4, quarter t⟩ ⟨t.val % 4, by omega⟩ rfl rfl]
  generalize X0 c m = X
  generalize hz : ((View.whole main_v63_3).slice (win0_10.rect t)).emb (ix4 y0 y1 0 y3) = z
  obtain ⟨e1, e2, e3⟩ := head_point t y0 (z 0) (by rw [← hz]; blk_simp [idx t])
  have e4 : z 1 = y1 := Fin.ext (by rw [← hz]; blk_simp [idx t])
  have e5 : z 3 = y3 := Fin.ext (by rw [← hz]; blk_simp [idx t])
  unfold dckOut
  rw [e1, e2, e3, e4, e5]

theorem arr11 : (dats m 0 c).arrAt 11 cfg0.N = dcqOut (X0 c m) := by
  refine (dats m 0 c).arrAt_eq_of_covers 11 _ (by decide +kernel) fun t hf y => ?_
  blk_simp
  rw [after11]
  idx_vars y
  obtain rfl : y3 = 0 := Subsingleton.elim _ _
  rw [out11_apply, ops_eq c m t ⟨t.val / 4, quarter t⟩ ⟨t.val % 4, by omega⟩ rfl rfl]
  generalize X0 c m = X
  generalize hz : ((View.whole main_v63_4).slice (win0_11.rect t)).emb (ix4 y0 y1 y2 0) = z
  obtain ⟨e1, e2, e3⟩ := head_point t y0 (z 0) (by rw [← hz]; blk_simp [idx t])
  have e4 : z 1 = y1 := Fin.ext (by rw [← hz]; blk_simp [idx t])
  have e5 : z 2 = y2 := Fin.ext (by rw [← hz]; blk_simp [idx t])
  unfold dcqOut
  rw [e1, e2, e3, e4, e5]

end Cert.Kernel2Ideal.Hand

end
-- ==== Proof.FoxSaved.lean ====
/- The saved output and log-sums that the host lines give the call, read element by element. -/
module

public import proofs.«01_k».proof.Proof.FoxHost
public import proofs.«01_k».proof.Proof.FoxRef
public import proofs.«01_k».proof.Proof.FoxArray

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.Reference2Ideal.Read Cert.Reference2Ideal.Hand Cert.Softmax Cert.Fox

variable (x0 : Vec Ideal S4096x1536 .bf16) (x1 : Vec Ideal S2x8x2048 .f32) (x2 : Vec Ideal S4096x512 .bf16)
variable (b : Fin 2) (h : Fin 8) (R C : Fin 2048)

theorem host_score : hostScore (F := Ideal) x0 x1 (ix4 b h R C) = (headOf x0 x1 x2 b h).score0 R C := by
  have e := ref_dot x0 x1 x2 b h R C
  have e' := ref_key x0 x1 x2 b h R C
  unfold hostScore
  generalize val_main_v10 (F := Ideal) x0 = y at e ⊢
  generalize val_main_v14 (F := Ideal) x1 = z at e' ⊢
  refine (ref_mask b h R C _ _).trans ?_
  unfold Head.score0
  refine if_congr Iff.rfl ?_ bot_bits
  rw [← e, ← e']
  pointwise []

theorem host_max : hostMax (F := Ideal) x0 x1 (ix3 b h R) = rowMax ((headOf x0 x1 x2 b h).score0 R) := by
  have e := fun j => host_score x0 x1 x2 b h R j
  unfold hostMax
  generalize hostScore (F := Ideal) x0 x1 = y at e ⊢
  refine (reduce_max b h R y _).trans ?_
  refine (Finset.fold_congr fun j _ => e j).trans ?_
  exact congrArg (fun z : EReal => Finset.univ.fold max z _) bot_bits

theorem host_exp : hostExp (F := Ideal) x0 x1 (ix4 b h R C) = wt ((headOf x0 x1 x2 b h).score0 R) C := by
  have e := host_max x0 x1 x2 b h R
  have e' := host_score x0 x1 x2 b h R C
  unfold hostExp
  generalize hostMax (F := Ideal) x0 x1 = y at e ⊢
  generalize hostScore (F := Ideal) x0 x1 = z at e' ⊢
  pointwise []
  rw [e, e']; rfl

theorem logsum (y : Vec Ideal S2x8x2048 .f32) (z : Vec Ideal S2x8x2048x2048 .f32) (M : EReal) (w : Fin 2048 → EReal)
    (e : y (ix3 b h R) = M) (e' : ∀ j, z (ix4 b h R j) = w j) :
    addf y (Host.log (Host.reduceAdd z (constant (F := Ideal) S_ .f32 0x00000000#32) reducesTo_S2x8x2048x2048_S2x8x2048_d3 h_S_)) (ix3 b h R)
      = M + Ideal.log (∑ j, w j) := by
  pointwise []
  simp only [e, e']

theorem host_lse : hostLse (F := Ideal) x0 x1 (ix3 b h R) = (headOf x0 x1 x2 b h).lse R :=
  logsum b h R _ _ _ _ (host_max x0 x1 x2 b h R) fun j => host_exp x0 x1 x2 b h R j

theorem host_out (l : Fin 64) : hostOut (F := Ideal) x0 x1 (ix2 ⟨b.val * 2048 + R.val, by omega⟩ ⟨h.val * 64 + l.val, by omega⟩)
    = (headOf x0 x1 x2 b h).out R l := by
  have e := fun C => ref_v x0 x1 x2 b h C l
  have e' := fun C => ref_prob x0 x1 x2 b h R C
  unfold hostOut val_main_v51 val_main_v50 val_main_v49
  generalize val_main_v7 (F := Ideal) x0 = y at e ⊢
  generalize val_main_v45 (F := Ideal) x0 x1 = z at e' ⊢
  pointwise []
  simp only [e, e']; rfl

end Cert.Kernel2Ideal.Hand

end
-- ==== Proof.FoxEq.lean ====
/- One grid point's two heads: the five results that the point computes are those of the softmax attention. -/
module

public import proofs.«01_k».proof.Proof.FoxOuter
public import proofs.«01_k».proof.Proof.FoxMath
public import proofs.«01_k».proof.Proof.MemArray

@[expose] public section

set_option maxRecDepth 16384

noncomputable section

namespace Cert.Fox

open Idealize.ShloMosaic Cert.Softmax
open Cert.Kernel2Ideal.Hand

/-- Lane `l` of head `h` among the two heads' lanes. -/
def ln (h : Fin 2) (l : Fin 64) : Fin 128 := ⟨h.val * 64 + l.val, by omega⟩

/-- Head `h` of the pair that a grid point works on is `H`. -/
structure Pair (X : Ops) (h : Fin 2) (H : Head) : Prop where
  q : ∀ R l, X.q R (ln h l) = H.q R l
  k : ∀ R l, X.k R (ln h l) = H.k R l
  v : ∀ R l, X.v R (ln h l) = H.v R l
  d : ∀ R l, X.d R (ln h l) = H.d R l
  o : ∀ R l, X.o R (ln h l) = H.out R l
  ck : ∀ R, X.ck h R = H.c R
  lse : ∀ R, X.lse h R = H.lse R

theorem lane_self (h : Fin 2) (l : Fin 64) (x : EReal) : lane h (ln h l) x = x := by
  unfold lane ln
  fin_cases h
  · exact if_pos ⟨fun _ => rfl, fun _ => by show 0 * 64 + l.val < 64; omega⟩
  · exact if_pos ⟨fun hl => absurd hl (by show ¬ 1 * 64 + l.val < 64; omega), fun hl => absurd hl (by decide)⟩

theorem lane_other (h h' : Fin 2) (hn : h ≠ h') (l : Fin 64) (x : EReal) : lane h (ln h' l) x = 0 := by
  unfold lane ln
  fin_cases h <;> fin_cases h'
  · exact absurd rfl hn
  · exact if_neg fun e => absurd (e.2 rfl) (by show ¬ 1 * 64 + l.val < 64; omega)
  · exact if_neg fun e => absurd (e.1 (by show 0 * 64 + l.val < 64; omega)) (by decide)
  · exact absurd rfl hn

/-- A sum over the two heads' lanes, masked to one head, is the sum over that head's lanes. -/
theorem lane_sum (h : Fin 2) (f g : Fin 128 → EReal) : (∑ l, lane h l (f l) * g l) = ∑ l, f (ln h l) * g (ln h l) := by
  have e : (∑ l : Fin 128, lane h l (f l) * g l)
      = (∑ l : Fin 64, lane h (ln 0 l) (f (ln 0 l)) * g (ln 0 l)) + ∑ l : Fin 64, lane h (ln 1 l) (f (ln 1 l)) * g (ln 1 l) := by
    refine (Fin.sum_univ_add (a := 64) (b := 64) fun l : Fin (64 + 64) => lane h l (f l) * g l).trans ?_
    refine congrArg₂ (· + ·) (Finset.sum_congr rfl fun l _ => ?_) (Finset.sum_congr rfl fun l _ => ?_)
    · have : Fin.castAdd 64 l = ln 0 l := Fin.ext (by show l.val = 0 * 64 + l.val; omega)
      rw [this]
    · have : Fin.natAdd 64 l = ln 1 l := Fin.ext (by show 64 + l.val = 1 * 64 + l.val; omega)
      rw [this]
  rw [e]
  fin_cases h
  · simp only [lane_self, lane_other 0 1 (by decide), zero_mul, Finset.sum_const_zero, add_zero, Fin.zero_eta]
  · simp only [lane_self, lane_other 1 0 (by decide), zero_mul, Finset.sum_const_zero, zero_add, Fin.mk_one]

/-- The four blocks' sums are the sum over the rows. -/
theorem sum_blocks (f : Fin 2048 → EReal) : (∑ i ∈ Finset.range 4, ∑ r : Fin 512, f (gr i r)) = ∑ R, f R := by
  rw [Finset.sum_range, ← Cert.KernelIdeal.Hand.sum_rows f]
  refine Finset.sum_congr rfl fun s _ => Finset.sum_congr rfl fun i _ => congrArg f (Fin.ext ?_)
  rw [gr_val s.isLt]
  show 512 * s.val + i.val = s.val * 512 + i.val
  omega

variable {X : Ops} {h : Fin 2} {H : Head} (hX : Pair X h H) (hH : H.Finite) (R C : Fin 2048) (l : Fin 64)

include hX hH in
theorem P_eq : X.P h R C = H.p R C := by
  rw [← Head.p_eq R C hH]
  unfold Ops.P Head.dot
  rw [lane_sum, hX.ck, hX.lse]
  simp only [hX.q, hX.k]

include hX hH in
theorem DS_eq : X.DS h R C = H.ds R C := by
  rw [← Head.ds_eq R C hH]
  unfold Ops.DS Ops.dl Head.g
  rw [lane_sum, lane_sum, P_eq hX hH]
  simp only [hX.d, hX.v, hX.o]

include hX hH in
/-- The gradient of the queries. -/
theorem dq_eq : X.dq R (ln h l) = ∑ C, (H.ds R C * e8) * H.k C l := by
  obtain ⟨e, he, h8⟩ := Head.e8_coe
  have hd : X.dq R (ln h l) = ∑ j ∈ Finset.range 4, X.dqJ h j R (ln h l) := by
    unfold Ops.dq ln
    fin_cases h
    · exact if_pos (by show 0 * 64 + l.val < 64; omega)
    · exact if_neg (by show ¬ 1 * 64 + l.val < 64; omega)
  rw [hd, ← sum_blocks]
  refine Finset.sum_congr rfl fun j _ => ?_
  unfold Ops.dqJ
  rw [h8, sum_mul_coe e he]
  refine Finset.sum_congr rfl fun c _ => ?_
  rw [DS_eq hX hH, hX.k, mul_right_comm]

include hX hH in
/-- The gradient of the gate sums at the queries. -/
theorem dcq_eq : X.dcq h R = ∑ C, H.ds R C := by
  rw [← sum_blocks]
  refine Finset.sum_congr rfl fun j _ => Finset.sum_congr rfl fun c _ => DS_eq hX hH _ _

/-- Of the two heads' terms only the lane's own head's stays. -/
theorem pick (T : Fin 2 → EReal) (hT : ∀ h', h' ≠ h → T h' = 0) : T 0 + T 1 = T h := by
  fin_cases h
  · show T 0 + T 1 = T 0
    rw [hT 1 (by decide), add_zero]
  · show T 0 + T 1 = T 1
    rw [hT 0 (by decide), zero_add]

include hX hH in
/-- The gradient of the keys. -/
theorem dk_eq : X.dk 4 C (ln h l) = ∑ R, (H.ds R C * e8) * H.q R l := by
  obtain ⟨e, he, h8⟩ := Head.e8_coe
  rw [← sum_blocks]
  refine Finset.sum_congr rfl fun i _ => ?_
  refine (pick (h := h) (fun h' => (∑ r, X.DS h' (gr i r) C * lane h' (ln h l) (X.q (gr i r) (ln h l))) * e8) fun h' hn => ?_).trans ?_
  · simp only [lane_other h' h hn, mul_zero, Finset.sum_const_zero, zero_mul]
  · show (∑ r, X.DS h (gr i r) C * lane h (ln h l) (X.q (gr i r) (ln h l))) * e8 = _
    rw [h8, sum_mul_coe e he]
    refine Finset.sum_congr rfl fun r _ => ?_
    rw [DS_eq hX hH, lane_self, hX.q, mul_right_comm]

include hX hH in
/-- The gradient of the values. -/
theorem dv_eq : X.dv 4 C (ln h l) = ∑ R, H.d R l * H.p R C := by
  rw [← sum_blocks]
  refine Finset.sum_congr rfl fun i _ => ?_
  refine (pick (h := h) (fun h' => ∑ r, X.P h' (gr i r) C * lane h' (ln h l) (X.d (gr i r) (ln h l))) fun h' hn => ?_).trans ?_
  · simp only [lane_other h' h hn, mul_zero, Finset.sum_const_zero]
  · refine Finset.sum_congr rfl fun r _ => ?_
    show X.P h (gr i r) C * lane h (ln h l) (X.d (gr i r) (ln h l)) = _
    rw [P_eq hX hH, lane_self, hX.d, mul_comm]

include hX hH in
/-- The gradient of the gate sums at the keys. -/
theorem dck_eq : X.dck 4 h C = ∑ R, -H.ds R C := by
  rw [← sum_blocks]
  refine Finset.sum_congr rfl fun i _ => ?_
  unfold Ops.dckI
  choose s hs using fun R => Head.ds_real R C hH
  simp only [DS_eq hX hH, hs, ← EReal.coe_neg, ← coe_sum, zero_sub, Finset.sum_neg_distrib]

end Cert.Fox

end
-- ==== Proof.FoxFinal.lean ====
/- The five arrays that the call leaves are the reference's results. -/
module

public import proofs.«01_k».proof.Proof.FoxSaved
public import proofs.«01_k».proof.Proof.FoxEq

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.Reference2Ideal.Read Cert.Reference2Ideal.Hand Cert.Fox

theorem cast_key (y : Vec Ideal S2x8x2048 .f32) (b : Fin 2) (h : Fin 8) (n : Fin 4) (r : Fin 512) :
    shapeCast S16x4x1x512 y shapeCasts_S2x8x2048_S16x4x1x512 (ix4 ⟨b.val * 8 + h.val, by omega⟩ n 0 r) = y (ix3 b h ⟨n.val * 512 + r.val, by omega⟩) := by
  pointwise []

theorem cast_query (y : Vec Ideal S2x8x2048 .f32) (b : Fin 2) (h : Fin 8) (n : Fin 4) (r : Fin 512) :
    shapeCast S16x4x512x1 y shapeCasts_S2x8x2048_S16x4x512x1 (ix4 ⟨b.val * 8 + h.val, by omega⟩ n r 0) = y (ix3 b h ⟨n.val * 512 + r.val, by omega⟩) := by
  pointwise []

/-- Head `h` of column block `g`. -/
def hd (g : Fin 4) (h : Fin 2) : Fin 8 := ⟨g.val * 2 + h.val, by omega⟩

variable (x0 : Vec Ideal S4096x1536 .bf16) (x1 : Vec Ideal S2x8x2048 .f32) (x2 : Vec Ideal S4096x512 .bf16)

/-- The arrays of batch `b`, block `g`, with the host lines' output and log-sums. -/
def given (b : Fin 2) (g : Fin 4) : Ops :=
  pairOps x0 (hostOut (F := Ideal) x0 x1) x2 (shapeCast S16x4x1x512 x1 shapeCasts_S2x8x2048_S16x4x1x512)
    (shapeCast S16x4x512x1 (hostLse (F := Ideal) x0 x1) shapeCasts_S2x8x2048_S16x4x512x1) b g

theorem col_eq {n : ℕ} (f : (⟨2, ![4096, n]⟩ : Shape).Idx → EReal) (i : Fin 4096) (j k : Fin n) (e : j.val = k.val) : f (ix2 i j) = f (ix2 i k) := by
  rw [Fin.ext e]

theorem pair (b : Fin 2) (g : Fin 4) (h : Fin 2) : Pair (given x0 x1 x2 b g) h (headOf x0 x1 x2 b (hd g h)) where
  q R l := col_eq x0 _ _ _ (by show g.val * 128 + (h.val * 64 + l.val) = (g.val * 2 + h.val) * 64 + l.val; omega)
  k R l := col_eq x0 _ _ _ (by show (4 + g.val) * 128 + (h.val * 64 + l.val) = 512 + ((g.val * 2 + h.val) * 64 + l.val); omega)
  v R l := col_eq x0 _ _ _ (by show (8 + g.val) * 128 + (h.val * 64 + l.val) = 1024 + ((g.val * 2 + h.val) * 64 + l.val); omega)
  d R l := col_eq x2 _ _ _ (by show g.val * 128 + (h.val * 64 + l.val) = (g.val * 2 + h.val) * 64 + l.val; omega)
  o R l := by
    refine Eq.trans ?_ (host_out x0 x1 x2 b (hd g h) R l)
    show hostOut (F := Ideal) x0 x1 _ = _
    generalize hostOut (F := Ideal) x0 x1 = y
    exact col_eq y _ _ _ (by show g.val * 128 + (h.val * 64 + l.val) = (g.val * 2 + h.val) * 64 + l.val; omega)
  ck R := by
    have e : (⟨(b.val * 4 + g.val) * 2 + h.val, by omega⟩ : Fin 16) = ⟨b.val * 8 + (hd g h).val, by unfold hd; dsimp only; omega⟩ :=
      Fin.ext (by show (b.val * 4 + g.val) * 2 + h.val = b.val * 8 + (g.val * 2 + h.val); omega)
    have e' : (⟨R.val / 512 * 512 + R.val % 512, by omega⟩ : Fin 2048) = R := Fin.ext (by show R.val / 512 * 512 + R.val % 512 = R.val; omega)
    show shapeCast S16x4x1x512 x1 _ _ = x1 (ix3 b (hd g h) R)
    rw [e]
    exact (cast_key x1 b (hd g h) _ _).trans (congrArg (fun z => x1 (ix3 b (hd g h) z)) e')
  lse R := by
    have e : (⟨(b.val * 4 + g.val) * 2 + h.val, by omega⟩ : Fin 16) = ⟨b.val * 8 + (hd g h).val, by unfold hd; dsimp only; omega⟩ :=
      Fin.ext (by show (b.val * 4 + g.val) * 2 + h.val = b.val * 8 + (g.val * 2 + h.val); omega)
    have e' : (⟨R.val / 512 * 512 + R.val % 512, by omega⟩ : Fin 2048) = R := Fin.ext (by show R.val / 512 * 512 + R.val % 512 = R.val; omega)
    refine Eq.trans ?_ (host_lse x0 x1 x2 b (hd g h) R)
    show shapeCast S16x4x512x1 (hostLse (F := Ideal) x0 x1) _ _ = _
    generalize hostLse (F := Ideal) x0 x1 = y
    rw [e]
    exact (cast_query y b (hd g h) _ _).trans (congrArg (fun z => y (ix3 b (hd g h) z)) e')

theorem row_split (y : Fin 4096) : ∃ (b : Fin 2) (R : Fin 2048), y = ⟨b.val * 2048 + R.val, by omega⟩ :=
  ⟨⟨y.val / 2048, by omega⟩, ⟨y.val % 2048, by omega⟩, Fin.ext (by show y.val = y.val / 2048 * 2048 + y.val % 2048; omega)⟩

theorem col_split (y : Fin 512) : ∃ (g : Fin 4) (h : Fin 2) (l : Fin 64), y = ⟨(hd g h).val * 64 + l.val, by unfold hd; dsimp only; omega⟩ :=
  ⟨⟨y.val / 128, by omega⟩, ⟨y.val % 128 / 64, by omega⟩, ⟨y.val % 64, by omega⟩,
    Fin.ext (by show y.val = (y.val / 128 * 2 + y.val % 128 / 64) * 64 + y.val % 64; omega)⟩

theorem head_split (y : Fin 16) : ∃ (b : Fin 2) (g : Fin 4) (h : Fin 2), y = ⟨b.val * 8 + (hd g h).val, by unfold hd; dsimp only; omega⟩ :=
  ⟨⟨y.val / 8, by omega⟩, ⟨y.val % 8 / 2, by omega⟩, ⟨y.val % 2, by omega⟩,
    Fin.ext (by show y.val = y.val / 8 * 8 + (y.val % 8 / 2 * 2 + y.val % 2); omega)⟩

theorem rows_of (b : Fin 2) (R : Fin 2048) : rb ⟨b.val * 2048 + R.val, by omega⟩ = b ∧ rr ⟨b.val * 2048 + R.val, by omega⟩ = R :=
  ⟨Fin.ext (by show (b.val * 2048 + R.val) / 2048 = b.val; omega), Fin.ext (by show (b.val * 2048 + R.val) % 2048 = R.val; omega)⟩

theorem cols_of (g : Fin 4) (h : Fin 2) (l : Fin 64) (p : (hd g h).val * 64 + l.val < 512) :
    cg ⟨(hd g h).val * 64 + l.val, p⟩ = g ∧ cl ⟨(hd g h).val * 64 + l.val, p⟩ = ln h l :=
  ⟨Fin.ext (by show ((g.val * 2 + h.val) * 64 + l.val) / 128 = g.val; omega),
    Fin.ext (by show ((g.val * 2 + h.val) * 64 + l.val) % 128 = h.val * 64 + l.val; omega)⟩

theorem heads_of (b : Fin 2) (g : Fin 4) (h : Fin 2) (p : b.val * 8 + (hd g h).val < 16) :
    hb ⟨b.val * 8 + (hd g h).val, p⟩ = b ∧ hg ⟨b.val * 8 + (hd g h).val, p⟩ = g ∧ hh ⟨b.val * 8 + (hd g h).val, p⟩ = h :=
  ⟨Fin.ext (by show (b.val * 8 + (g.val * 2 + h.val)) / 8 = b.val; omega),
    Fin.ext (by show (b.val * 8 + (g.val * 2 + h.val)) % 8 / 2 = g.val; omega),
    Fin.ext (by show (b.val * 8 + (g.val * 2 + h.val)) % 2 = h.val; omega)⟩

theorem gr_eq (n : Fin 4) (r : Fin 512) : gr n.val r = ⟨n.val * 512 + r.val, by omega⟩ :=
  Fin.ext ((gr_val n.isLt r).trans (by show 512 * n.val + r.val = n.val * 512 + r.val; omega))

section At

variable (X : Fin 2 → Fin 4 → Ops)

theorem dqOut_at (i : Fin 4096) (j : Fin 512) : dqOut X (ix2 i j) = (X (rb i) (cg j)).dq (rr i) (cl j) := rfl
theorem dkOut_at (i : Fin 4096) (j : Fin 512) : dkOut X (ix2 i j) = (X (rb i) (cg j)).dk 4 (rr i) (cl j) := rfl
theorem dvOut_at (i : Fin 4096) (j : Fin 512) : dvOut X (ix2 i j) = (X (rb i) (cg j)).dv 4 (rr i) (cl j) := rfl
theorem dckOut_at (i : Fin 16) (n : Fin 4) (r : Fin 512) : dckOut X (ix4 i n 0 r) = (X (hb i) (hg i)).dck 4 (hh i) (gr n.val r) := rfl
theorem dcqOut_at (i : Fin 16) (n : Fin 4) (r : Fin 512) : dcqOut X (ix4 i n r 0) = (X (hb i) (hg i)).dcq (hh i) (gr n.val r) := rfl

end At

variable (hf : ∀ b h, (headOf x0 x1 x2 b h).Finite)

include hf in
theorem final_dq : dqOut (given x0 x1 x2) = val_main_v89 (F := Ideal) x0 x1 x2 := by
  funext y
  idx_vars y
  obtain ⟨b, R, rfl⟩ := row_split y0
  obtain ⟨g, h, l, rfl⟩ := col_split y1
  rw [ref_dq x0 x1 x2 b (hd g h) R l _ rfl (hf _ _)]
  rw [dqOut_at, (rows_of b R).1, (rows_of b R).2, (cols_of g h l _).1, (cols_of g h l _).2]
  exact dq_eq (pair x0 x1 x2 b g h) (hf _ _) R l

include hf in
theorem final_dk : dkOut (given x0 x1 x2) = val_main_v91 (F := Ideal) x0 x1 x2 := by
  funext y
  idx_vars y
  obtain ⟨b, R, rfl⟩ := row_split y0
  obtain ⟨g, h, l, rfl⟩ := col_split y1
  rw [ref_dk x0 x1 x2 b (hd g h) R l _ rfl (hf _ _)]
  rw [dkOut_at, (rows_of b R).1, (rows_of b R).2, (cols_of g h l _).1, (cols_of g h l _).2]
  exact dk_eq (pair x0 x1 x2 b g h) (hf _ _) R l

include hf in
theorem final_dv : dvOut (given x0 x1 x2) = val_main_v93 (F := Ideal) x0 x1 x2 := by
  funext y
  idx_vars y
  obtain ⟨b, R, rfl⟩ := row_split y0
  obtain ⟨g, h, l, rfl⟩ := col_split y1
  rw [ref_dv x0 x1 x2 b (hd g h) R l _ rfl]
  rw [dvOut_at, (rows_of b R).1, (rows_of b R).2, (cols_of g h l _).1, (cols_of g h l _).2]
  exact dv_eq (pair x0 x1 x2 b g h) (hf _ _) R l

include hf in
theorem final_dck : dckOut (given x0 x1 x2) = val_main_v94 (F := Ideal) x0 x1 x2 := by
  funext y
  idx_vars y
  obtain ⟨b, g, h, rfl⟩ := head_split y0
  obtain rfl : y2 = 0 := Subsingleton.elim _ _
  rw [ref_dck x0 x1 x2 b (hd g h) _ rfl (hf _ _) y1 y3]
  rw [dckOut_at, (heads_of b g h _).1, (heads_of b g h _).2.1, (heads_of b g h _).2.2, gr_eq]
  exact dck_eq (pair x0 x1 x2 b g h) (hf _ _) _

include hf in
theorem final_dcq : dcqOut (given x0 x1 x2) = val_main_v95 (F := Ideal) x0 x1 x2 := by
  funext y
  idx_vars y
  obtain ⟨b, g, h, rfl⟩ := head_split y0
  obtain rfl : y3 = 0 := Subsingleton.elim _ _
  rw [ref_dcq x0 x1 x2 b (hd g h) _ rfl (hf _ _) y1 y2]
  rw [dcqOut_at, (heads_of b g h _).1, (heads_of b g h _).2.1, (heads_of b g h _).2.2, gr_eq]
  exact dcq_eq (pair x0 x1 x2 b g h) (hf _ _) _

variable (c : Dev nD) (m : (ℓ : Loc nD τ sig) → Buf (Elt Ideal) ℓ)

/-- The arrays that the call is given are the arguments and the host lines' results. -/
theorem X0_eq : X0 c m = given (m ((c : Thread nD τ).loc main_arg0)) (m ((c : Thread nD τ).loc main_arg1)) (m ((c : Thread nD τ).loc main_arg2)) := by
  unfold X0 callOps given
  rw [V_main_arg0, V_main_arg2, V60, V61, V62]

end Cert.Kernel2Ideal.Hand

end
-- ==== Proof.Columns.lean ====
/- The product of two matrices of 4096 rows, columns times columns, as the weight gradients take it: its terms, the part that a
   block of 1024 rows adds, and the whole sum by its four blocks. -/
module

public import Idealize.ShloMosaic.Lib.Pipeline.ValueKit
public import Idealize.ShloMosaic.Lib.Pipeline.ReadBack
public import Idealize.ShloMosaic.Lib.Pointwise

@[expose] public section

noncomputable section

namespace Cert.Columns

open Idealize.ShloMosaic

variable {M N : Nat}

/-- What one row adds to an entry of the product. -/
def term (x : (⟨2, ![4096, M]⟩ : Shape).Idx → EReal) (g : (⟨2, ![4096, N]⟩ : Shape).Idx → EReal) (y : (⟨2, ![M, N]⟩ : Shape).Idx)
    (k : Fin 4096) : EReal :=
  x (ix2 k (y 0)) * g (ix2 k (y 1))

/-- The product with the first matrix transposed. -/
def prod (x : (⟨2, ![4096, M]⟩ : Shape).Idx → EReal) (g : (⟨2, ![4096, N]⟩ : Shape).Idx → EReal) (y : (⟨2, ![M, N]⟩ : Shape).Idx) :
    EReal :=
  ∑ k : Fin 4096, term x g y k

/-- What a block of 1024 rows adds. -/
def blk (x : (⟨2, ![1024, M]⟩ : Shape).Idx → EReal) (g : (⟨2, ![1024, N]⟩ : Shape).Idx → EReal) (y : (⟨2, ![M, N]⟩ : Shape).Idx) :
    EReal :=
  ∑ k : Fin 1024, x (ix2 k (y 0)) * g (ix2 k (y 1))

/-- A sum over 4096 rows, by the four blocks of 1024. -/
theorem sum_rows (f : Fin 4096 → EReal) :
    ∑ s : Fin 4, ∑ i : Fin 1024, f ⟨s.val * 1024 + i.val, by omega⟩ = ∑ i, f i := by
  rw [← Fintype.sum_prod_type' (f := fun (s : Fin 4) (i : Fin 1024) => f ⟨s.val * 1024 + i.val, by omega⟩)]
  refine Fintype.sum_equiv (finProdFinEquiv (m := 4) (n := 1024)) _ _ fun x => congrArg f (Fin.ext ?_)
  show x.1.val * 1024 + x.2.val = x.2.val + 1024 * x.1.val
  omega

end Cert.Columns

end
-- ==== Proof.Product3.lean ====
/- The gradient of the feed-forward down weights, a product over all 4096 rows taken in four blocks: what the
   output array holds after the run, and what the reference computes, over the exact values. -/
module

public import proofs.«01_k».proof.Proof.Gen.Kernel3Ideal.Value
public import proofs.«01_k».proof.Proof.Gen.Reference3Ideal.Read
public import proofs.«01_k».proof.Proof.Columns

@[expose] public section

set_option maxRecDepth 16384

noncomputable section

namespace Cert.Kernel3Ideal.Hand

open Cert.Kernel3Ideal Cert.Kernel3Ideal.Gen Cert.Columns Idealize.ShloMosaic Idealize.ShloMosaic.TcCoe Idealize.SL.Sem

variable (x : Vec Ideal S1024x1408 .bf16) (g : Vec Ideal S1024x1024 .bf16) (a : Vec Ideal S1408x1024 .f32) (y : S1408x1024.Idx)

theorem pay2 : k0_pay2 (F := Ideal) x g y = blk x g y := by
  obtain ⟨i, j, rfl⟩ : ∃ i j, y = ix2 i j := ⟨_, _, eq_ix2 y⟩
  pointwise [k0_pay2, k0_pay1]
  rfl

theorem pay3 : k0_pay3 (F := Ideal) x g a y = a y + blk x g y := by
  obtain ⟨i, j, rfl⟩ : ∃ i j, y = ix2 i j := ⟨_, _, eq_ix2 y⟩
  pointwise [k0_pay3, k0_pay1]
  rfl

variable (m : (ℓ : Loc nD τ sig) → Buf (Elt Ideal) ℓ) (c : Dev nD) (t : Fin cfg0.N)

/-- The first point of a run starts the accumulator. -/
theorem acc_A (h0 : t.val % 4 = 0) : (outsAt0 m c t.val t.isLt).2 y = 0 + blk (iblk m c 0 t) (iblk m c 1 t) y := by
  rw [outsAt0_A m c t h0 (by omega) (by omega)]; frame_out
  exact (pay2 _ _ y).trans (zero_add _).symm

/-- Every later point adds to it. -/
theorem acc_B (h0 : ¬ t.val % 4 = 0) : (outsAt0 m c t.val t.isLt).2 y
    = (outsAt0 m c (t.val - 1) (Nat.lt_of_le_of_lt (Nat.sub_le _ _) t.isLt)).2 y + blk (iblk m c 0 t) (iblk m c 1 t) y := by
  by_cases h3 : t.val % 4 = 3
  · rw [outsAt0_C m c t h0 (by omega) h3]; frame_out
    refine (pay3 _ _ _ y).trans ?_
    exact congrArg (fun z : Vec Ideal S1408x1024 .f32 => z y + _) (Memref.IsWhole.read_unread _ _)
  · rw [outsAt0_B m c t h0 (by omega) h3]; frame_out
    refine (pay3 _ _ _ y).trans ?_
    exact congrArg (fun z : Vec Ideal S1408x1024 .f32 => z y + _) (Memref.IsWhole.read_unread _ _)

/-- The last point of a run stores the accumulator. -/
theorem out_C (h3 : t.val % 4 = 3) : (outsAt0 m c t.val t.isLt).1 y = (outsAt0 m c t.val t.isLt).2 y := by
  rw [outsAt0_C m c t (by omega) (by omega) h3]; frame_out
  rfl

/-- The blocks that each grid point takes. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- What a point adds, as a part of the whole product. -/
theorem blk_eq (s : Fin 4) (hs : s.val = t.val % 4) (z : S2816x1024.Idx) (h0 : (z 0).val = t.val / 4 * 1408 + (y 0).val)
    (h1 : (z 1).val = (y 1).val) :
    blk (iblk m c 0 t) (iblk m c 1 t) y = ∑ i : Fin 1024,
      term (m ((c : Thread nD τ).loc main_arg0)) (m ((c : Thread nD τ).loc main_arg1)) z ⟨s.val * 1024 + i.val, by omega⟩ := by
  refine Finset.sum_congr rfl fun k _ => ?_
  unfold term
  blk_point [iblk, V, idx t]

/-- The output array after the run. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (out_C y m c t h3).trans ?_
  rw [Pipeline.eq_sum_fin_of_reset_step_apply_of_flush (fun n h => (outsAt0 m c n h).2) 4 (fun _ => 0)
    (fun n => blk (iblk m c 0 n) (iblk m c 1 n)) (fun t h j => acc_A j m c t h) (fun t h j => acc_B j m c t h) t h3 _, zero_add]
  refine (Finset.sum_congr rfl fun s _ => blk_eq y m c _ s ?_ _ ?_ ?_).trans (sum_rows _)
  · show _ = (4 * (t.val / 4) + s.val) % 4; omega
  · blk_simp [idx t]
    show t.val / 4 * 1408 + (y 0).val = (4 * (t.val / 4) + s.val) / 4 * 1408 + (y 0).val
    omega
  · blk_simp [idx t]

/-- The reference computes the same product. -/
theorem ref (x : Vec Ideal S4096x2816 .bf16) (g : Vec Ideal S4096x1024 .bf16) :
    Cert.Reference3Ideal.Read.val_main_v6 (F := Ideal) x g = prod x g := by
  funext y
  obtain ⟨i, j, rfl⟩ : ∃ i j, y = ix2 i j := ⟨_, _, eq_ix2 y⟩
  pointwise [Cert.Reference3Ideal.Read.val_main_v6, Cert.Reference3Ideal.Read.val_main_v5, Cert.Reference3Ideal.Read.val_main_v4,
    Cert.Reference3Ideal.Read.val_main_v1, Cert.Reference3Ideal.Read.val_main_v0]
  exact Finset.sum_congr rfl fun k _ => mul_comm _ _

end Cert.Kernel3Ideal.Hand

end
-- ==== Proof.Product4.lean ====
/- The gradient of the feed-forward activations: what the product's output array holds after the run, and what the
   reference computes, over the exact values. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Hand

open Cert.Kernel4Ideal Cert.Kernel4Ideal.Gen Idealize.ShloMosaic Idealize.ShloMosaic.TcCoe Idealize.SL.Sem

/-- Rows times rows: the product with the second matrix transposed. -/
def prod (x : S4096x1024.Idx → EReal) (w : S2816x1024.Idx → EReal) (y : S4096x2816.Idx) : EReal :=
  ∑ k : Fin 1024, x (ix2 (y 0) k) * w (ix2 (y 1) k)

/-- One block of the product. -/
theorem pay (x : Vec Ideal S1024x1024 .bf16) (w : Vec Ideal S1408x1024 .bf16) (i : Fin 1024) (j : Fin 1408) :
    k0_pay1 (F := Ideal) x w (ix2 i j) = ∑ k : Fin 1024, x (ix2 i k) * w (ix2 j k) := by
  pointwise [k0_pay1]

/-- What a point leaves in its output block. -/
theorem out (x : Vec Ideal S1024x1024 .bf16) (w : Vec Ideal S1408x1024 .bf16) (y : S1024x1408.Idx) :
    out0_2 (F := Ideal) x w y = ∑ k : Fin 1024, x (ix2 (y 0) k) * w (ix2 (y 1) k) := by
  obtain ⟨i, j, rfl⟩ : ∃ i j, y = ix2 i j := ⟨_, _, eq_ix2 y⟩
  unfold out0_2
  simp (disch := decide) only [View.canon_cons_unit_lit', View.ld_unit_lit']
  exact pay x w i j

/-- The blocks that each grid point takes. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ)

/-- The output array after the run. -/
theorem arr (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  refine (out _ _ _).trans (Finset.sum_congr rfl fun k _ => ?_)
  blk_point [iblk, V, idx t]

/-- The reference computes the same product. -/
theorem ref (x : Vec Ideal S4096x1024 .bf16) (w : Vec Ideal S2816x1024 .bf16) :
    Cert.Reference4Ideal.Read.val_main_v5 (F := Ideal) x w = prod x w := by
  funext y
  obtain ⟨i, j, rfl⟩ : ∃ i j, y = ix2 i j := ⟨_, _, eq_ix2 y⟩
  pointwise [Cert.Reference4Ideal.Read.val_main_v5, Cert.Reference4Ideal.Read.val_main_v4, Cert.Reference4Ideal.Read.val_main_v1,
    Cert.Reference4Ideal.Read.val_main_v0]
  rfl

end Cert.Kernel4Ideal.Hand

end
-- ==== Proof.Rows.lean ====
/- The product of two matrices, rows times columns, as the gradients of the inputs take it, and its sum by three blocks of 1024
   terms. -/
module

public import Idealize.ShloMosaic.Lib.Pipeline.ValueKit
public import Idealize.ShloMosaic.Lib.Pipeline.ReadBack
public import Idealize.ShloMosaic.Lib.Pointwise

@[expose] public section

noncomputable section

namespace Cert.Rows

open Idealize.ShloMosaic

variable {L M N : Nat}

/-- What one column of the first matrix adds to an entry of the product. -/
def term (x : (⟨2, ![L, M]⟩ : Shape).Idx → EReal) (w : (⟨2, ![M, N]⟩ : Shape).Idx → EReal) (y : (⟨2, ![L, N]⟩ : Shape).Idx)
    (k : Fin M) : EReal :=
  x (ix2 (y 0) k) * w (ix2 k (y 1))

/-- The product of two matrices. -/
def prod (x : (⟨2, ![L, M]⟩ : Shape).Idx → EReal) (w : (⟨2, ![M, N]⟩ : Shape).Idx → EReal) (y : (⟨2, ![L, N]⟩ : Shape).Idx) :
    EReal :=
  ∑ k : Fin M, term x w y k

/-- The product added to an array. -/
def addProd (x : (⟨2, ![L, M]⟩ : Shape).Idx → EReal) (w : (⟨2, ![M, N]⟩ : Shape).Idx → EReal)
    (a : (⟨2, ![L, N]⟩ : Shape).Idx → EReal) (y : (⟨2, ![L, N]⟩ : Shape).Idx) : EReal :=
  a y + prod x w y

/-- A sum over 3072 terms, by the three blocks of 1024. -/
theorem sum_blocks (f : Fin 3072 → EReal) :
    ∑ s : Fin 3, ∑ i : Fin 1024, f ⟨s.val * 1024 + i.val, by omega⟩ = ∑ i, f i := by
  rw [← Fintype.sum_prod_type' (f := fun (s : Fin 3) (i : Fin 1024) => f ⟨s.val * 1024 + i.val, by omega⟩)]
  refine Fintype.sum_equiv (finProdFinEquiv (m := 3) (n := 1024)) _ _ fun x => congrArg f (Fin.ext ?_)
  show x.1.val * 1024 + x.2.val = x.2.val + 1024 * x.1.val
  omega

end Cert.Rows

end
-- ==== Proof.Product5.lean ====
/- The gradient of the feed-forward input through the up weights, added to the part through the gate weights: what the product's output array holds after the run, and
   what the reference computes, over the exact values. -/
module

public import proofs.«01_k».proof.Proof.Gen.Kernel5Ideal.Value
public import proofs.«01_k».proof.Proof.Gen.Reference5Ideal.Read
public import proofs.«01_k».proof.Proof.Rows

@[expose] public section

set_option maxRecDepth 16384

noncomputable section

namespace Cert.Kernel5Ideal.Hand

open Cert.Kernel5Ideal Cert.Kernel5Ideal.Gen Cert.Rows Idealize.ShloMosaic Idealize.ShloMosaic.TcCoe Idealize.SL.Sem

/-- One block of the sum. -/
theorem pay (x : Vec Ideal S1024x2816 .bf16) (w : Vec Ideal S2816x1024 .bf16) (a : Vec Ideal S1024x1024 .f32) (i j : Fin 1024) :
    k0_pay1 (F := Ideal) x w a (ix2 i j) = addProd x w a (ix2 i j) := by
  pointwise [k0_pay1]
  exact add_comm _ _

/-- What a point leaves in its output block. -/
theorem out (x : Vec Ideal S1024x2816 .bf16) (w : Vec Ideal S2816x1024 .bf16) (a : Vec Ideal S1024x1024 .f32) (y : S1024x1024.Idx) :
    out0_3 (F := Ideal) x w a y = addProd x w a y := by
  obtain ⟨i, j, rfl⟩ : ∃ i j, y = ix2 i j := ⟨_, _, eq_ix2 y⟩
  unfold out0_3
  simp (disch := decide) only [View.canon_cons_unit_lit', View.ld_unit_lit']
  exact pay x w a i j

/-- The blocks that each grid point takes. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

variable (m : (ℓ : Loc nD τ sig) → Buf (Elt Ideal) ℓ)

/-- The output array after the run. -/
theorem arr (c : Dev nD) : (dats m 0 c).arrAt 3 cfg0.N
    = addProd (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (out _ _ _ _).trans (congr_arg₂ (· + ·) ?_ (Finset.sum_congr rfl fun k _ => ?_))
  · blk_point [iblk, V, idx t]
  · unfold term
    blk_point [iblk, V, idx t]

/-- The reference computes the same sum. -/
theorem ref (x : Vec Ideal S4096x2816 .bf16) (w : Vec Ideal S2816x1024 .bf16) (a : Vec Ideal S4096x1024 .f32) :
    Cert.Reference5Ideal.Read.val_main_v6 (F := Ideal) x w a = addProd x w a := by
  funext y
  obtain ⟨i, j, rfl⟩ : ∃ i j, y = ix2 i j := ⟨_, _, eq_ix2 y⟩
  pointwise [Cert.Reference5Ideal.Read.val_main_v6, Cert.Reference5Ideal.Read.val_main_v5, Cert.Reference5Ideal.Read.val_main_v3,
    Cert.Reference5Ideal.Read.val_main_v1, Cert.Reference5Ideal.Read.val_main_v0]
  rfl

end Cert.Kernel5Ideal.Hand

end
-- ==== Proof.Product6.lean ====
/- The gradient of the feed-forward input, the part through the gate weights: what the product's output array holds after the run, and
   what the reference computes, over the exact values. -/
module

public import proofs.«01_k».proof.Proof.Gen.Kernel6Ideal.Value
public import proofs.«01_k».proof.Proof.Gen.Reference6Ideal.Read
public import proofs.«01_k».proof.Proof.Rows

@[expose] public section

set_option maxRecDepth 16384

noncomputable section

namespace Cert.Kernel6Ideal.Hand

open Cert.Kernel6Ideal Cert.Kernel6Ideal.Gen Cert.Rows Idealize.ShloMosaic Idealize.ShloMosaic.TcCoe Idealize.SL.Sem

/-- One block of the product. -/
theorem pay (x : Vec Ideal S1024x2816 .bf16) (w : Vec Ideal S2816x1024 .bf16) (i j : Fin 1024) :
    k0_pay1 (F := Ideal) x w (ix2 i j) = prod x w (ix2 i j) := by
  pointwise [k0_pay1]
  rfl

/-- What a point leaves in its output block. -/
theorem out (x : Vec Ideal S1024x2816 .bf16) (w : Vec Ideal S2816x1024 .bf16) (y : S1024x1024.Idx) :
    out0_2 (F := Ideal) x w y = prod x w y := by
  obtain ⟨i, j, rfl⟩ : ∃ i j, y = ix2 i j := ⟨_, _, eq_ix2 y⟩
  unfold out0_2
  simp (disch := decide) only [View.canon_cons_unit_lit', View.ld_unit_lit']
  exact pay x w i j

/-- The blocks that each grid point takes. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The output array after the run. -/
theorem arr (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  refine (out _ _ _).trans (Finset.sum_congr rfl fun k _ => ?_)
  unfold term
  blk_point [iblk, V, idx t]

/-- The reference computes the same product. -/
theorem ref (x : Vec Ideal S4096x2816 .bf16) (w : Vec Ideal S2816x1024 .bf16) :
    Cert.Reference6Ideal.Read.val_main_v5 (F := Ideal) x w = prod x w := by
  funext y
  obtain ⟨i, j, rfl⟩ : ∃ i j, y = ix2 i j := ⟨_, _, eq_ix2 y⟩
  pointwise [Cert.Reference6Ideal.Read.val_main_v5, Cert.Reference6Ideal.Read.val_main_v3, Cert.Reference6Ideal.Read.val_main_v1,
    Cert.Reference6Ideal.Read.val_main_v0]
  rfl

end Cert.Kernel6Ideal.Hand

end
-- ==== Proof.Product7.lean ====
/- The gradient of the gate's projection, a product over all 4096 rows taken in four blocks: what the output array holds after
   the run, and what the reference computes, over the exact values. -/
module

public import proofs.«01_k».proof.Proof.Gen.Kernel7Ideal.Value
public import proofs.«01_k».proof.Proof.Gen.Reference7Ideal.Read
public import proofs.«01_k».proof.Proof.Columns

@[expose] public section

set_option maxRecDepth 16384

noncomputable section

namespace Cert.Kernel7Ideal.Hand

open Cert.Kernel7Ideal Cert.Kernel7Ideal.Gen Cert.Columns Idealize.ShloMosaic Idealize.ShloMosaic.TcCoe Idealize.SL.Sem

variable (x : Vec Ideal S1024x1024 .bf16) (g : Vec Ideal S1024x1024 .bf16) (a : Vec Ideal S1024x1024 .f32) (y : S1024x1024.Idx)

theorem pay2 : k0_pay2 (F := Ideal) x g y = blk x g y := by
  obtain ⟨i, j, rfl⟩ : ∃ i j, y = ix2 i j := ⟨_, _, eq_ix2 y⟩
  pointwise [k0_pay2, k0_pay1]
  rfl

theorem pay3 : k0_pay3 (F := Ideal) x g a y = a y + blk x g y := by
  obtain ⟨i, j, rfl⟩ : ∃ i j, y = ix2 i j := ⟨_, _, eq_ix2 y⟩
  pointwise [k0_pay3, k0_pay1]
  rfl

variable (m : (ℓ : Loc nD τ sig) → Buf (Elt Ideal) ℓ) (c : Dev nD) (t : Fin cfg0.N)

/-- The first point of a run starts the accumulator. -/
theorem acc_A (h0 : t.val % 4 = 0) : (outsAt0 m c t.val t.isLt).2 y = 0 + blk (iblk m c 0 t) (iblk m c 1 t) y := by
  rw [outsAt0_A m c t h0 (by omega) (by omega)]; frame_out
  exact (pay2 _ _ y).trans (zero_add _).symm

/-- Every later point adds to it. -/
theorem acc_B (h0 : ¬ t.val % 4 = 0) : (outsAt0 m c t.val t.isLt).2 y
    = (outsAt0 m c (t.val - 1) (Nat.lt_of_le_of_lt (Nat.sub_le _ _) t.isLt)).2 y + blk (iblk m c 0 t) (iblk m c 1 t) y := by
  by_cases h3 : t.val % 4 = 3
  · rw [outsAt0_C m c t h0 (by omega) h3]; frame_out
    refine (pay3 _ _ _ y).trans ?_
    exact congrArg (fun z : Vec Ideal S1024x1024 .f32 => z y + _) (Memref.IsWhole.read_unread _ _)
  · rw [outsAt0_B m c t h0 (by omega) h3]; frame_out
    refine (pay3 _ _ _ y).trans ?_
    exact congrArg (fun z : Vec Ideal S1024x1024 .f32 => z y + _) (Memref.IsWhole.read_unread _ _)

/-- The last point of a run stores the accumulator. -/
theorem out_C (h3 : t.val % 4 = 3) : (outsAt0 m c t.val t.isLt).1 y = (outsAt0 m c t.val t.isLt).2 y := by
  rw [outsAt0_C m c t (by omega) (by omega) h3]; frame_out
  rfl

/-- The blocks that each grid point takes. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- What a point adds, as a part of the whole product. -/
theorem blk_eq (s : Fin 4) (hs : s.val = t.val % 4) (z : S3072x1024.Idx) (h0 : (z 0).val = t.val / 4 * 1024 + (y 0).val)
    (h1 : (z 1).val = (y 1).val) :
    blk (iblk m c 0 t) (iblk m c 1 t) y = ∑ i : Fin 1024,
      term (m ((c : Thread nD τ).loc main_arg0)) (m ((c : Thread nD τ).loc main_arg1)) z ⟨s.val * 1024 + i.val, by omega⟩ := by
  refine Finset.sum_congr rfl fun k _ => ?_
  unfold term
  blk_point [iblk, V, idx t]

/-- The output array after the run. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (out_C y m c t h3).trans ?_
  rw [Pipeline.eq_sum_fin_of_reset_step_apply_of_flush (fun n h => (outsAt0 m c n h).2) 4 (fun _ => 0)
    (fun n => blk (iblk m c 0 n) (iblk m c 1 n)) (fun t h j => acc_A j m c t h) (fun t h j => acc_B j m c t h) t h3 _, zero_add]
  refine (Finset.sum_congr rfl fun s _ => blk_eq y m c _ s ?_ _ ?_ ?_).trans (sum_rows _)
  · show _ = (4 * (t.val / 4) + s.val) % 4; omega
  · blk_simp [idx t]
    show t.val / 4 * 1024 + (y 0).val = (4 * (t.val / 4) + s.val) / 4 * 1024 + (y 0).val
    omega
  · blk_simp [idx t]

/-- The reference computes the same product. -/
theorem ref (x : Vec Ideal S4096x3072 .bf16) (g : Vec Ideal S4096x1024 .bf16) :
    Cert.Reference7Ideal.Read.val_main_v8 (F := Ideal) x g = prod x g := by
  funext y
  obtain ⟨i, j, rfl⟩ : ∃ i j, y = ix2 i j := ⟨_, _, eq_ix2 y⟩
  pointwise [Cert.Reference7Ideal.Read.val_main_v8, Cert.Reference7Ideal.Read.val_main_v7, Cert.Reference7Ideal.Read.val_main_v6,
    Cert.Reference7Ideal.Read.val_main_v5, Cert.Reference7Ideal.Read.val_main_v1, Cert.Reference7Ideal.Read.val_main_v0]
  rfl

end Cert.Kernel7Ideal.Hand

end
-- ==== Proof.Product8.lean ====
/- The gradient of the projected input through the gate's projection, a product over 3072 columns taken in three blocks and added
   to the other parts: what the output array holds after the run, and what the reference computes, over the exact values. -/
module

public import proofs.«01_k».proof.Proof.Gen.Kernel8Ideal.Value
public import proofs.«01_k».proof.Proof.Gen.Reference8Ideal.Read
public import proofs.«01_k».proof.Proof.Rows

@[expose] public section

set_option maxRecDepth 16384

noncomputable section

namespace Cert.Kernel8Ideal.Hand

open Cert.Kernel8Ideal Cert.Kernel8Ideal.Gen Cert.Rows Idealize.ShloMosaic Idealize.ShloMosaic.TcCoe Idealize.SL.Sem

variable (x w : Vec Ideal S1024x1024 .bf16) (a : Vec Ideal S1024x1024 .f32) (y : S1024x1024.Idx)

theorem pay2 : k0_pay2 (F := Ideal) x w y = prod x w y := by
  obtain ⟨i, j, rfl⟩ : ∃ i j, y = ix2 i j := ⟨_, _, eq_ix2 y⟩
  pointwise [k0_pay2, k0_pay1]
  rfl

theorem pay3 : k0_pay3 (F := Ideal) x w a y = a y + prod x w y := by
  obtain ⟨i, j, rfl⟩ : ∃ i j, y = ix2 i j := ⟨_, _, eq_ix2 y⟩
  pointwise [k0_pay3, k0_pay1]
  rfl

variable (m : (ℓ : Loc nD τ sig) → Buf (Elt Ideal) ℓ) (c : Dev nD) (t : Fin cfg0.N)

/-- The first point of a run starts the accumulator. -/
theorem acc_A (h0 : t.val % 3 = 0) : (outsAt0 m c t.val t.isLt).2 y = 0 + prod (iblk m c 0 t) (iblk m c 1 t) y := by
  rw [outsAt0_A m c t h0 (by omega) (by omega)]; frame_out
  exact (pay2 _ _ y).trans (zero_add _).symm

/-- Every later point adds to it. -/
theorem acc_B (h0 : ¬ t.val % 3 = 0) : (outsAt0 m c t.val t.isLt).2 y
    = (outsAt0 m c (t.val - 1) (Nat.lt_of_le_of_lt (Nat.sub_le _ _) t.isLt)).2 y + prod (iblk m c 0 t) (iblk m c 1 t) y := by
  by_cases h2 : t.val % 3 = 2
  · rw [outsAt0_C m c t h0 (by omega) h2]; frame_out
    refine (pay3 _ _ _ y).trans ?_
    exact congrArg (fun z : Vec Ideal S1024x1024 .f32 => z y + _) (Memref.IsWhole.read_unread _ _)
  · rw [outsAt0_B m c t h0 (by omega) h2]; frame_out
    refine (pay3 _ _ _ y).trans ?_
    exact congrArg (fun z : Vec Ideal S1024x1024 .f32 => z y + _) (Memref.IsWhole.read_unread _ _)

/-- The last point of a run stores the accumulator and the array it is added to. -/
theorem out_C (h2 : t.val % 3 = 2) : (outsAt0 m c t.val t.isLt).1 y = (outsAt0 m c t.val t.isLt).2 y + iblk m c 2 t y := by
  rw [outsAt0_C m c t (by omega) (by omega) h2]; frame_out
  rfl

/-- The blocks that each grid point takes. -/
theorem idx : ∀ t : Fin cfg0.N, win0_0.index t = ![t.val / 3, t.val % 3] ∧ win0_1.index t = ![t.val % 3, 0]
    ∧ win0_2.index t = ![t.val / 3, 0] ∧ win0_3.index t = ![t.val / 3, 0] :=
  (by decide +kernel : ∀ t : Fin grid0.N, _)

/-- What a point adds, as a part of the whole product. -/
theorem part_eq (s : Fin 3) (hs : s.val = t.val % 3) (z : S4096x1024.Idx) (h0 : (z 0).val = t.val / 3 * 1024 + (y 0).val)
    (h1 : (z 1).val = (y 1).val) :
    prod (iblk m c 0 t) (iblk m c 1 t) y = ∑ i : Fin 1024,
      term (m ((c : Thread nD τ).loc main_arg0)) (m ((c : Thread nD τ).loc main_arg1)) z ⟨s.val * 1024 + i.val, by omega⟩ := by
  refine Finset.sum_congr rfl fun k _ => ?_
  unfold term
  blk_point [iblk, V, idx t]

/-- The output array after the run. -/
theorem arr : (dats m 0 c).arrAt 3 cfg0.N
    = addProd (m ((c : Thread nD τ).loc main_arg0)) (m ((c : Thread nD τ).loc main_arg1)) (m ((c : Thread nD τ).loc main_arg2)) := by
  refine (dats m 0 c).arrAt_eq_of_covers 3 _ (by decide +kernel) fun t hf y => ?_
  have h2 := (flush0_3 t).mp hf
  blk_simp
  rw [after0_3]
  refine ((out_C y m c t h2).trans (add_comm _ _)).trans (congr_arg₂ (· + ·) ?_ ?_)
  · blk_point [iblk, V, idx t]
  rw [Pipeline.eq_sum_fin_of_reset_step_apply_of_flush (fun n h => (outsAt0 m c n h).2) 3 (fun _ => 0)
    (fun n => prod (iblk m c 0 n) (iblk m c 1 n)) (fun t h j => acc_A j m c t h) (fun t h j => acc_B j m c t h) t h2 _, zero_add]
  refine (Finset.sum_congr rfl fun s _ => part_eq y m c _ s ?_ _ ?_ ?_).trans (sum_blocks _)
  · show _ = (3 * (t.val / 3) + s.val) % 3; omega
  · blk_simp [idx t]
    show t.val / 3 * 1024 + (y 0).val = (3 * (t.val / 3) + s.val) / 3 * 1024 + (y 0).val
    omega
  · blk_simp [idx t]

/-- The reference computes the same sum. -/
theorem ref (x : Vec Ideal S4096x3072 .bf16) (w : Vec Ideal S3072x1024 .bf16) (a : Vec Ideal S4096x1024 .f32) :
    Cert.Reference8Ideal.Read.val_main_v6 (F := Ideal) x w a = addProd x w a := by
  funext y
  obtain ⟨i, j, rfl⟩ : ∃ i j, y = ix2 i j := ⟨_, _, eq_ix2 y⟩
  pointwise [Cert.Reference8Ideal.Read.val_main_v6, Cert.Reference8Ideal.Read.val_main_v5, Cert.Reference8Ideal.Read.val_main_v3,
    Cert.Reference8Ideal.Read.val_main_v1, Cert.Reference8Ideal.Read.val_main_v0]
  rfl

end Cert.Kernel8Ideal.Hand

end
-- ==== Proof.Product9.lean ====
/- The gradient of the recurrence's projection, a product over all 4096 rows taken in four blocks: what the
   output array holds after the run, and what the reference computes, over the exact values. -/
module

public import proofs.«01_k».proof.Proof.Gen.Kernel9Ideal.Value
public import proofs.«01_k».proof.Proof.Gen.Reference9Ideal.Read
public import proofs.«01_k».proof.Proof.Columns

@[expose] public section

set_option maxRecDepth 16384

noncomputable section

namespace Cert.Kernel9Ideal.Hand

open Cert.Kernel9Ideal Cert.Kernel9Ideal.Gen Cert.Columns Idealize.ShloMosaic Idealize.ShloMosaic.TcCoe Idealize.SL.Sem

variable (x : Vec Ideal S1024x896 .f32) (g : Vec Ideal S1024x1024 .bf16) (a : Vec Ideal S896x1024 .f32) (y : S896x1024.Idx)

theorem pay2 : k0_pay2 (F := Ideal) x g y = blk x g y := by
  obtain ⟨i, j, rfl⟩ : ∃ i j, y = ix2 i j := ⟨_, _, eq_ix2 y⟩
  pointwise [k0_pay2, k0_pay1]
  rfl

theorem pay3 : k0_pay3 (F := Ideal) x g a y = a y + blk x g y := by
  obtain ⟨i, j, rfl⟩ : ∃ i j, y = ix2 i j := ⟨_, _, eq_ix2 y⟩
  pointwise [k0_pay3, k0_pay1]
  rfl

variable (m : (ℓ : Loc nD τ sig) → Buf (Elt Ideal) ℓ) (c : Dev nD) (t : Fin cfg0.N)

/-- The first point of a run starts the accumulator. -/
theorem acc_A (h0 : t.val % 4 = 0) : (outsAt0 m c t.val t.isLt).2 y = 0 + blk (iblk m c 0 t) (iblk m c 1 t) y := by
  rw [outsAt0_A m c t h0 (by omega) (by omega)]; frame_out
  exact (pay2 _ _ y).trans (zero_add _).symm

/-- Every later point adds to it. -/
theorem acc_B (h0 : ¬ t.val % 4 = 0) : (outsAt0 m c t.val t.isLt).2 y
    = (outsAt0 m c (t.val - 1) (Nat.lt_of_le_of_lt (Nat.sub_le _ _) t.isLt)).2 y + blk (iblk m c 0 t) (iblk m c 1 t) y := by
  by_cases h3 : t.val % 4 = 3
  · rw [outsAt0_C m c t h0 (by omega) h3]; frame_out
    refine (pay3 _ _ _ y).trans ?_
    exact congrArg (fun z : Vec Ideal S896x1024 .f32 => z y + _) (Memref.IsWhole.read_unread _ _)
  · rw [outsAt0_B m c t h0 (by omega) h3]; frame_out
    refine (pay3 _ _ _ y).trans ?_
    exact congrArg (fun z : Vec Ideal S896x1024 .f32 => z y + _) (Memref.IsWhole.read_unread _ _)

/-- The last point of a run stores the accumulator. -/
theorem out_C (h3 : t.val % 4 = 3) : (outsAt0 m c t.val t.isLt).1 y = (outsAt0 m c t.val t.isLt).2 y := by
  rw [outsAt0_C m c t (by omega) (by omega) h3]; frame_out
  rfl

/-- The blocks that each grid point takes. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- What a point adds, as a part of the whole product. -/
theorem blk_eq (s : Fin 4) (hs : s.val = t.val % 4) (z : S1792x1024.Idx) (h0 : (z 0).val = t.val / 4 * 896 + (y 0).val)
    (h1 : (z 1).val = (y 1).val) :
    blk (iblk m c 0 t) (iblk m c 1 t) y = ∑ i : Fin 1024,
      term (m ((c : Thread nD τ).loc main_arg0)) (m ((c : Thread nD τ).loc main_arg1)) z ⟨s.val * 1024 + i.val, by omega⟩ := by
  refine Finset.sum_congr rfl fun k _ => ?_
  unfold term
  blk_point [iblk, V, idx t]

/-- The output array after the run. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (out_C y m c t h3).trans ?_
  rw [Pipeline.eq_sum_fin_of_reset_step_apply_of_flush (fun n h => (outsAt0 m c n h).2) 4 (fun _ => 0)
    (fun n => blk (iblk m c 0 n) (iblk m c 1 n)) (fun t h j => acc_A j m c t h) (fun t h j => acc_B j m c t h) t h3 _, zero_add]
  refine (Finset.sum_congr rfl fun s _ => blk_eq y m c _ s ?_ _ ?_ ?_).trans (sum_rows _)
  · show _ = (4 * (t.val / 4) + s.val) % 4; omega
  · blk_simp [idx t]
    show t.val / 4 * 896 + (y 0).val = (4 * (t.val / 4) + s.val) / 4 * 896 + (y 0).val
    omega
  · blk_simp [idx t]

/-- The reference computes the same product. -/
theorem ref (x : Vec Ideal S4096x1792 .f32) (g : Vec Ideal S4096x1024 .bf16) :
    Cert.Reference9Ideal.Read.val_main_v7 (F := Ideal) x g = prod x g := by
  funext y
  obtain ⟨i, j, rfl⟩ : ∃ i j, y = ix2 i j := ⟨_, _, eq_ix2 y⟩
  pointwise [Cert.Reference9Ideal.Read.val_main_v7, Cert.Reference9Ideal.Read.val_main_v6, Cert.Reference9Ideal.Read.val_main_v5,
    Cert.Reference9Ideal.Read.val_main_v4, Cert.Reference9Ideal.Read.val_main_v0]
  rfl

end Cert.Kernel9Ideal.Hand

end
-- ==== Proof.Product10.lean ====
/- The gradient of the projected input through the recurrence's projection, added to the other parts: what the product's output array holds after the run, and
   what the reference computes, over the exact values. -/
module

public import proofs.«01_k».proof.Proof.Gen.Kernel10Ideal.Value
public import proofs.«01_k».proof.Proof.Gen.Reference10Ideal.Read
public import proofs.«01_k».proof.Proof.Rows

@[expose] public section

set_option maxRecDepth 16384

noncomputable section

namespace Cert.Kernel10Ideal.Hand

open Cert.Kernel10Ideal Cert.Kernel10Ideal.Gen Cert.Rows Idealize.ShloMosaic Idealize.ShloMosaic.TcCoe Idealize.SL.Sem

/-- One block of the sum. -/
theorem pay (x : Vec Ideal S1024x1792 .f32) (w : Vec Ideal S1792x1024 .bf16) (a : Vec Ideal S1024x1024 .f32) (i j : Fin 1024) :
    k0_pay1 (F := Ideal) x w a (ix2 i j) = addProd x w a (ix2 i j) := by
  pointwise [k0_pay1]
  exact add_comm _ _

/-- What a point leaves in its output block. -/
theorem out (x : Vec Ideal S1024x1792 .f32) (w : Vec Ideal S1792x1024 .bf16) (a : Vec Ideal S1024x1024 .f32) (y : S1024x1024.Idx) :
    out0_3 (F := Ideal) x w a y = addProd x w a y := by
  obtain ⟨i, j, rfl⟩ : ∃ i j, y = ix2 i j := ⟨_, _, eq_ix2 y⟩
  unfold out0_3
  simp (disch := decide) only [View.canon_cons_unit_lit', View.ld_unit_lit']
  exact pay x w a i j

/-- The blocks that each grid point takes. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

variable (m : (ℓ : Loc nD τ sig) → Buf (Elt Ideal) ℓ)

/-- The output array after the run. -/
theorem arr (c : Dev nD) : (dats m 0 c).arrAt 3 cfg0.N
    = addProd (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (out _ _ _ _).trans (congr_arg₂ (· + ·) ?_ (Finset.sum_congr rfl fun k _ => ?_))
  · blk_point [iblk, V, idx t]
  · unfold term
    blk_point [iblk, V, idx t]

/-- The reference computes the same sum. -/
theorem ref (x : Vec Ideal S4096x1792 .f32) (w : Vec Ideal S1792x1024 .bf16) (a : Vec Ideal S4096x1024 .f32) :
    Cert.Reference10Ideal.Read.val_main_v5 (F := Ideal) x w a = addProd x w a := by
  funext y
  obtain ⟨i, j, rfl⟩ : ∃ i j, y = ix2 i j := ⟨_, _, eq_ix2 y⟩
  pointwise [Cert.Reference10Ideal.Read.val_main_v5, Cert.Reference10Ideal.Read.val_main_v4, Cert.Reference10Ideal.Read.val_main_v2,
    Cert.Reference10Ideal.Read.val_main_v0]
  rfl

end Cert.Kernel10Ideal.Hand

end
-- ==== Proof.Product11.lean ====
/- The gradient of the attention's projection, a product over all 4096 rows taken in four blocks: what the
   output array holds after the run, and what the reference computes, over the exact values. -/
module

public import proofs.«01_k».proof.Proof.Gen.Kernel11Ideal.Value
public import proofs.«01_k».proof.Proof.Gen.Reference11Ideal.Read
public import proofs.«01_k».proof.Proof.Columns

@[expose] public section

set_option maxRecDepth 16384

noncomputable section

namespace Cert.Kernel11Ideal.Hand

open Cert.Kernel11Ideal Cert.Kernel11Ideal.Gen Cert.Columns Idealize.ShloMosaic Idealize.ShloMosaic.TcCoe Idealize.SL.Sem

variable (x : Vec Ideal S1024x768 .bf16) (g : Vec Ideal S1024x1024 .bf16) (a : Vec Ideal S768x1024 .f32) (y : S768x1024.Idx)

theorem pay2 : k0_pay2 (F := Ideal) x g y = blk x g y := by
  obtain ⟨i, j, rfl⟩ : ∃ i j, y = ix2 i j := ⟨_, _, eq_ix2 y⟩
  pointwise [k0_pay2, k0_pay1]
  rfl

theorem pay3 : k0_pay3 (F := Ideal) x g a y = a y + blk x g y := by
  obtain ⟨i, j, rfl⟩ : ∃ i j, y = ix2 i j := ⟨_, _, eq_ix2 y⟩
  pointwise [k0_pay3, k0_pay1]
  rfl

variable (m : (ℓ : Loc nD τ sig) → Buf (Elt Ideal) ℓ) (c : Dev nD) (t : Fin cfg0.N)

/-- The first point of a run starts the accumulator. -/
theorem acc_A (h0 : t.val % 4 = 0) : (outsAt0 m c t.val t.isLt).2 y = 0 + blk (iblk m c 0 t) (iblk m c 1 t) y := by
  rw [outsAt0_A m c t h0 (by omega) (by omega)]; frame_out
  exact (pay2 _ _ y).trans (zero_add _).symm

/-- Every later point adds to it. -/
theorem acc_B (h0 : ¬ t.val % 4 = 0) : (outsAt0 m c t.val t.isLt).2 y
    = (outsAt0 m c (t.val - 1) (Nat.lt_of_le_of_lt (Nat.sub_le _ _) t.isLt)).2 y + blk (iblk m c 0 t) (iblk m c 1 t) y := by
  by_cases h3 : t.val % 4 = 3
  · rw [outsAt0_C m c t h0 (by omega) h3]; frame_out
    refine (pay3 _ _ _ y).trans ?_
    exact congrArg (fun z : Vec Ideal S768x1024 .f32 => z y + _) (Memref.IsWhole.read_unread _ _)
  · rw [outsAt0_B m c t h0 (by omega) h3]; frame_out
    refine (pay3 _ _ _ y).trans ?_
    exact congrArg (fun z : Vec Ideal S768x1024 .f32 => z y + _) (Memref.IsWhole.read_unread _ _)

/-- The last point of a run stores the accumulator. -/
theorem out_C (h3 : t.val % 4 = 3) : (outsAt0 m c t.val t.isLt).1 y = (outsAt0 m c t.val t.isLt).2 y := by
  rw [outsAt0_C m c t (by omega) (by omega) h3]; frame_out
  rfl

/-- The blocks that each grid point takes. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- What a point adds, as a part of the whole product. -/
theorem blk_eq (s : Fin 4) (hs : s.val = t.val % 4) (z : S1536x1024.Idx) (h0 : (z 0).val = t.val / 4 * 768 + (y 0).val)
    (h1 : (z 1).val = (y 1).val) :
    blk (iblk m c 0 t) (iblk m c 1 t) y = ∑ i : Fin 1024,
      term (m ((c : Thread nD τ).loc main_arg0)) (m ((c : Thread nD τ).loc main_arg1)) z ⟨s.val * 1024 + i.val, by omega⟩ := by
  refine Finset.sum_congr rfl fun k _ => ?_
  unfold term
  blk_point [iblk, V, idx t]

/-- The output array after the run. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (out_C y m c t h3).trans ?_
  rw [Pipeline.eq_sum_fin_of_reset_step_apply_of_flush (fun n h => (outsAt0 m c n h).2) 4 (fun _ => 0)
    (fun n => blk (iblk m c 0 n) (iblk m c 1 n)) (fun t h j => acc_A j m c t h) (fun t h j => acc_B j m c t h) t h3 _, zero_add]
  refine (Finset.sum_congr rfl fun s _ => blk_eq y m c _ s ?_ _ ?_ ?_).trans (sum_rows _)
  · show _ = (4 * (t.val / 4) + s.val) % 4; omega
  · blk_simp [idx t]
    show t.val / 4 * 768 + (y 0).val = (4 * (t.val / 4) + s.val) / 4 * 768 + (y 0).val
    omega
  · blk_simp [idx t]

/-- The reference computes the same product. -/
theorem ref (x : Vec Ideal S4096x1536 .bf16) (g : Vec Ideal S4096x1024 .bf16) :
    Cert.Reference11Ideal.Read.val_main_v8 (F := Ideal) x g = prod x g := by
  funext y
  obtain ⟨i, j, rfl⟩ : ∃ i j, y = ix2 i j := ⟨_, _, eq_ix2 y⟩
  pointwise [Cert.Reference11Ideal.Read.val_main_v8, Cert.Reference11Ideal.Read.val_main_v7, Cert.Reference11Ideal.Read.val_main_v6,
    Cert.Reference11Ideal.Read.val_main_v5, Cert.Reference11Ideal.Read.val_main_v1, Cert.Reference11Ideal.Read.val_main_v0]
  rfl

end Cert.Kernel11Ideal.Hand

end
-- ==== Proof.Product12.lean ====
/- The gradient of the projected input through the attention's projection: what the product's output array holds after the run, and
   what the reference computes, over the exact values. -/
module

public import proofs.«01_k».proof.Proof.Gen.Kernel12Ideal.Value
public import proofs.«01_k».proof.Proof.Gen.Reference12Ideal.Read
public import proofs.«01_k».proof.Proof.Rows

@[expose] public section

set_option maxRecDepth 16384

noncomputable section

namespace Cert.Kernel12Ideal.Hand

open Cert.Kernel12Ideal Cert.Kernel12Ideal.Gen Cert.Rows Idealize.ShloMosaic Idealize.ShloMosaic.TcCoe Idealize.SL.Sem

/-- One block of the product. -/
theorem pay (x : Vec Ideal S1024x1536 .bf16) (w : Vec Ideal S1536x1024 .bf16) (i j : Fin 1024) :
    k0_pay1 (F := Ideal) x w (ix2 i j) = prod x w (ix2 i j) := by
  pointwise [k0_pay1]
  rfl

/-- What a point leaves in its output block. -/
theorem out (x : Vec Ideal S1024x1536 .bf16) (w : Vec Ideal S1536x1024 .bf16) (y : S1024x1024.Idx) :
    out0_2 (F := Ideal) x w y = prod x w y := by
  obtain ⟨i, j, rfl⟩ : ∃ i j, y = ix2 i j := ⟨_, _, eq_ix2 y⟩
  unfold out0_2
  simp (disch := decide) only [View.canon_cons_unit_lit', View.ld_unit_lit']
  exact pay x w i j

/-- The blocks that each grid point takes. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The output array after the run. -/
theorem arr (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  refine (out _ _ _).trans (Finset.sum_congr rfl fun k _ => ?_)
  unfold term
  blk_point [iblk, V, idx t]

/-- The reference computes the same product. -/
theorem ref (x : Vec Ideal S4096x1536 .bf16) (w : Vec Ideal S1536x1024 .bf16) :
    Cert.Reference12Ideal.Read.val_main_v5 (F := Ideal) x w = prod x w := by
  funext y
  obtain ⟨i, j, rfl⟩ : ∃ i j, y = ix2 i j := ⟨_, _, eq_ix2 y⟩
  pointwise [Cert.Reference12Ideal.Read.val_main_v5, Cert.Reference12Ideal.Read.val_main_v3, Cert.Reference12Ideal.Read.val_main_v1,
    Cert.Reference12Ideal.Read.val_main_v0]
  rfl

end Cert.Kernel12Ideal.Hand

end
-- ==== Proof.Product13.lean ====
/- The gradient of the output weights, a product over all 4096 rows taken in four blocks: what the
   output array holds after the run, and what the reference computes, over the exact values. -/
module

public import proofs.«01_k».proof.Proof.Gen.Kernel13Ideal.Value
public import proofs.«01_k».proof.Proof.Gen.Reference13Ideal.Read
public import proofs.«01_k».proof.Proof.Columns

@[expose] public section

set_option maxRecDepth 16384

noncomputable section

namespace Cert.Kernel13Ideal.Hand

open Cert.Kernel13Ideal Cert.Kernel13Ideal.Gen Cert.Columns Idealize.ShloMosaic Idealize.ShloMosaic.TcCoe Idealize.SL.Sem

variable (x : Vec Ideal S1024x1024 .bf16) (g : Vec Ideal S1024x1024 .bf16) (a : Vec Ideal S1024x1024 .f32) (y : S1024x1024.Idx)

theorem pay2 : k0_pay2 (F := Ideal) x g y = blk x g y := by
  obtain ⟨i, j, rfl⟩ : ∃ i j, y = ix2 i j := ⟨_, _, eq_ix2 y⟩
  pointwise [k0_pay2, k0_pay1]
  rfl

theorem pay3 : k0_pay3 (F := Ideal) x g a y = a y + blk x g y := by
  obtain ⟨i, j, rfl⟩ : ∃ i j, y = ix2 i j := ⟨_, _, eq_ix2 y⟩
  pointwise [k0_pay3, k0_pay1]
  rfl

variable (m : (ℓ : Loc nD τ sig) → Buf (Elt Ideal) ℓ) (c : Dev nD) (t : Fin cfg0.N)

/-- The first point of a run starts the accumulator. -/
theorem acc_A (h0 : t.val % 4 = 0) : (outsAt0 m c t.val t.isLt).2 y = 0 + blk (iblk m c 0 t) (iblk m c 1 t) y := by
  have ht : t.val < 4 := t.isLt
  rw [outsAt0_A m c t h0 (by omega) (by omega)]; frame_out
  exact (pay2 _ _ y).trans (zero_add _).symm

/-- Every later point adds to it. -/
theorem acc_B (h0 : ¬ t.val % 4 = 0) : (outsAt0 m c t.val t.isLt).2 y
    = (outsAt0 m c (t.val - 1) (Nat.lt_of_le_of_lt (Nat.sub_le _ _) t.isLt)).2 y + blk (iblk m c 0 t) (iblk m c 1 t) y := by
  by_cases h3 : t.val % 4 = 3
  · rw [outsAt0_C m c t h0 (by omega) h3]; frame_out
    refine (pay3 _ _ _ y).trans ?_
    exact congrArg (fun z : Vec Ideal S1024x1024 .f32 => z y + _) (Memref.IsWhole.read_unread _ _)
  · rw [outsAt0_B m c t h0 (by omega) h3]; frame_out
    refine (pay3 _ _ _ y).trans ?_
    exact congrArg (fun z : Vec Ideal S1024x1024 .f32 => z y + _) (Memref.IsWhole.read_unread _ _)

/-- The last point of a run stores the accumulator. -/
theorem out_C (h3 : t.val % 4 = 3) : (outsAt0 m c t.val t.isLt).1 y = (outsAt0 m c t.val t.isLt).2 y := by
  rw [outsAt0_C m c t (by omega) (by omega) h3]; frame_out
  rfl

/-- The blocks that each grid point takes. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- What a point adds, as a part of the whole product. -/
theorem blk_eq (s : Fin 4) (hs : s.val = t.val % 4) (z : S1024x1024.Idx) (h0 : (z 0).val = t.val / 4 * 1024 + (y 0).val)
    (h1 : (z 1).val = (y 1).val) :
    blk (iblk m c 0 t) (iblk m c 1 t) y = ∑ i : Fin 1024,
      term (m ((c : Thread nD τ).loc main_arg0)) (m ((c : Thread nD τ).loc main_arg1)) z ⟨s.val * 1024 + i.val, by omega⟩ := by
  refine Finset.sum_congr rfl fun k _ => ?_
  unfold term
  blk_point [iblk, V, idx t]

/-- The output array after the run. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (out_C y m c t h3).trans ?_
  rw [Pipeline.eq_sum_fin_of_reset_step_apply_of_flush (fun n h => (outsAt0 m c n h).2) 4 (fun _ => 0)
    (fun n => blk (iblk m c 0 n) (iblk m c 1 n)) (fun t h j => acc_A j m c t h) (fun t h j => acc_B j m c t h) t h3 _, zero_add]
  refine (Finset.sum_congr rfl fun s _ => blk_eq y m c _ s ?_ _ ?_ ?_).trans (sum_rows _)
  · show _ = (4 * (t.val / 4) + s.val) % 4; omega
  · blk_simp [idx t]
    show t.val / 4 * 1024 + (y 0).val = (4 * (t.val / 4) + s.val) / 4 * 1024 + (y 0).val
    omega
  · blk_simp [idx t]

/-- The reference computes the same product. -/
theorem ref (x : Vec Ideal S4096x1024 .bf16) (g : Vec Ideal S4096x1024 .bf16) :
    Cert.Reference13Ideal.Read.val_main_v6 (F := Ideal) x g = prod x g := by
  funext y
  obtain ⟨i, j, rfl⟩ : ∃ i j, y = ix2 i j := ⟨_, _, eq_ix2 y⟩
  pointwise [Cert.Reference13Ideal.Read.val_main_v6, Cert.Reference13Ideal.Read.val_main_v5, Cert.Reference13Ideal.Read.val_main_v4,
    Cert.Reference13Ideal.Read.val_main_v1, Cert.Reference13Ideal.Read.val_main_v0]
  exact Finset.sum_congr rfl fun k _ => mul_comm _ _

end Cert.Kernel13Ideal.Hand

end
-- ==== Proof.Product14.lean ====
/- The gradient of the merged branches through the output weights: what the product's output array holds after the run, and what
   the reference computes, over the exact values. -/
module

public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel14Ideal.Hand

open Cert.Kernel14Ideal Cert.Kernel14Ideal.Gen Idealize.ShloMosaic Idealize.ShloMosaic.TcCoe Idealize.SL.Sem

/-- Rows times rows: the product with the second matrix transposed. -/
def prod (x : S4096x1024.Idx → EReal) (w : S1024x1024.Idx → EReal) (y : S4096x1024.Idx) : EReal :=
  ∑ k : Fin 1024, x (ix2 (y 0) k) * w (ix2 (y 1) k)

/-- One block of the product. -/
theorem pay (x : Vec Ideal S1024x1024 .bf16) (w : Vec Ideal S1024x1024 .bf16) (i j : Fin 1024) :
    k0_pay1 (F := Ideal) x w (ix2 i j) = ∑ k : Fin 1024, x (ix2 i k) * w (ix2 j k) := by
  pointwise [k0_pay1]

/-- What a point leaves in its output block. -/
theorem out (x : Vec Ideal S1024x1024 .bf16) (w : Vec Ideal S1024x1024 .bf16) (y : S1024x1024.Idx) :
    out0_2 (F := Ideal) x w y = ∑ k : Fin 1024, x (ix2 (y 0) k) * w (ix2 (y 1) k) := by
  obtain ⟨i, j, rfl⟩ : ∃ i j, y = ix2 i j := ⟨_, _, eq_ix2 y⟩
  unfold out0_2
  simp (disch := decide) only [View.canon_cons_unit_lit', View.ld_unit_lit']
  exact pay x w i j

/-- The blocks that each grid point takes. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The output array after the run. -/
theorem arr (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  refine (out _ _ _).trans (Finset.sum_congr rfl fun k _ => ?_)
  blk_point [iblk, V, idx t]

/-- The reference computes the same product. -/
theorem ref (x : Vec Ideal S4096x1024 .bf16) (w : Vec Ideal S1024x1024 .bf16) :
    Cert.Reference14Ideal.Read.val_main_v5 (F := Ideal) x w = prod x w := by
  funext y
  obtain ⟨i, j, rfl⟩ : ∃ i j, y = ix2 i j := ⟨_, _, eq_ix2 y⟩
  pointwise [Cert.Reference14Ideal.Read.val_main_v5, Cert.Reference14Ideal.Read.val_main_v4, Cert.Reference14Ideal.Read.val_main_v1,
    Cert.Reference14Ideal.Read.val_main_v0]
  rfl

end Cert.Kernel14Ideal.Hand

end
-- ==== Proof.Product15.lean ====
/- The gradient of a branch's output weights, a product over all 4096 rows taken in four blocks: what the
   output array holds after the run, and what the reference computes, over the exact values. -/
module

public import proofs.«01_k».proof.Proof.Gen.Kernel15Ideal.Value
public import proofs.«01_k».proof.Proof.Gen.Reference15Ideal.Read
public import proofs.«01_k».proof.Proof.Columns

@[expose] public section

set_option maxRecDepth 16384

noncomputable section

namespace Cert.Kernel15Ideal.Hand

open Cert.Kernel15Ideal Cert.Kernel15Ideal.Gen Cert.Columns Idealize.ShloMosaic Idealize.ShloMosaic.TcCoe Idealize.SL.Sem

variable (x : Vec Ideal S1024x1024 .bf16) (g : Vec Ideal S1024x512 .bf16) (a : Vec Ideal S1024x512 .f32) (y : S1024x512.Idx)

theorem pay2 : k0_pay2 (F := Ideal) x g y = blk x g y := by
  obtain ⟨i, j, rfl⟩ : ∃ i j, y = ix2 i j := ⟨_, _, eq_ix2 y⟩
  pointwise [k0_pay2, k0_pay1]
  rfl

theorem pay3 : k0_pay3 (F := Ideal) x g a y = a y + blk x g y := by
  obtain ⟨i, j, rfl⟩ : ∃ i j, y = ix2 i j := ⟨_, _, eq_ix2 y⟩
  pointwise [k0_pay3, k0_pay1]
  rfl

variable (m : (ℓ : Loc nD τ sig) → Buf (Elt Ideal) ℓ) (c : Dev nD) (t : Fin cfg0.N)

/-- The first point of a run starts the accumulator. -/
theorem acc_A (h0 : t.val % 4 = 0) : (outsAt0 m c t.val t.isLt).2 y = 0 + blk (iblk m c 0 t) (iblk m c 1 t) y := by
  have ht : t.val < 4 := t.isLt
  rw [outsAt0_A m c t h0 (by omega) (by omega)]; frame_out
  exact (pay2 _ _ y).trans (zero_add _).symm

/-- Every later point adds to it. -/
theorem acc_B (h0 : ¬ t.val % 4 = 0) : (outsAt0 m c t.val t.isLt).2 y
    = (outsAt0 m c (t.val - 1) (Nat.lt_of_le_of_lt (Nat.sub_le _ _) t.isLt)).2 y + blk (iblk m c 0 t) (iblk m c 1 t) y := by
  by_cases h3 : t.val % 4 = 3
  · rw [outsAt0_C m c t h0 (by omega) h3]; frame_out
    refine (pay3 _ _ _ y).trans ?_
    exact congrArg (fun z : Vec Ideal S1024x512 .f32 => z y + _) (Memref.IsWhole.read_unread _ _)
  · rw [outsAt0_B m c t h0 (by omega) h3]; frame_out
    refine (pay3 _ _ _ y).trans ?_
    exact congrArg (fun z : Vec Ideal S1024x512 .f32 => z y + _) (Memref.IsWhole.read_unread _ _)

/-- The last point of a run stores the accumulator. -/
theorem out_C (h3 : t.val % 4 = 3) : (outsAt0 m c t.val t.isLt).1 y = (outsAt0 m c t.val t.isLt).2 y := by
  rw [outsAt0_C m c t (by omega) (by omega) h3]; frame_out
  rfl

/-- The blocks that each grid point takes. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- What a point adds, as a part of the whole product. -/
theorem blk_eq (s : Fin 4) (hs : s.val = t.val % 4) (z : S1024x512.Idx) (h0 : (z 0).val = t.val / 4 * 1024 + (y 0).val)
    (h1 : (z 1).val = (y 1).val) :
    blk (iblk m c 0 t) (iblk m c 1 t) y = ∑ i : Fin 1024,
      term (m ((c : Thread nD τ).loc main_arg0)) (m ((c : Thread nD τ).loc main_arg1)) z ⟨s.val * 1024 + i.val, by omega⟩ := by
  refine Finset.sum_congr rfl fun k _ => ?_
  unfold term
  blk_point [iblk, V, idx t]

/-- The output array after the run. -/
theorem arr : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (out_C y m c t h3).trans ?_
  rw [Pipeline.eq_sum_fin_of_reset_step_apply_of_flush (fun n h => (outsAt0 m c n h).2) 4 (fun _ => 0)
    (fun n => blk (iblk m c 0 n) (iblk m c 1 n)) (fun t h j => acc_A j m c t h) (fun t h j => acc_B j m c t h) t h3 _, zero_add]
  refine (Finset.sum_congr rfl fun s _ => blk_eq y m c _ s ?_ _ ?_ ?_).trans (sum_rows _)
  · show _ = (4 * (t.val / 4) + s.val) % 4; omega
  · blk_simp [idx t]
    show t.val / 4 * 1024 + (y 0).val = (4 * (t.val / 4) + s.val) / 4 * 1024 + (y 0).val
    omega
  · blk_simp [idx t]

/-- The reference computes the same product. -/
theorem ref (x : Vec Ideal S4096x1024 .bf16) (g : Vec Ideal S4096x512 .bf16) :
    Cert.Reference15Ideal.Read.val_main_v8 (F := Ideal) x g = prod x g := by
  funext y
  obtain ⟨i, j, rfl⟩ : ∃ i j, y = ix2 i j := ⟨_, _, eq_ix2 y⟩
  pointwise [Cert.Reference15Ideal.Read.val_main_v8, Cert.Reference15Ideal.Read.val_main_v7, Cert.Reference15Ideal.Read.val_main_v6,
    Cert.Reference15Ideal.Read.val_main_v5, Cert.Reference15Ideal.Read.val_main_v1, Cert.Reference15Ideal.Read.val_main_v0]
  rfl

end Cert.Kernel15Ideal.Hand

end
-- ==== Proof.Product16.lean ====
/- The gradient of a branch's output through its output weights: what the product's output array holds after the run, and what
   the reference computes, over the exact values. -/
module

public import proofs.«01_k».proof.Proof.Gen.Kernel16Ideal.Value
public import proofs.«01_k».proof.Proof.Gen.Reference16Ideal.Read
public import proofs.«01_k».proof.Proof.Rows

@[expose] public section

set_option maxRecDepth 16384

noncomputable section

namespace Cert.Kernel16Ideal.Hand

open Cert.Kernel16Ideal Cert.Kernel16Ideal.Gen Cert.Rows Idealize.ShloMosaic Idealize.ShloMosaic.TcCoe Idealize.SL.Sem

/-- One block of the product. -/
theorem pay (x : Vec Ideal S1024x1024 .bf16) (w : Vec Ideal S1024x512 .bf16) (i : Fin 1024) (j : Fin 512) :
    k0_pay1 (F := Ideal) x w (ix2 i j) = prod x w (ix2 i j) := by
  pointwise [k0_pay1]
  rfl

/-- What a point leaves in its output block. -/
theorem out (x : Vec Ideal S1024x1024 .bf16) (w : Vec Ideal S1024x512 .bf16) (y : S1024x512.Idx) :
    out0_2 (F := Ideal) x w y = prod x w y := by
  obtain ⟨i, j, rfl⟩ : ∃ i j, y = ix2 i j := ⟨_, _, eq_ix2 y⟩
  unfold out0_2
  simp (disch := decide) only [View.canon_cons_unit_lit', View.ld_unit_lit']
  exact pay x w i j

/-- The blocks that each grid point takes. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The output array after the run. -/
theorem arr (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  refine (out _ _ _).trans (Finset.sum_congr rfl fun k _ => ?_)
  unfold term
  blk_point [iblk, V, idx t]

/-- The reference computes the same product. -/
theorem ref (x : Vec Ideal S4096x1024 .bf16) (w : Vec Ideal S1024x512 .bf16) :
    Cert.Reference16Ideal.Read.val_main_v6 (F := Ideal) x w = prod x w := by
  funext y
  obtain ⟨i, j, rfl⟩ : ∃ i j, y = ix2 i j := ⟨_, _, eq_ix2 y⟩
  pointwise [Cert.Reference16Ideal.Read.val_main_v6, Cert.Reference16Ideal.Read.val_main_v5, Cert.Reference16Ideal.Read.val_main_v3,
    Cert.Reference16Ideal.Read.val_main_v1, Cert.Reference16Ideal.Read.val_main_v0]
  rfl

end Cert.Kernel16Ideal.Hand

end
-- ==== Proof.lean ====
/- The proof of the claims of this directory: the frames, and the equation between the kernel and the reference over the
   exact values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.MemPre
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Reference2Ideal
public import proofs.«01_k».proof.Proof.Gen.Reference2Ideal.Run
public import proofs.«01_k».proof.Proof.FoxPre
public import proofs.«01_k».proof.Proof.FoxBits
public import proofs.«01_k».proof.Proof.FoxFinal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.Product13
public import proofs.«01_k».proof.Proof.Product14
public import proofs.«01_k».proof.Proof.Product15
public import proofs.«01_k».proof.Proof.Product16
public import Idealize.ShloMosaic.Adequacy
public import Idealize.ShloMosaic.Init

@[expose] public section

noncomputable section

namespace Cert.Proof

open Idealize.ShloMosaic Idealize.SL.Sem

theorem frame_ref : Cert.quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems (by decide) r.2⟩) (Cert.ReferenceIdeal.Value.run (F := Ideal) m g)

theorem algebraic_mem :
    Cert.algebraic_KernelIdeal_ReferenceIdeal_pre_finite_scores (hKernelIdeal := Cert.KernelIdeal.Gen.facts)
      (hReferenceIdeal := Cert.ReferenceIdeal.Gen.facts) (hPre_finite_scores := Cert.Pre_finite_scores.Hand.facts) := by
  intro m g m' g' hpre hm
  have hx := fun c => Cert.Pre_finite_scores.Hand.finite _ _ _ (hpre c)
  refine ⟨_, _, _, (θ_run Cert.KernelIdeal.defs _ _).mono (fun r h => h) (Cert.KernelIdeal.Value.run_blocks (F := Ideal) m g),
    (θ_run Cert.ReferenceIdeal.defs _ _).mono (fun r h c => ?_) (Cert.ReferenceIdeal.Value.run (F := Ideal) m' g')⟩
  obtain ⟨h1, h2, h3, h4⟩ := h c
  obtain ⟨e0, e1, e2⟩ := hm c
  refine ⟨h1.trans ?_, h2.trans ?_, h3.trans ?_, h4⟩
  · rw [Cert.ReferenceIdeal.Read.val_main_v73_eq, e0, e1, e2, Cert.KernelIdeal.Hand.arr4]
    exact Cert.ReferenceIdeal.Hand.val_dq _ _ _ (hx c)
  · rw [Cert.ReferenceIdeal.Read.val_main_v75_eq, e0, e1, e2, Cert.KernelIdeal.Hand.arr5]
    exact Cert.ReferenceIdeal.Hand.val_dk _ _ _ (hx c)
  · rw [Cert.ReferenceIdeal.Read.val_main_v77_eq, e0, e1, e2, Cert.KernelIdeal.Hand.arr6]
    exact Cert.ReferenceIdeal.Hand.val_dv _ _ _

theorem frame_ref2 : Cert.quiescent_Reference2Ideal (hReference2Ideal := Cert.Reference2Ideal.Gen.facts) := fun m g _ =>
  (θ_run Cert.Reference2Ideal.defs _ _).mono
    (fun r h => ⟨fun c => (h c).2.2.2.2.2, sem_eq_zero_of_no_sems (by decide) r.2⟩) (Cert.Reference2Ideal.Value.run (F := Ideal) m g)

set_option maxHeartbeats 4000000 in
theorem algebraic_fox :
    Cert.algebraic_Kernel2Ideal_Reference2Ideal_pre_finite_arguments (hKernel2Ideal := Cert.Kernel2Ideal.Gen.facts)
      (hReference2Ideal := Cert.Reference2Ideal.Gen.facts) (hPre_finite_arguments := Cert.Pre_finite_arguments.Gen.facts) := by
  intro m g m' g' hpre hm
  have hf := fun c => Cert.Pre_finite_arguments.Hand.finite _ _ _ (hpre c)
  refine ⟨_, _, _, _, _, (θ_run Cert.Kernel2Ideal.defs _ _).mono
      (fun r h c => ⟨((h.1.1 c).1 7).trans (Cert.Kernel2Ideal.Hand.arr7 c m), ((h.1.1 c).1 8).trans (Cert.Kernel2Ideal.Hand.arr8 c m),
        ((h.1.1 c).1 9).trans (Cert.Kernel2Ideal.Hand.arr9 c m), ((h.1.1 c).1 10).trans (Cert.Kernel2Ideal.Hand.arr10 c m),
        ((h.1.1 c).1 11).trans (Cert.Kernel2Ideal.Hand.arr11 c m), h.2.1 c⟩)
      (θ_run_and (Cert.Kernel2Ideal.Hand.run_main (F := Ideal) m g) (Cert.Kernel2Ideal.Hand.frame (F := Ideal) m g)),
    (θ_run Cert.Reference2Ideal.defs _ _).mono (fun r h c => ?_) (Cert.Reference2Ideal.Value.run (F := Ideal) m' g')⟩
  obtain ⟨h1, h2, h3, h4, h5, h6⟩ := h c
  obtain ⟨e0, e1, e2⟩ := hm c
  refine ⟨h1.trans ?_, h2.trans ?_, h3.trans ?_, h4.trans ?_, h5.trans ?_, h6⟩
  · rw [Cert.Reference2Ideal.Read.val_main_v89_eq, e0, e1, e2, Cert.Kernel2Ideal.Hand.X0_eq]
    exact (Cert.Kernel2Ideal.Hand.final_dq _ _ _ (hf c)).symm
  · rw [Cert.Reference2Ideal.Read.val_main_v91_eq, e0, e1, e2, Cert.Kernel2Ideal.Hand.X0_eq]
    exact (Cert.Kernel2Ideal.Hand.final_dk _ _ _ (hf c)).symm
  · rw [Cert.Reference2Ideal.Read.val_main_v93_eq, e0, e1, e2, Cert.Kernel2Ideal.Hand.X0_eq]
    exact (Cert.Kernel2Ideal.Hand.final_dv _ _ _ (hf c)).symm
  · rw [Cert.Reference2Ideal.Read.val_main_v94_eq, e0, e1, e2, Cert.Kernel2Ideal.Hand.X0_eq]
    exact (Cert.Kernel2Ideal.Hand.final_dck _ _ _ (hf c)).symm
  · rw [Cert.Reference2Ideal.Read.val_main_v95_eq, e0, e1, e2, Cert.Kernel2Ideal.Hand.X0_eq]
    exact (Cert.Kernel2Ideal.Hand.final_dcq _ _ _ (hf c)).symm

theorem frame_ref3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

theorem algebraic3 : Cert.algebraic_Kernel3Ideal_Reference3Ideal (hKernel3Ideal := Cert.Kernel3Ideal.Gen.facts)
    (hReference3Ideal := Cert.Reference3Ideal.Gen.facts) := by
  intro m g m' g' _ hm
  refine ⟨_, (θ_run Cert.Kernel3Ideal.defs _ _).mono (fun r h => h) (Cert.Kernel3Ideal.Value.run_blocks (F := Ideal) m g),
    (θ_run Cert.Reference3Ideal.defs _ _).mono (fun r h c => ⟨(h c).1.trans ?_, (h c).2⟩) (Cert.Reference3Ideal.Value.run (F := Ideal) m' g')⟩
  obtain ⟨e0, e1⟩ := hm c
  rw [Cert.Reference3Ideal.Read.val_main_v6_eq, e0, e1, Cert.Kernel3Ideal.Hand.arr]
  exact Cert.Kernel3Ideal.Hand.ref _ _

theorem frame_ref4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

theorem algebraic4 : Cert.algebraic_Kernel4Ideal_Reference4Ideal (hKernel4Ideal := Cert.Kernel4Ideal.Gen.facts)
    (hReference4Ideal := Cert.Reference4Ideal.Gen.facts) := by
  intro m g m' g' _ hm
  refine ⟨_, (θ_run Cert.Kernel4Ideal.defs _ _).mono (fun r h => h) (Cert.Kernel4Ideal.Value.run_blocks (F := Ideal) m g),
    (θ_run Cert.Reference4Ideal.defs _ _).mono (fun r h c => ⟨(h c).1.trans ?_, (h c).2⟩) (Cert.Reference4Ideal.Value.run (F := Ideal) m' g')⟩
  obtain ⟨e0, e1⟩ := hm c
  rw [Cert.Reference4Ideal.Read.val_main_v5_eq, e0, e1, Cert.Kernel4Ideal.Hand.arr]
  exact Cert.Kernel4Ideal.Hand.ref _ _

theorem frame_ref5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

theorem algebraic5 : Cert.algebraic_Kernel5Ideal_Reference5Ideal (hKernel5Ideal := Cert.Kernel5Ideal.Gen.facts)
    (hReference5Ideal := Cert.Reference5Ideal.Gen.facts) := by
  intro m g m' g' _ hm
  refine ⟨_, (θ_run Cert.Kernel5Ideal.defs _ _).mono (fun r h => h) (Cert.Kernel5Ideal.Value.run_blocks (F := Ideal) m g),
    (θ_run Cert.Reference5Ideal.defs _ _).mono (fun r h c => ⟨(h c).1.trans ?_, (h c).2⟩) (Cert.Reference5Ideal.Value.run (F := Ideal) m' g')⟩
  obtain ⟨e0, e1, e2⟩ := hm c
  rw [Cert.Reference5Ideal.Read.val_main_v6_eq, e0, e1, e2, Cert.Kernel5Ideal.Hand.arr]
  exact Cert.Kernel5Ideal.Hand.ref _ _ _

theorem frame_ref6 : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

theorem algebraic6 : Cert.algebraic_Kernel6Ideal_Reference6Ideal (hKernel6Ideal := Cert.Kernel6Ideal.Gen.facts)
    (hReference6Ideal := Cert.Reference6Ideal.Gen.facts) := by
  intro m g m' g' _ hm
  refine ⟨_, (θ_run Cert.Kernel6Ideal.defs _ _).mono (fun r h => h) (Cert.Kernel6Ideal.Value.run_blocks (F := Ideal) m g),
    (θ_run Cert.Reference6Ideal.defs _ _).mono (fun r h c => ⟨(h c).1.trans ?_, (h c).2⟩) (Cert.Reference6Ideal.Value.run (F := Ideal) m' g')⟩
  obtain ⟨e0, e1⟩ := hm c
  rw [Cert.Reference6Ideal.Read.val_main_v5_eq, e0, e1, Cert.Kernel6Ideal.Hand.arr]
  exact Cert.Kernel6Ideal.Hand.ref _ _

theorem frame_ref7 : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

theorem algebraic7 : Cert.algebraic_Kernel7Ideal_Reference7Ideal (hKernel7Ideal := Cert.Kernel7Ideal.Gen.facts)
    (hReference7Ideal := Cert.Reference7Ideal.Gen.facts) := by
  intro m g m' g' _ hm
  refine ⟨_, (θ_run Cert.Kernel7Ideal.defs _ _).mono (fun r h => h) (Cert.Kernel7Ideal.Value.run_blocks (F := Ideal) m g),
    (θ_run Cert.Reference7Ideal.defs _ _).mono (fun r h c => ⟨(h c).1.trans ?_, (h c).2⟩) (Cert.Reference7Ideal.Value.run (F := Ideal) m' g')⟩
  obtain ⟨e0, e1⟩ := hm c
  rw [Cert.Reference7Ideal.Read.val_main_v8_eq, e0, e1, Cert.Kernel7Ideal.Hand.arr]
  exact Cert.Kernel7Ideal.Hand.ref _ _

theorem frame_ref8 : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

theorem algebraic8 : Cert.algebraic_Kernel8Ideal_Reference8Ideal (hKernel8Ideal := Cert.Kernel8Ideal.Gen.facts)
    (hReference8Ideal := Cert.Reference8Ideal.Gen.facts) := by
  intro m g m' g' _ hm
  refine ⟨_, (θ_run Cert.Kernel8Ideal.defs _ _).mono (fun r h => h) (Cert.Kernel8Ideal.Value.run_blocks (F := Ideal) m g),
    (θ_run Cert.Reference8Ideal.defs _ _).mono (fun r h c => ⟨(h c).1.trans ?_, (h c).2⟩) (Cert.Reference8Ideal.Value.run (F := Ideal) m' g')⟩
  obtain ⟨e0, e1, e2⟩ := hm c
  rw [Cert.Reference8Ideal.Read.val_main_v6_eq, e0, e1, e2, Cert.Kernel8Ideal.Hand.arr]
  exact Cert.Kernel8Ideal.Hand.ref _ _ _

theorem frame_ref9 : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run (F := Ideal) m g)

theorem algebraic9 : Cert.algebraic_Kernel9Ideal_Reference9Ideal (hKernel9Ideal := Cert.Kernel9Ideal.Gen.facts)
    (hReference9Ideal := Cert.Reference9Ideal.Gen.facts) := by
  intro m g m' g' _ hm
  refine ⟨_, (θ_run Cert.Kernel9Ideal.defs _ _).mono (fun r h => h) (Cert.Kernel9Ideal.Value.run_blocks (F := Ideal) m g),
    (θ_run Cert.Reference9Ideal.defs _ _).mono (fun r h c => ⟨(h c).1.trans ?_, (h c).2⟩) (Cert.Reference9Ideal.Value.run (F := Ideal) m' g')⟩
  obtain ⟨e0, e1⟩ := hm c
  rw [Cert.Reference9Ideal.Read.val_main_v7_eq, e0, e1, Cert.Kernel9Ideal.Hand.arr]
  exact Cert.Kernel9Ideal.Hand.ref _ _

theorem frame_ref10 : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run (F := Ideal) m g)

theorem algebraic10 : Cert.algebraic_Kernel10Ideal_Reference10Ideal (hKernel10Ideal := Cert.Kernel10Ideal.Gen.facts)
    (hReference10Ideal := Cert.Reference10Ideal.Gen.facts) := by
  intro m g m' g' _ hm
  refine ⟨_, (θ_run Cert.Kernel10Ideal.defs _ _).mono (fun r h => h) (Cert.Kernel10Ideal.Value.run_blocks (F := Ideal) m g),
    (θ_run Cert.Reference10Ideal.defs _ _).mono (fun r h c => ⟨(h c).1.trans ?_, (h c).2⟩) (Cert.Reference10Ideal.Value.run (F := Ideal) m' g')⟩
  obtain ⟨e0, e1, e2⟩ := hm c
  rw [Cert.Reference10Ideal.Read.val_main_v5_eq, e0, e1, e2, Cert.Kernel10Ideal.Hand.arr]
  exact Cert.Kernel10Ideal.Hand.ref _ _ _

theorem frame_ref11 : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run (F := Ideal) m g)

theorem algebraic11 : Cert.algebraic_Kernel11Ideal_Reference11Ideal (hKernel11Ideal := Cert.Kernel11Ideal.Gen.facts)
    (hReference11Ideal := Cert.Reference11Ideal.Gen.facts) := by
  intro m g m' g' _ hm
  refine ⟨_, (θ_run Cert.Kernel11Ideal.defs _ _).mono (fun r h => h) (Cert.Kernel11Ideal.Value.run_blocks (F := Ideal) m g),
    (θ_run Cert.Reference11Ideal.defs _ _).mono (fun r h c => ⟨(h c).1.trans ?_, (h c).2⟩) (Cert.Reference11Ideal.Value.run (F := Ideal) m' g')⟩
  obtain ⟨e0, e1⟩ := hm c
  rw [Cert.Reference11Ideal.Read.val_main_v8_eq, e0, e1, Cert.Kernel11Ideal.Hand.arr]
  exact Cert.Kernel11Ideal.Hand.ref _ _

theorem frame_ref12 : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run (F := Ideal) m g)

theorem algebraic12 : Cert.algebraic_Kernel12Ideal_Reference12Ideal (hKernel12Ideal := Cert.Kernel12Ideal.Gen.facts)
    (hReference12Ideal := Cert.Reference12Ideal.Gen.facts) := by
  intro m g m' g' _ hm
  refine ⟨_, (θ_run Cert.Kernel12Ideal.defs _ _).mono (fun r h => h) (Cert.Kernel12Ideal.Value.run_blocks (F := Ideal) m g),
    (θ_run Cert.Reference12Ideal.defs _ _).mono (fun r h c => ⟨(h c).1.trans ?_, (h c).2⟩) (Cert.Reference12Ideal.Value.run (F := Ideal) m' g')⟩
  obtain ⟨e0, e1⟩ := hm c
  rw [Cert.Reference12Ideal.Read.val_main_v5_eq, e0, e1, Cert.Kernel12Ideal.Hand.arr]
  exact Cert.Kernel12Ideal.Hand.ref _ _

theorem frame_ref13 : Cert.quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩)
    (Cert.Reference13Ideal.Value.run (F := Ideal) m g)

theorem algebraic13 : Cert.algebraic_Kernel13Ideal_Reference13Ideal (hKernel13Ideal := Cert.Kernel13Ideal.Gen.facts)
    (hReference13Ideal := Cert.Reference13Ideal.Gen.facts) := by
  intro m g m' g' _ hm
  refine ⟨_, (θ_run Cert.Kernel13Ideal.defs _ _).mono (fun r h => h) (Cert.Kernel13Ideal.Value.run_blocks (F := Ideal) m g),
    (θ_run Cert.Reference13Ideal.defs _ _).mono (fun r h c => ⟨(h c).1.trans ?_, (h c).2⟩) (Cert.Reference13Ideal.Value.run (F := Ideal) m' g')⟩
  obtain ⟨e0, e1⟩ := hm c
  rw [Cert.Reference13Ideal.Read.val_main_v6_eq, e0, e1, Cert.Kernel13Ideal.Hand.arr]
  exact Cert.Kernel13Ideal.Hand.ref _ _

theorem frame_ref14 : Cert.quiescent_Reference14Ideal (hReference14Ideal := Cert.Reference14Ideal.Gen.facts) := fun m g _ =>
  (θ_run Cert.Reference14Ideal.defs _ _).mono (fun r h => ⟨fun c => (h c).2, sem_eq_zero_of_no_sems (by decide) r.2⟩)
    (Cert.Reference14Ideal.Value.run (F := Ideal) m g)

theorem algebraic14 : Cert.algebraic_Kernel14Ideal_Reference14Ideal (hKernel14Ideal := Cert.Kernel14Ideal.Gen.facts)
    (hReference14Ideal := Cert.Reference14Ideal.Gen.facts) := by
  intro m g m' g' _ hm
  refine ⟨_, (θ_run Cert.Kernel14Ideal.defs _ _).mono (fun r h => h) (Cert.Kernel14Ideal.Value.run_blocks (F := Ideal) m g),
    (θ_run Cert.Reference14Ideal.defs _ _).mono (fun r h c => ⟨(h c).1.trans ?_, (h c).2⟩) (Cert.Reference14Ideal.Value.run (F := Ideal) m' g')⟩
  obtain ⟨e0, e1⟩ := hm c
  rw [Cert.Reference14Ideal.Read.val_main_v5_eq, e0, e1, Cert.Kernel14Ideal.Hand.arr]
  exact Cert.Kernel14Ideal.Hand.ref _ _

theorem frame_ref15 : Cert.quiescent_Reference15Ideal (hReference15Ideal := Cert.Reference15Ideal.Gen.facts) := fun m g _ =>
  (θ_run Cert.Reference15Ideal.defs _ _).mono (fun r h => ⟨fun c => (h c).2, sem_eq_zero_of_no_sems (by decide) r.2⟩)
    (Cert.Reference15Ideal.Value.run (F := Ideal) m g)

theorem algebraic15 : Cert.algebraic_Kernel15Ideal_Reference15Ideal (hKernel15Ideal := Cert.Kernel15Ideal.Gen.facts)
    (hReference15Ideal := Cert.Reference15Ideal.Gen.facts) := by
  intro m g m' g' _ hm
  refine ⟨_, (θ_run Cert.Kernel15Ideal.defs _ _).mono (fun r h => h) (Cert.Kernel15Ideal.Value.run_blocks (F := Ideal) m g),
    (θ_run Cert.Reference15Ideal.defs _ _).mono (fun r h c => ⟨(h c).1.trans ?_, (h c).2⟩) (Cert.Reference15Ideal.Value.run (F := Ideal) m' g')⟩
  obtain ⟨e0, e1⟩ := hm c
  rw [Cert.Reference15Ideal.Read.val_main_v8_eq, e0, e1, Cert.Kernel15Ideal.Hand.arr]
  exact Cert.Kernel15Ideal.Hand.ref _ _

theorem frame_ref16 : Cert.quiescent_Reference16Ideal (hReference16Ideal := Cert.Reference16Ideal.Gen.facts) := fun m g _ =>
  (θ_run Cert.Reference16Ideal.defs _ _).mono (fun r h => ⟨fun c => (h c).2, sem_eq_zero_of_no_sems (by decide) r.2⟩)
    (Cert.Reference16Ideal.Value.run (F := Ideal) m g)

theorem algebraic16 : Cert.algebraic_Kernel16Ideal_Reference16Ideal (hKernel16Ideal := Cert.Kernel16Ideal.Gen.facts)
    (hReference16Ideal := Cert.Reference16Ideal.Gen.facts) := by
  intro m g m' g' _ hm
  refine ⟨_, (θ_run Cert.Kernel16Ideal.defs _ _).mono (fun r h => h) (Cert.Kernel16Ideal.Value.run_blocks (F := Ideal) m g),
    (θ_run Cert.Reference16Ideal.defs _ _).mono (fun r h c => ⟨(h c).1.trans ?_, (h c).2⟩) (Cert.Reference16Ideal.Value.run (F := Ideal) m' g')⟩
  obtain ⟨e0, e1⟩ := hm c
  rw [Cert.Reference16Ideal.Read.val_main_v6_eq, e0, e1, Cert.Kernel16Ideal.Hand.arr]
  exact Cert.Kernel16Ideal.Hand.ref _ _

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Pre_finite_scores.Hand.facts, Cert.Pre_finite_arguments.Gen.facts,
    fun m g _ => Cert.Kernel.Gen.frame m g, fun m g _ => Cert.KernelIdeal.Gen.frame m g, fun m g _ => Cert.KernelIdeal.Gen.frame m g,
    frame_ref, fun m g _ => frame_ref m g trivial,
    Cert.Kernel2.Hand.frame, fun m g _ => Cert.Kernel2Ideal.Hand.frame m g, fun m g _ => Cert.Kernel2Ideal.Hand.frame m g,
    frame_ref2, fun m g _ => frame_ref2 m g trivial,
    fun m g _ => Cert.Kernel3.Gen.frame m g, fun m g _ => Cert.Kernel3Ideal.Gen.frame m g, frame_ref3,
    fun m g _ => Cert.Kernel4.Gen.frame m g, fun m g _ => Cert.Kernel4Ideal.Gen.frame m g, frame_ref4,
    fun m g _ => Cert.Kernel5.Gen.frame m g, fun m g _ => Cert.Kernel5Ideal.Gen.frame m g, frame_ref5,
    fun m g _ => Cert.Kernel6.Gen.frame m g, fun m g _ => Cert.Kernel6Ideal.Gen.frame m g, frame_ref6,
    fun m g _ => Cert.Kernel7.Gen.frame m g, fun m g _ => Cert.Kernel7Ideal.Gen.frame m g, frame_ref7,
    fun m g _ => Cert.Kernel8.Gen.frame m g, fun m g _ => Cert.Kernel8Ideal.Gen.frame m g, frame_ref8,
    fun m g _ => Cert.Kernel9.Gen.frame m g, fun m g _ => Cert.Kernel9Ideal.Gen.frame m g, frame_ref9,
    fun m g _ => Cert.Kernel10.Gen.frame m g, fun m g _ => Cert.Kernel10Ideal.Gen.frame m g, frame_ref10,
    fun m g _ => Cert.Kernel11.Gen.frame m g, fun m g _ => Cert.Kernel11Ideal.Gen.frame m g, frame_ref11,
    fun m g _ => Cert.Kernel12.Gen.frame m g, fun m g _ => Cert.Kernel12Ideal.Gen.frame m g, frame_ref12,
    fun m g _ => Cert.Kernel13.Gen.frame m g, fun m g _ => Cert.Kernel13Ideal.Gen.frame m g, frame_ref13,
    fun m g _ => Cert.Kernel14.Gen.frame m g, fun m g _ => Cert.Kernel14Ideal.Gen.frame m g, frame_ref14,
    fun m g _ => Cert.Kernel15.Gen.frame m g, fun m g _ => Cert.Kernel15Ideal.Gen.frame m g, frame_ref15,
    fun m g _ => Cert.Kernel16.Gen.frame m g, fun m g _ => Cert.Kernel16Ideal.Gen.frame m g, frame_ref16,
    trivial, algebraic_mem, trivial, algebraic_fox, trivial, algebraic3, trivial, algebraic4, trivial, algebraic5, trivial, algebraic6,
    trivial, algebraic7, trivial, algebraic8, trivial, algebraic9, trivial, algebraic10, trivial, algebraic11, trivial, algebraic12,
    trivial, algebraic13, trivial, algebraic14, trivial, algebraic15, trivial, algebraic16⟩

end Cert.Proof

end
